-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1024x20 : Shape := ⟨2, ![1024, 20]⟩
abbrev S24x256 : Shape := ⟨2, ![24, 256]⟩
abbrev S20x256 : Shape := ⟨2, ![20, 256]⟩
abbrev S12x256 : Shape := ⟨2, ![12, 256]⟩
abbrev S12x256x256 : Shape := ⟨3, ![12, 256, 256]⟩
abbrev S12x256x1024 : Shape := ⟨3, ![12, 256, 1024]⟩
abbrev S12x1024 : Shape := ⟨2, ![12, 1024]⟩
abbrev S12x1024x256 : Shape := ⟨3, ![12, 1024, 256]⟩
abbrev S256 : Shape := ⟨1, ![256]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel
  bcast_S_S24x256 : S_.BroadcastsInDim S24x256 (![] : Fin 0 → Fin S24x256.rank)
  reducesTo_S24x256_S_d0_1 : S24x256.ReducesTo [0, 1] S_
  bcast_S_S20x256 : S_.BroadcastsInDim S20x256 (![] : Fin 0 → Fin S20x256.rank)
  reducesTo_S20x256_S_d0_1 : S20x256.ReducesTo [0, 1] S_
  bcast_S_S12x256 : S_.BroadcastsInDim S12x256 (![] : Fin 0 → Fin S12x256.rank)
  reducesTo_S12x256_S_d0_1 : S12x256.ReducesTo [0, 1] S_
  bcast_S_S12x256x256 : S_.BroadcastsInDim S12x256x256 (![] : Fin 0 → Fin S12x256x256.rank)
  reducesTo_S12x256x256_S_d0_1_2 : S12x256x256.ReducesTo [0, 1, 2] S_
  bcast_S_S12x256x1024 : S_.BroadcastsInDim S12x256x1024 (![] : Fin 0 → Fin S12x256x1024.rank)
  reducesTo_S12x256x1024_S_d0_1_2 : S12x256x1024.ReducesTo [0, 1, 2] S_
  bcast_S_S12x1024 : S_.BroadcastsInDim S12x1024 (![] : Fin 0 → Fin S12x1024.rank)
  reducesTo_S12x1024_S_d0_1 : S12x1024.ReducesTo [0, 1] S_
  bcast_S_S12x1024x256 : S_.BroadcastsInDim S12x1024x256 (![] : Fin 0 → Fin S12x1024x256.rank)
  reducesTo_S12x1024x256_S_d0_1_2 : S12x1024x256.ReducesTo [0, 1, 2] S_
  bcast_S_S256 : S_.BroadcastsInDim S256 (![] : Fin 0 → Fin S256.rank)
  reducesTo_S256_S_d0 : S256.ReducesTo [0] S_

variable [Facts]

def fn_part5 {F : FTy → Type} [FloatOps F] (main_v81 : IVec S_ 1) (main_v84 : IVec S256 1) : IVec S_ 1 :=
  let main_c_33 : IVec S_ 1 := constantI S_ 1 1#1
  let main_v85 : IVec S_ 1 := (fun x v => Host.reduce IntOp.andi x v reducesTo_S256_S_d0 h_S_) main_v84 main_c_33
  let main_v86 : IVec S_ 1 := andi main_v81 main_v85
  main_v86

def fn_part4 {F : FTy → Type} [FloatOps F] (main_arg14 : FVec F S12x256 .f32) (main_arg15 : FVec F S256 .f32) (main_arg16 : FVec F S256 .f32) (main_v66 : IVec S_ 1) (main_v67 : FVec F S12x1024x256 .f32) : IVec S_ 1 :=
  let main_cst_26 : FVec F S_ .f32 := constant S_ .f32 0x7F800000#32
  let main_v68 : FVec F S12x1024x256 .f32 := broadcastInDim S12x1024x256 ![] bcast_S_S12x1024x256 main_cst_26
  let main_v69 : IVec S12x1024x256 1 := cmpf .olt main_v67 main_v68
  let main_c_27 : IVec S_ 1 := constantI S_ 1 1#1
  let main_v70 : IVec S_ 1 := (fun x v => Host.reduce IntOp.andi x v reducesTo_S12x1024x256_S_d0_1_2 h_S_) main_v69 main_c_27
  let main_v71 : IVec S_ 1 := andi main_v66 main_v70
  let main_v72 : FVec F S12x256 .f32 := Host.absf main_arg14
  let main_cst_28 : FVec F S_ .f32 := constant S_ .f32 0x7F800000#32
  let main_v73 : FVec F S12x256 .f32 := broadcastInDim S12x256 ![] bcast_S_S12x256 main_cst_28
  let main_v74 : IVec S12x256 1 := cmpf .olt main_v72 main_v73
  let main_c_29 : IVec S_ 1 := constantI S_ 1 1#1
  let main_v75 : IVec S_ 1 := (fun x v => Host.reduce IntOp.andi x v reducesTo_S12x256_S_d0_1 h_S_) main_v74 main_c_29
  let main_v76 : IVec S_ 1 := andi main_v71 main_v75
  let main_v77 : FVec F S256 .f32 := Host.absf main_arg15
  let main_cst_30 : FVec F S_ .f32 := constant S_ .f32 0x7F800000#32
  let main_v78 : FVec F S256 .f32 := broadcastInDim S256 ![] bcast_S_S256 main_cst_30
  let main_v79 : IVec S256 1 := cmpf .olt main_v77 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v76 main_v80
  let main_v82 : FVec F S256 .f32 := Host.absf main_arg16
  let main_cst_32 : FVec F S_ .f32 := constant S_ .f32 0x7F800000#32
  let main_v83 : FVec F S256 .f32 := broadcastInDim S256 ![] bcast_S_S256 main_cst_32
  let main_v84 : IVec S256 1 := cmpf .olt main_v82 main_v83
  fn_part5 (F := F) main_v81 main_v84

def fn_part3 {F : FTy → Type} [FloatOps F] (main_arg10 : FVec F S12x256 .f32) (main_arg11 : FVec F S12x256x1024 .f32) (main_arg12 : FVec F S12x1024 .f32) (main_arg13 : FVec F S12x1024x256 .f32) (main_arg14 : FVec F S12x256 .f32) (main_arg15 : FVec F S256 .f32) (main_arg16 : FVec F S256 .f32) (main_v46 : IVec S_ 1) (main_v49 : IVec S12x256 1) (main_c_19 : IVec S_ 1) : IVec S_ 1 :=
  let main_v50 : IVec S_ 1 := (fun x v => Host.reduce IntOp.andi x v reducesTo_S12x256_S_d0_1 h_S_) main_v49 main_c_19
  let main_v51 : IVec S_ 1 := andi main_v46 main_v50
  let main_v52 : FVec F S12x256 .f32 := Host.absf main_arg10
  let main_cst_20 : FVec F S_ .f32 := constant S_ .f32 0x7F800000#32
  let main_v53 : FVec F S12x256 .f32 := broadcastInDim S12x256 ![] bcast_S_S12x256 main_cst_20
  let main_v54 : IVec S12x256 1 := cmpf .olt main_v52 main_v53
  let main_c_21 : IVec S_ 1 := constantI S_ 1 1#1
  let main_v55 : IVec S_ 1 := (fun x v => Host.reduce IntOp.andi x v reducesTo_S12x256_S_d0_1 h_S_) main_v54 main_c_21
  let main_v56 : IVec S_ 1 := andi main_v51 main_v55
  let main_v57 : FVec F S12x256x1024 .f32 := Host.absf main_arg11
  let main_cst_22 : FVec F S_ .f32 := constant S_ .f32 0x7F800000#32
  let main_v58 : FVec F S12x256x1024 .f32 := broadcastInDim S12x256x1024 ![] bcast_S_S12x256x1024 main_cst_22
  let main_v59 : IVec S12x256x1024 1 := cmpf .olt main_v57 main_v58
  let main_c_23 : IVec S_ 1 := constantI S_ 1 1#1
  let main_v60 : IVec S_ 1 := (fun x v => Host.reduce IntOp.andi x v reducesTo_S12x256x1024_S_d0_1_2 h_S_) main_v59 main_c_23
  let main_v61 : IVec S_ 1 := andi main_v56 main_v60
  let main_v62 : FVec F S12x1024 .f32 := Host.absf main_arg12
  let main_cst_24 : FVec F S_ .f32 := constant S_ .f32 0x7F800000#32
  let main_v63 : FVec F S12x1024 .f32 := broadcastInDim S12x1024 ![] bcast_S_S12x1024 main_cst_24
  let main_v64 : IVec S12x1024 1 := cmpf .olt main_v62 main_v63
  let main_c_25 : IVec S_ 1 := constantI S_ 1 1#1
  let main_v65 : IVec S_ 1 := (fun x v => Host.reduce IntOp.andi x v reducesTo_S12x1024_S_d0_1 h_S_) main_v64 main_c_25
  let main_v66 : IVec S_ 1 := andi main_v61 main_v65
  let main_v67 : FVec F S12x1024x256 .f32 := Host.absf main_arg13
  fn_part4 (F := F) main_arg14 main_arg15 main_arg16 main_v66 main_v67

def fn_part2 {F : FTy → Type} [FloatOps F] (main_arg7 : FVec F S12x256x256 .f32) (main_arg8 : FVec F S12x256x256 .f32) (main_arg9 : FVec F S12x256 .f32) (main_arg10 : FVec F S12x256 .f32) (main_arg11 : FVec F S12x256x1024 .f32) (main_arg12 : FVec F S12x1024 .f32) (main_arg13 : FVec F S12x1024x256 .f32) (main_arg14 : FVec F S12x256 .f32) (main_arg15 : FVec F S256 .f32) (main_arg16 : FVec F S256 .f32) (main_v31 : IVec S_ 1) (main_v32 : FVec F S12x256x256 .f32) (main_cst_12 : FVec F S_ .f32) : IVec S_ 1 :=
  let main_v33 : FVec F S12x256x256 .f32 := broadcastInDim S12x256x256 ![] bcast_S_S12x256x256 main_cst_12
  let main_v34 : IVec S12x256x256 1 := cmpf .olt main_v32 main_v33
  let main_c_13 : IVec S_ 1 := constantI S_ 1 1#1
  let main_v35 : IVec S_ 1 := (fun x v => Host.reduce IntOp.andi x v reducesTo_S12x256x256_S_d0_1_2 h_S_) main_v34 main_c_13
  let main_v36 : IVec S_ 1 := andi main_v31 main_v35
  let main_v37 : FVec F S12x256x256 .f32 := Host.absf main_arg7
  let main_cst_14 : FVec F S_ .f32 := constant S_ .f32 0x7F800000#32
  let main_v38 : FVec F S12x256x256 .f32 := broadcastInDim S12x256x256 ![] bcast_S_S12x256x256 main_cst_14
  let main_v39 : IVec S12x256x256 1 := cmpf .olt main_v37 main_v38
  let main_c_15 : IVec S_ 1 := constantI S_ 1 1#1
  let main_v40 : IVec S_ 1 := (fun x v => Host.reduce IntOp.andi x v reducesTo_S12x256x256_S_d0_1_2 h_S_) main_v39 main_c_15
  let main_v41 : IVec S_ 1 := andi main_v36 main_v40
  let main_v42 : FVec F S12x256x256 .f32 := Host.absf main_arg8
  let main_cst_16 : FVec F S_ .f32 := constant S_ .f32 0x7F800000#32
  let main_v43 : FVec F S12x256x256 .f32 := broadcastInDim S12x256x256 ![] bcast_S_S12x256x256 main_cst_16
  let main_v44 : IVec S12x256x256 1 := cmpf .olt main_v42 main_v43
  let main_c_17 : IVec S_ 1 := constantI S_ 1 1#1
  let main_v45 : IVec S_ 1 := (fun x v => Host.reduce IntOp.andi x v reducesTo_S12x256x256_S_d0_1_2 h_S_) main_v44 main_c_17
  let main_v46 : IVec S_ 1 := andi main_v41 main_v45
  let main_v47 : FVec F S12x256 .f32 := Host.absf main_arg9
  let main_cst_18 : FVec F S_ .f32 := constant S_ .f32 0x7F800000#32
  let main_v48 : FVec F S12x256 .f32 := broadcastInDim S12x256 ![] bcast_S_S12x256 main_cst_18
  let main_v49 : IVec S12x256 1 := cmpf .olt main_v47 main_v48
  let main_c_19 : IVec S_ 1 := constantI S_ 1 1#1
  fn_part3 (F := F) main_arg10 main_arg11 main_arg12 main_arg13 main_arg14 main_arg15 main_arg16 main_v46 main_v49 main_c_19

def fn_part1 {F : FTy → Type} [FloatOps F] (main_arg3 : FVec F S12x256 .f32) (main_arg4 : FVec F S12x256 .f32) (main_arg5 : FVec F S12x256x256 .f32) (main_arg6 : FVec F S12x256x256 .f32) (main_arg7 : FVec F S12x256x256 .f32) (main_arg8 : FVec F S12x256x256 .f32) (main_arg9 : FVec F S12x256 .f32) (main_arg10 : FVec F S12x256 .f32) (main_arg11 : FVec F S12x256x1024 .f32) (main_arg12 : FVec F S12x1024 .f32) (main_arg13 : FVec F S12x1024x256 .f32) (main_arg14 : FVec F S12x256 .f32) (main_arg15 : FVec F S256 .f32) (main_arg16 : FVec F S256 .f32) (main_v11 : IVec S_ 1) (main_v15 : IVec S_ 1) : IVec S_ 1 :=
  let main_v16 : IVec S_ 1 := andi main_v11 main_v15
  let main_v17 : FVec F S12x256 .f32 := Host.absf main_arg3
  let main_cst_6 : FVec F S_ .f32 := constant S_ .f32 0x7F800000#32
  let main_v18 : FVec F S12x256 .f32 := broadcastInDim S12x256 ![] bcast_S_S12x256 main_cst_6
  let main_v19 : IVec S12x256 1 := cmpf .olt main_v17 main_v18
  let main_c_7 : IVec S_ 1 := constantI S_ 1 1#1
  let main_v20 : IVec S_ 1 := (fun x v => Host.reduce IntOp.andi x v reducesTo_S12x256_S_d0_1 h_S_) main_v19 main_c_7
  let main_v21 : IVec S_ 1 := andi main_v16 main_v20
  let main_v22 : FVec F S12x256 .f32 := Host.absf main_arg4
  let main_cst_8 : FVec F S_ .f32 := constant S_ .f32 0x7F800000#32
  let main_v23 : FVec F S12x256 .f32 := broadcastInDim S12x256 ![] bcast_S_S12x256 main_cst_8
  let main_v24 : IVec S12x256 1 := cmpf .olt main_v22 main_v23
  let main_c_9 : IVec S_ 1 := constantI S_ 1 1#1
  let main_v25 : IVec S_ 1 := (fun x v => Host.reduce IntOp.andi x v reducesTo_S12x256_S_d0_1 h_S_) main_v24 main_c_9
  let main_v26 : IVec S_ 1 := andi main_v21 main_v25
  let main_v27 : FVec F S12x256x256 .f32 := Host.absf main_arg5
  let main_cst_10 : FVec F S_ .f32 := constant S_ .f32 0x7F800000#32
  let main_v28 : FVec F S12x256x256 .f32 := broadcastInDim S12x256x256 ![] bcast_S_S12x256x256 main_cst_10
  let main_v29 : IVec S12x256x256 1 := cmpf .olt main_v27 main_v28
  let main_c_11 : IVec S_ 1 := constantI S_ 1 1#1
  let main_v30 : IVec S_ 1 := (fun x v => Host.reduce IntOp.andi x v reducesTo_S12x256x256_S_d0_1_2 h_S_) main_v29 main_c_11
  let main_v31 : IVec S_ 1 := andi main_v26 main_v30
  let main_v32 : FVec F S12x256x256 .f32 := Host.absf main_arg6
  let main_cst_12 : FVec F S_ .f32 := constant S_ .f32 0x7F800000#32
  fn_part2 (F := F) main_arg7 main_arg8 main_arg9 main_arg10 main_arg11 main_arg12 main_arg13 main_arg14 main_arg15 main_arg16 main_v31 main_v32 main_cst_12

def fn {F : FTy → Type} [FloatOps F] (main_arg0 : IVec S1024x20 32) (main_arg1 : FVec F S24x256 .f32) (main_arg2 : FVec F S20x256 .f32) (main_arg3 : FVec F S12x256 .f32) (main_arg4 : FVec F S12x256 .f32) (main_arg5 : FVec F S12x256x256 .f32) (main_arg6 : FVec F S12x256x256 .f32) (main_arg7 : FVec F S12x256x256 .f32) (main_arg8 : FVec F S12x256x256 .f32) (main_arg9 : FVec F S12x256 .f32) (main_arg10 : FVec F S12x256 .f32) (main_arg11 : FVec F S12x256x1024 .f32) (main_arg12 : FVec F S12x1024 .f32) (main_arg13 : FVec F S12x1024x256 .f32) (main_arg14 : FVec F S12x256 .f32) (main_arg15 : FVec F S256 .f32) (main_arg16 : FVec F S256 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 1 := constantI S_ 1 1#1
  let main_v2 : IVec S_ 1 := (fun x v => Host.reduce IntOp.andi x v reducesTo_S1024x20_S_d0_1 h_S_) main_v1 main_c_0
  let main_c_1 : IVec S_ 32 := constantI S_ 32 24#32
  let main_v3 : IVec S1024x20 32 := broadcastInDim S1024x20 ![] bcast_S_S1024x20 main_c_1
  let main_v4 : IVec S1024x20 1 := cmpi .slt main_arg0 main_v3
  let main_c_2 : IVec S_ 1 := constantI S_ 1 1#1
  let main_v5 : IVec S_ 1 := (fun x v => Host.reduce IntOp.andi x v reducesTo_S1024x20_S_d0_1 h_S_) main_v4 main_c_2
  let main_v6 : IVec S_ 1 := andi main_v2 main_v5
  let main_v7 : FVec F S24x256 .f32 := Host.absf main_arg1
  let main_cst : FVec F S_ .f32 := constant S_ .f32 0x7F800000#32
  let main_v8 : FVec F S24x256 .f32 := broadcastInDim S24x256 ![] bcast_S_S24x256 main_cst
  let main_v9 : IVec S24x256 1 := cmpf .olt main_v7 main_v8
  let main_c_3 : IVec S_ 1 := constantI S_ 1 1#1
  let main_v10 : IVec S_ 1 := (fun x v => Host.reduce IntOp.andi x v reducesTo_S24x256_S_d0_1 h_S_) main_v9 main_c_3
  let main_v11 : IVec S_ 1 := andi main_v6 main_v10
  let main_v12 : FVec F S20x256 .f32 := Host.absf main_arg2
  let main_cst_4 : FVec F S_ .f32 := constant S_ .f32 0x7F800000#32
  let main_v13 : FVec F S20x256 .f32 := broadcastInDim S20x256 ![] bcast_S_S20x256 main_cst_4
  let main_v14 : IVec S20x256 1 := cmpf .olt main_v12 main_v13
  let main_c_5 : IVec S_ 1 := constantI S_ 1 1#1
  let main_v15 : IVec S_ 1 := (fun x v => Host.reduce IntOp.andi x v reducesTo_S20x256_S_d0_1 h_S_) main_v14 main_c_5
  fn_part1 (F := F) main_arg3 main_arg4 main_arg5 main_arg6 main_arg7 main_arg8 main_arg9 main_arg10 main_arg11 main_arg12 main_arg13 main_arg14 main_arg15 main_arg16 main_v11 main_v15
-- ==== Kernel.lean ====
abbrev S1024x20 : Shape := ⟨2, ![1024, 20]⟩
abbrev S24x256 : Shape := ⟨2, ![24, 256]⟩
abbrev S20x256 : Shape := ⟨2, ![20, 256]⟩
abbrev S12x256 : Shape := ⟨2, ![12, 256]⟩
abbrev S12x256x256 : Shape := ⟨3, ![12, 256, 256]⟩
abbrev S12x256x1024 : Shape := ⟨3, ![12, 256, 1024]⟩
abbrev S12x1024 : Shape := ⟨2, ![12, 1024]⟩
abbrev S12x1024x256 : Shape := ⟨3, ![12, 1024, 256]⟩
abbrev S256 : Shape := ⟨1, ![256]⟩
abbrev S20480x1 : Shape := ⟨2, ![20480, 1]⟩
abbrev S_ : Shape := ⟨0, ![]⟩
abbrev S512x1x40 : Shape := ⟨3, ![512, 1, 40]⟩
abbrev S1x512x1x1x1x40 : Shape := ⟨6, ![1, 512, 1, 1, 1, 40]⟩
abbrev S1x512x1x1x4x40 : Shape := ⟨6, ![1, 512, 1, 1, 4, 40]⟩
abbrev S512x1x160 : Shape := ⟨3, ![512, 1, 160]⟩
abbrev S1024 : Shape := ⟨1, ![1024]⟩
abbrev S1024x1 : Shape := ⟨2, ![1024, 1]⟩
abbrev S44x256 : Shape := ⟨2, ![44, 256]⟩
abbrev S1x256 : Shape := ⟨2, ![1, 256]⟩
abbrev S12x1x256 : Shape := ⟨3, ![12, 1, 256]⟩
abbrev S12x1x1024 : Shape := ⟨3, ![12, 1, 1024]⟩
abbrev S1024x256 : Shape := ⟨2, ![1024, 256]⟩
abbrev S2560x1 : Shape := ⟨2, ![2560, 1]⟩
abbrev S64x1x160 : Shape := ⟨3, ![64, 1, 160]⟩
abbrev S1x1x256 : Shape := ⟨3, ![1, 1, 256]⟩
abbrev S1x256x256 : Shape := ⟨3, ![1, 256, 256]⟩
abbrev S1x256x1024 : Shape := ⟨3, ![1, 256, 1024]⟩
abbrev S1x1x1024 : Shape := ⟨3, ![1, 1, 1024]⟩
abbrev S1x1024x256 : Shape := ⟨3, ![1, 1024, 256]⟩
abbrev S128x256 : Shape := ⟨2, ![128, 256]⟩
abbrev S20480x256 : Shape := ⟨2, ![20480, 256]⟩
abbrev S2560x256 : Shape := ⟨2, ![2560, 256]⟩
abbrev S2560x1024 : Shape := ⟨2, ![2560, 1024]⟩
abbrev S160x256 : Shape := ⟨2, ![160, 256]⟩
abbrev S2560x44 : Shape := ⟨2, ![2560, 44]⟩
abbrev S2560 : Shape := ⟨1, ![2560]⟩
abbrev S256x256 : Shape := ⟨2, ![256, 256]⟩
abbrev S40x160 : Shape := ⟨2, ![40, 160]⟩
abbrev S160x128 : Shape := ⟨2, ![160, 128]⟩
abbrev S40x1 : Shape := ⟨2, ![40, 1]⟩
abbrev S40x32 : Shape := ⟨2, ![40, 32]⟩
abbrev S1x1x160 : Shape := ⟨3, ![1, 1, 160]⟩
abbrev S1x160 : Shape := ⟨2, ![1, 160]⟩
abbrev S40x128 : Shape := ⟨2, ![40, 128]⟩
abbrev S256x1024 : Shape := ⟨2, ![256, 1024]⟩
abbrev S1x1024 : Shape := ⟨2, ![1, 1024]⟩
abbrev S128x2560 : Shape := ⟨2, ![128, 2560]⟩
abbrev S128 : Shape := ⟨1, ![128]⟩
abbrev S128x1 : Shape := ⟨2, ![128, 1]⟩

abbrev nBuf : Space → Nat
  | .hbm => 57
  | .vmem => 43
  | .smem => 0
  | _ => 0

abbrev bufTy : (tb : Table) → Fin (tcTables nBuf tb) → BufTy
  | .hbm, ⟨0, _⟩ => ⟨S1024x20, .i32⟩
  | .hbm, ⟨1, _⟩ => ⟨S24x256, .f32⟩
  | .hbm, ⟨2, _⟩ => ⟨S20x256, .f32⟩
  | .hbm, ⟨3, _⟩ => ⟨S12x256, .f32⟩
  | .hbm, ⟨4, _⟩ => ⟨S12x256, .f32⟩
  | .hbm, ⟨5, _⟩ => ⟨S12x256x256, .f32⟩
  | .hbm, ⟨6, _⟩ => ⟨S12x256x256, .f32⟩
  | .hbm, ⟨7, _⟩ => ⟨S12x256x256, .f32⟩
  | .hbm, ⟨8, _⟩ => ⟨S12x256x256, .f32⟩
  | .hbm, ⟨9, _⟩ => ⟨S12x256, .f32⟩
  | .hbm, ⟨10, _⟩ => ⟨S12x256, .f32⟩
  | .hbm, ⟨11, _⟩ => ⟨S12x256x1024, .f32⟩
  | .hbm, ⟨12, _⟩ => ⟨S12x1024, .f32⟩
  | .hbm, ⟨13, _⟩ => ⟨S12x1024x256, .f32⟩
  | .hbm, ⟨14, _⟩ => ⟨S12x256, .f32⟩
  | .hbm, ⟨15, _⟩ => ⟨S256, .f32⟩
  | .hbm, ⟨16, _⟩ => ⟨S256, .f32⟩
  | .hbm, ⟨17, _⟩ => ⟨S20480x1, .i32⟩
  | .hbm, ⟨18, _⟩ => ⟨S_, .i32⟩
  | .hbm, ⟨19, _⟩ => ⟨S1024x20, .i32⟩
  | .hbm, ⟨20, _⟩ => ⟨S1024x20, .i1⟩
  | .hbm, ⟨21, _⟩ => ⟨S512x1x40, .i1⟩
  | .hbm, ⟨22, _⟩ => ⟨S1x512x1x1x1x40, .i1⟩
  | .hbm, ⟨23, _⟩ => ⟨S1x512x1x1x4x40, .i1⟩
  | .hbm, ⟨24, _⟩ => ⟨S512x1x160, .i1⟩
  | .hbm, ⟨25, _⟩ => ⟨S_, .f32⟩
  | .hbm, ⟨26, _⟩ => ⟨S_, .f32⟩
  | .hbm, ⟨27, _⟩ => ⟨S512x1x160, .f32⟩
  | .hbm, ⟨28, _⟩ => ⟨S512x1x160, .f32⟩
  | .hbm, ⟨29, _⟩ => ⟨S512x1x160, .f32⟩
  | .hbm, ⟨30, _⟩ => ⟨S512x1x160, .f32⟩
  | .hbm, ⟨31, _⟩ => ⟨S_, .i32⟩
  | .hbm, ⟨32, _⟩ => ⟨S1024x20, .i32⟩
  | .hbm, ⟨33, _⟩ => ⟨S1024x20, .i1⟩
  | .hbm, ⟨34, _⟩ => ⟨S1024x20, .i32⟩
  | .hbm, ⟨35, _⟩ => ⟨S_, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i1⟩
  | .hbm, ⟨40, _⟩ => ⟨S1024x1, .i1⟩
  | .hbm, ⟨41, _⟩ => ⟨S1024x20, .i1⟩
  | .hbm, ⟨42, _⟩ => ⟨S1024x20, .f32⟩
  | .hbm, ⟨43, _⟩ => ⟨S20480x1, .f32⟩
  | .hbm, ⟨44, _⟩ => ⟨S_, .f32⟩
  | .hbm, ⟨45, _⟩ => ⟨S12x256x256, .f32⟩
  | .hbm, ⟨46, _⟩ => ⟨S12x256x256, .f32⟩
  | .hbm, ⟨47, _⟩ => ⟨S44x256, .f32⟩
  | .hbm, ⟨48, _⟩ => ⟨S1x256, .f32⟩
  | .hbm, ⟨49, _⟩ => ⟨S1x256, .f32⟩
  | .hbm, ⟨50, _⟩ => ⟨S12x1x256, .f32⟩
  | .hbm, ⟨51, _⟩ => ⟨S12x1x256, .f32⟩
  | .hbm, ⟨52, _⟩ => ⟨S12x1x256, .f32⟩
  | .hbm, ⟨53, _⟩ => ⟨S12x1x256, .f32⟩
  | .hbm, ⟨54, _⟩ => ⟨S12x1x1024, .f32⟩
  | .hbm, ⟨55, _⟩ => ⟨S12x1x256, .f32⟩
  | .hbm, ⟨56, _⟩ => ⟨S1024x256, .f32⟩
  | .local _ .vmem, ⟨0, _⟩ => ⟨S2560x1, .i32⟩
  | .local _ .vmem, ⟨1, _⟩ => ⟨S2560x1, .i32⟩
  | .local _ .vmem, ⟨2, _⟩ => ⟨S64x1x160, .f32⟩
  | .local _ .vmem, ⟨3, _⟩ => ⟨S64x1x160, .f32⟩
  | .local _ .vmem, ⟨4, _⟩ => ⟨S2560x1, .f32⟩
  | .local _ .vmem, ⟨5, _⟩ => ⟨S2560x1, .f32⟩
  | .local _ .vmem, ⟨6, _⟩ => ⟨S44x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x256x256, .f32⟩
  | .local _ .vmem, ⟨19, _⟩ => ⟨S1x1x256, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x256x1024, .f32⟩
  | .local _ .vmem, ⟨24, _⟩ => ⟨S1x256x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1024x256, .f32⟩
  | .local _ .vmem, ⟨28, _⟩ => ⟨S1x1024x256, .f32⟩
  | .local _ .vmem, ⟨29, _⟩ => ⟨S1x1x256, .f32⟩
  | .local _ .vmem, ⟨30, _⟩ => ⟨S1x1x256, .f32⟩
  | .local _ .vmem, ⟨31, _⟩ => ⟨S1x256, .f32⟩
  | .local _ .vmem, ⟨32, _⟩ => ⟨S1x256, .f32⟩
  | .local _ .vmem, ⟨33, _⟩ => ⟨S128x256, .f32⟩
  | .local _ .vmem, ⟨34, _⟩ => ⟨S128x256, .f32⟩
  | .local _ .vmem, ⟨35, _⟩ => ⟨S20480x256, .f32⟩
  | .local _ .vmem, ⟨36, _⟩ => ⟨S2560x256, .f32⟩
  | .local _ .vmem, ⟨37, _⟩ => ⟨S2560x256, .f32⟩
  | .local _ .vmem, ⟨38, _⟩ => ⟨S2560x256, .f32⟩
  | .local _ .vmem, ⟨39, _⟩ => ⟨S2560x256, .f32⟩
  | .local _ .vmem, ⟨40, _⟩ => ⟨S2560x1024, .f32⟩
  | .local _ .vmem, ⟨41, _⟩ => ⟨S160x256, .f32⟩
  | .local _ .vmem, ⟨42, _⟩ => ⟨S160x256, .f32⟩
  | _, _ => ⟨S1024x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v7 : Ref sig .tc := ⟨.hbm, 29, rfl⟩
abbrev main_v8 : Ref sig .tc := ⟨.hbm, 30, rfl⟩
abbrev main_c_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_scratch7 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33
abbrev cc0_sem18_1 : DmaSem sig := 34

abbrev nD : Nat := 1
abbrev τ : Topo := Topo.v7x

variable {F : FTy → Type} [FloatOps F]

abbrev grid0 : Pipeline.Grid := ⟨2, ![12, 8], ![false, false]⟩

def k0_mult1 (i : grid0.Coords) : BitVec 32 :=
  let arg1 : BitVec 32 := BitVec.ofNat 32 (i 1).val
  let c2560_i32 : BitVec 32 := 2560#32
  let v0 : BitVec 32 := Scalar.muli arg1 c2560_i32
  v0
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c2560_i32 : BitVec 32 := 2560#32
  let v0 : BitVec 32 := Scalar.muli arg1 c2560_i32
  let v1 : BitVec 32 := v0
  let v6808 : Index := Scalar.indexCast v1
  let c0_5875 : Index := 0#32
  ![v6808.toNat, 0]
def k0_off2 (i : grid0.Coords) : Fin 2 → Nat :=
  let arg1 : BitVec 32 := BitVec.ofNat 32 (i 1).val
  let c2560_i32 : BitVec 32 := 2560#32
  let v0 : BitVec 32 := Scalar.muli arg1 c2560_i32
  let v1 : BitVec 32 := v0
  let v10 : Index := Scalar.indexCast v1
  let c0 : Index := 0#32
  ![v10.toNat, 0]
def k0_cond3 (i : grid0.Coords) : BitVec 1 :=
  let arg0 : BitVec 32 := BitVec.ofNat 32 (i 0).val
  let c11_i32 : BitVec 32 := 11#32
  let v6774 : BitVec 1 := Scalar.cmpi .eq arg0 c11_i32
  let v6775 : BitVec 32 := Scalar.extui v6774
  let c0_i32_5863 : BitVec 32 := 0#32
  let v6776 : BitVec 1 := Scalar.cmpi .ne v6775 c0_i32_5863
  v6776

def k0_off3 (i : grid0.Coords) : Fin 2 → Nat :=
  let arg1 : BitVec 32 := BitVec.ofNat 32 (i 1).val
  let c2560_i32 : BitVec 32 := 2560#32
  let v0 : BitVec 32 := Scalar.muli arg1 c2560_i32
  let v1 : BitVec 32 := v0
  let v6777 : Index := Scalar.indexCast v1
  let c0_5864 : Index := 0#32
  ![v6777.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S2560x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x1x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S44x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]
-- ==== KernelIdeal.lean ====
variable {F : FTy → Type} [FloatOps F] [Named F]
def κ : String → Option EReal := fun
  | "mask" => some ⊥
  | _ => none
-- ==== ReferenceIdeal.lean ====
abbrev S1024x20 : Shape := ⟨2, ![1024, 20]⟩
abbrev S24x256 : Shape := ⟨2, ![24, 256]⟩
abbrev S20x256 : Shape := ⟨2, ![20, 256]⟩
abbrev S12x256 : Shape := ⟨2, ![12, 256]⟩
abbrev S12x256x256 : Shape := ⟨3, ![12, 256, 256]⟩
abbrev S12x256x1024 : Shape := ⟨3, ![12, 256, 1024]⟩
abbrev S12x1024 : Shape := ⟨2, ![12, 1024]⟩
abbrev S12x1024x256 : Shape := ⟨3, ![12, 1024, 256]⟩
abbrev S256 : Shape := ⟨1, ![256]⟩
abbrev S_ : Shape := ⟨0, ![]⟩
abbrev S1024 : Shape := ⟨1, ![1024]⟩
abbrev S1024x20x1 : Shape := ⟨3, ![1024, 20, 1]⟩
abbrev S1 : Shape := ⟨1, ![1]⟩
abbrev S1x1x1 : Shape := ⟨3, ![1, 1, 1]⟩
abbrev S1024x20x256 : Shape := ⟨3, ![1024, 20, 256]⟩
abbrev S1x20x256 : Shape := ⟨3, ![1, 20, 256]⟩
abbrev S1x256 : Shape := ⟨2, ![1, 256]⟩
abbrev S1x1x256 : Shape := ⟨3, ![1, 1, 256]⟩
abbrev S1x256x256 : Shape := ⟨3, ![1, 256, 256]⟩
abbrev S256x256 : Shape := ⟨2, ![256, 256]⟩
abbrev S1024x20x8x32 : Shape := ⟨4, ![1024, 20, 8, 32]⟩
abbrev S1024x8x20x32 : Shape := ⟨4, ![1024, 8, 20, 32]⟩
abbrev S1024x8x20x20 : Shape := ⟨4, ![1024, 8, 20, 20]⟩
abbrev S1024x1x1x20 : Shape := ⟨4, ![1024, 1, 1, 20]⟩
abbrev S1024x1x1x1 : Shape := ⟨4, ![1024, 1, 1, 1]⟩
abbrev S1024x8x20 : Shape := ⟨3, ![1024, 8, 20]⟩
abbrev S1024x8x20x1 : Shape := ⟨4, ![1024, 8, 20, 1]⟩
abbrev S1x256x1024 : Shape := ⟨3, ![1, 256, 1024]⟩
abbrev S256x1024 : Shape := ⟨2, ![256, 1024]⟩
abbrev S1024x20x1024 : Shape := ⟨3, ![1024, 20, 1024]⟩
abbrev S1x1024 : Shape := ⟨2, ![1, 1024]⟩
abbrev S1x1x1024 : Shape := ⟨3, ![1, 1, 1024]⟩
abbrev S1x1024x256 : Shape := ⟨3, ![1, 1024, 256]⟩
abbrev S1024x256 : Shape := ⟨2, ![1024, 256]⟩
abbrev S1024x1x256 : Shape := ⟨3, ![1024, 1, 256]⟩

abbrev nBuf : Space → Nat
  | .hbm => 472
  | .vmem => 0
  | .smem => 0
  | _ => 0

abbrev hbmTy0_0 (i : Nat) : BufTy := match i % 128 with
  | 0 => ⟨S1024x20, .i32⟩
  | 1 => ⟨S24x256, .f32⟩
  | 2 => ⟨S20x256, .f32⟩
  | 3 => ⟨S12x256, .f32⟩
  | 4 => ⟨S12x256, .f32⟩
  | 5 => ⟨S12x256x256, .f32⟩
  | 6 => ⟨S12x256x256, .f32⟩
  | 7 => ⟨S12x256x256, .f32⟩
  | 8 => ⟨S12x256x256, .f32⟩
  | 9 => ⟨S12x256, .f32⟩
  | 10 => ⟨S12x256, .f32⟩
  | 11 => ⟨S12x256x1024, .f32⟩
  | 12 => ⟨S12x1024, .f32⟩
  | 13 => ⟨S12x1024x256, .f32⟩
  | 14 => ⟨S12x256, .f32⟩
  | 15 => ⟨S256, .f32⟩
  | 16 => ⟨S256, .f32⟩
  | 17 => ⟨S_, .i32⟩
  | 18 => ⟨S1024x20, .i32⟩
  | 19 => ⟨S1024x20, .i1⟩
  | 20 => ⟨S_, .i1⟩
  | 21 => ⟨S1024, .i1⟩
  | 22 => ⟨S_, .i32⟩
  | 23 => ⟨S1024x20, .i32⟩
  | 24 => ⟨S1024x20, .i1⟩
  | 25 => ⟨S_, .i32⟩
  | 26 => ⟨S1024x20, .i32⟩
  | 27 => ⟨S1024x20, .i32⟩
  | 28 => ⟨S1024x20, .i32⟩
  | 29 => ⟨S1024x20x1, .i32⟩
  | 30 => ⟨S1, .i32⟩
  | 31 => ⟨S_, .i32⟩
  | 32 => ⟨S1024x20x1, .i32⟩
  | 33 => ⟨S1024x20x1, .i1⟩
  | 34 => ⟨S1x1x1, .i32⟩
  | 35 => ⟨S1024x20x1, .i32⟩
  | 36 => ⟨S1024x20x1, .i1⟩
  | 37 => ⟨S1024x20x1, .i1⟩
  | 38 => ⟨S_, .i1⟩
  | 39 => ⟨S1024x20, .i1⟩
  | 40 => ⟨S1024x20x256, .f32⟩
  | 41 => ⟨S1024x20x256, .i1⟩
  | 42 => ⟨S_, .f32⟩
  | 43 => ⟨S1024x20x256, .f32⟩
  | 44 => ⟨S1024x20x256, .f32⟩
  | 45 => ⟨S1x20x256, .f32⟩
  | 46 => ⟨S1024x20x256, .f32⟩
  | 47 => ⟨S1024x20x256, .f32⟩
  | 48 => ⟨S_, .i32⟩
  | 49 => ⟨S_, .i32⟩
  | 50 => ⟨S12x256, .f32⟩
  | 51 => ⟨S12x256, .f32⟩
  | 52 => ⟨S12x256x256, .f32⟩
  | 53 => ⟨S12x256x256, .f32⟩
  | 54 => ⟨S12x256x256, .f32⟩
  | 55 => ⟨S1024x20, .i1⟩
  | 56 => ⟨S1024, .i1⟩
  | 57 => ⟨S12x256x256, .f32⟩
  | 58 => ⟨S12x256, .f32⟩
  | 59 => ⟨S12x256, .f32⟩
  | 60 => ⟨S12x256x1024, .f32⟩
  | 61 => ⟨S12x1024, .f32⟩
  | 62 => ⟨S12x1024x256, .f32⟩
  | 63 => ⟨S12x256, .f32⟩
  | 64 => ⟨S_, .i32⟩
  | 65 => ⟨S_, .i32⟩
  | 66 => ⟨S1024x20x256, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x256, .f32⟩
  | 86 => ⟨S256, .f32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x256, .f32⟩
  | 102 => ⟨S256, .f32⟩
  | 103 => ⟨S_, .f32⟩
  | 104 => ⟨S1024x20, .f32⟩
  | 105 => ⟨S1024x20x1, .f32⟩
  | 106 => ⟨S_, .f32⟩
  | 107 => ⟨S1024x20x1, .f32⟩
  | 108 => ⟨S1024x20x1, .f32⟩
  | 109 => ⟨S1024x20x256, .f32⟩
  | 110 => ⟨S1024x20x256, .f32⟩
  | 111 => ⟨S1024x20x256, .f32⟩
  | 112 => ⟨S_, .f32⟩
  | 113 => ⟨S1024x20, .f32⟩
  | 114 => ⟨S1024x20x1, .f32⟩
  | 115 => ⟨S_, .f32⟩
  | 116 => ⟨S1024x20x1, .f32⟩
  | 117 => ⟨S1024x20x1, .f32⟩
  | 118 => ⟨S1024x20x256, .f32⟩
  | 119 => ⟨S1024x20x256, .f32⟩
  | 120 => ⟨S_, .f32⟩
  | 121 => ⟨S1024x20x1, .f32⟩
  | 122 => ⟨S1024x20x1, .f32⟩
  | 123 => ⟨S1024x20x1, .f32⟩
  | 124 => ⟨S1024x20x256, .f32⟩
  | 125 => ⟨S1024x20x256, .f32⟩
  | 126 => ⟨S1x1x256, .f32⟩
  | 127 => ⟨S1024x20x256, .f32⟩
  | _ => ⟨S1024x20, .i32⟩

abbrev hbmTy0_1 (i : Nat) : BufTy := match i % 128 with
  | 0 => ⟨S1024x20x256, .f32⟩
  | 1 => ⟨S1x1x256, .f32⟩
  | 2 => ⟨S1024x20x256, .f32⟩
  | 3 => ⟨S1024x20x256, .f32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S1x256x256, .f32⟩
  | 27 => ⟨S256x256, .f32⟩
  | 28 => ⟨S1024x20x256, .f32⟩
  | 29 => ⟨S1024x20x8x32, .f32⟩
  | 30 => ⟨S1024x8x20x32, .f32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1x256x256, .f32⟩
  | 54 => ⟨S256x256, .f32⟩
  | 55 => ⟨S1024x20x256, .f32⟩
  | 56 => ⟨S1024x20x8x32, .f32⟩
  | 57 => ⟨S1024x8x20x32, .f32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S1x256x256, .f32⟩
  | 81 => ⟨S256x256, .f32⟩
  | 82 => ⟨S1024x20x256, .f32⟩
  | 83 => ⟨S1024x20x8x32, .f32⟩
  | 84 => ⟨S1024x8x20x32, .f32⟩
  | 85 => ⟨S1024x8x20x20, .f32⟩
  | 86 => ⟨S_, .f32⟩
  | 87 => ⟨S1024x8x20x20, .f32⟩
  | 88 => ⟨S1024x8x20x20, .f32⟩
  | 89 => ⟨S1024x1x1x20, .i1⟩
  | 90 => ⟨S_, .f32⟩
  | 91 => ⟨S_, .f32⟩
  | 92 => ⟨S1024x8x20x20, .i1⟩
  | 93 => ⟨S1024x8x20x20, .f32⟩
  | 94 => ⟨S1024x8x20x20, .f32⟩
  | 95 => ⟨S1024x1x1x1, .i1⟩
  | 96 => ⟨S_, .f32⟩
  | 97 => ⟨S_, .f32⟩
  | 98 => ⟨S1024x8x20x20, .i1⟩
  | 99 => ⟨S1024x8x20x20, .f32⟩
  | 100 => ⟨S1024x8x20x20, .f32⟩
  | 101 => ⟨S_, .f32⟩
  | 102 => ⟨S1024x8x20, .f32⟩
  | 103 => ⟨S_, .f32⟩
  | 104 => ⟨S1024x8x20, .f32⟩
  | 105 => ⟨S1024x8x20, .f32⟩
  | 106 => ⟨S1024x8x20x1, .f32⟩
  | 107 => ⟨S1024x8x20x20, .f32⟩
  | 108 => ⟨S1024x8x20x20, .f32⟩
  | 109 => ⟨S1024x8x20x20, .f32⟩
  | 110 => ⟨S_, .f32⟩
  | 111 => ⟨S1024x8x20, .f32⟩
  | 112 => ⟨S1024x8x20x1, .f32⟩
  | 113 => ⟨S1024x8x20x20, .f32⟩
  | 114 => ⟨S1024x8x20x20, .f32⟩
  | 115 => ⟨S1024x8x20x32, .f32⟩
  | 116 => ⟨S1024x20x8x32, .f32⟩
  | 117 => ⟨S1024x20x256, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S1024x20, .i32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S1x256x256, .f32⟩
  | 13 => ⟨S256x256, .f32⟩
  | 14 => ⟨S1024x20x256, .f32⟩
  | 15 => ⟨S1024x20x256, .f32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S1x256, .f32⟩
  | 31 => ⟨S256, .f32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S1x256, .f32⟩
  | 47 => ⟨S256, .f32⟩
  | 48 => ⟨S_, .f32⟩
  | 49 => ⟨S1024x20, .f32⟩
  | 50 => ⟨S1024x20x1, .f32⟩
  | 51 => ⟨S_, .f32⟩
  | 52 => ⟨S1024x20x1, .f32⟩
  | 53 => ⟨S1024x20x1, .f32⟩
  | 54 => ⟨S1024x20x256, .f32⟩
  | 55 => ⟨S1024x20x256, .f32⟩
  | 56 => ⟨S1024x20x256, .f32⟩
  | 57 => ⟨S_, .f32⟩
  | 58 => ⟨S1024x20, .f32⟩
  | 59 => ⟨S1024x20x1, .f32⟩
  | 60 => ⟨S_, .f32⟩
  | 61 => ⟨S1024x20x1, .f32⟩
  | 62 => ⟨S1024x20x1, .f32⟩
  | 63 => ⟨S1024x20x256, .f32⟩
  | 64 => ⟨S1024x20x256, .f32⟩
  | 65 => ⟨S_, .f32⟩
  | 66 => ⟨S1024x20x1, .f32⟩
  | 67 => ⟨S1024x20x1, .f32⟩
  | 68 => ⟨S1024x20x1, .f32⟩
  | 69 => ⟨S1024x20x256, .f32⟩
  | 70 => ⟨S1024x20x256, .f32⟩
  | 71 => ⟨S1x1x256, .f32⟩
  | 72 => ⟨S1024x20x256, .f32⟩
  | 73 => ⟨S1024x20x256, .f32⟩
  | 74 => ⟨S1x1x256, .f32⟩
  | 75 => ⟨S1024x20x256, .f32⟩
  | 76 => ⟨S1024x20x256, .f32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S1x256x1024, .f32⟩
  | 100 => ⟨S256x1024, .f32⟩
  | 101 => ⟨S1024x20x1024, .f32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S1x1024, .f32⟩
  | 117 => ⟨S1024, .f32⟩
  | 118 => ⟨S1x1x1024, .f32⟩
  | 119 => ⟨S1024x20x1024, .f32⟩
  | 120 => ⟨S1024x20x1024, .f32⟩
  | 121 => ⟨S1024x20x1024, .f32⟩
  | 122 => ⟨S1024x20x1024, .f32⟩
  | 123 => ⟨S_, .f32⟩
  | 124 => ⟨S1024x20x1024, .f32⟩
  | 125 => ⟨S1024x20x1024, .f32⟩
  | 126 => ⟨S1024x20x1024, .f32⟩
  | 127 => ⟨S_, .f32⟩
  | _ => ⟨S1024x20, .i32⟩

abbrev hbmTy0_3 (i : Nat) : BufTy := match i % 128 with
  | 0 => ⟨S1024x20x1024, .f32⟩
  | 1 => ⟨S1024x20x1024, .f32⟩
  | 2 => ⟨S1024x20x1024, .f32⟩
  | 3 => ⟨S_, .f32⟩
  | 4 => ⟨S1024x20x1024, .f32⟩
  | 5 => ⟨S1024x20x1024, .f32⟩
  | 6 => ⟨S_, .f32⟩
  | 7 => ⟨S1024x20x1024, .f32⟩
  | 8 => ⟨S1024x20x1024, .f32⟩
  | 9 => ⟨S1024x20x1024, .f32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S1x1024x256, .f32⟩
  | 33 => ⟨S1024x256, .f32⟩
  | 34 => ⟨S1024x20x256, .f32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x256, .f32⟩
  | 50 => ⟨S256, .f32⟩
  | 51 => ⟨S1x1x256, .f32⟩
  | 52 => ⟨S1024x20x256, .f32⟩
  | 53 => ⟨S1024x20x256, .f32⟩
  | 54 => ⟨S1024x20x256, .f32⟩
  | 55 => ⟨S_, .i32⟩
  | 56 => ⟨S_, .i32⟩
  | 57 => ⟨S_, .f32⟩
  | 58 => ⟨S1024x20, .f32⟩
  | 59 => ⟨S1024x20x1, .f32⟩
  | 60 => ⟨S_, .f32⟩
  | 61 => ⟨S1024x20x1, .f32⟩
  | 62 => ⟨S1024x20x1, .f32⟩
  | 63 => ⟨S1024x20x256, .f32⟩
  | 64 => ⟨S1024x20x256, .f32⟩
  | 65 => ⟨S1024x20x256, .f32⟩
  | 66 => ⟨S_, .f32⟩
  | 67 => ⟨S1024x20, .f32⟩
  | 68 => ⟨S1024x20x1, .f32⟩
  | 69 => ⟨S_, .f32⟩
  | 70 => ⟨S1024x20x1, .f32⟩
  | 71 => ⟨S1024x20x1, .f32⟩
  | 72 => ⟨S1024x20x256, .f32⟩
  | 73 => ⟨S1024x20x256, .f32⟩
  | 74 => ⟨S_, .f32⟩
  | 75 => ⟨S1024x20x1, .f32⟩
  | 76 => ⟨S1024x20x1, .f32⟩
  | 77 => ⟨S1024x20x1, .f32⟩
  | 78 => ⟨S1024x20x256, .f32⟩
  | 79 => ⟨S1024x20x256, .f32⟩
  | 80 => ⟨S1x1x256, .f32⟩
  | 81 => ⟨S1024x20x256, .f32⟩
  | 82 => ⟨S1024x20x256, .f32⟩
  | 83 => ⟨S1x1x256, .f32⟩
  | 84 => ⟨S1024x20x256, .f32⟩
  | 85 => ⟨S1024x20x256, .f32⟩
  | 86 => ⟨S1024x1x256, .f32⟩
  | 87 => ⟨S1024x256, .f32⟩
  | _ => ⟨S1024x20, .i32⟩

abbrev hbmTy (i : Nat) : BufTy := match i / 128 with
  | 0 => hbmTy0_0 i
  | 1 => hbmTy0_1 i
  | 2 => hbmTy0_2 i
  | 3 => hbmTy0_3 i
  | _ => ⟨S1024x20, .i32⟩

abbrev bufTy : (tb : Table) → Fin (tcTables nBuf tb) → BufTy
  | .hbm, ⟨i, _⟩ => hbmTy i
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_c_1 : Ref sig .tc := ⟨.hbm, 48, rfl⟩
abbrev main_c_2 : Ref sig .tc := ⟨.hbm, 49, rfl⟩
abbrev main_v7_0 : Ref sig .tc := ⟨.hbm, 50, rfl⟩
abbrev main_v7_1 : Ref sig .tc := ⟨.hbm, 51, rfl⟩
abbrev main_v7_2 : Ref sig .tc := ⟨.hbm, 52, rfl⟩
abbrev main_v7_3 : Ref sig .tc := ⟨.hbm, 53, rfl⟩
abbrev main_v7_4 : Ref sig .tc := ⟨.hbm, 54, rfl⟩
abbrev main_v7_5 : Ref sig .tc := ⟨.hbm, 55, rfl⟩
abbrev main_v7_6 : Ref sig .tc := ⟨.hbm, 56, rfl⟩
abbrev main_v7_7 : Ref sig .tc := ⟨.hbm, 57, rfl⟩
abbrev main_v7_8 : Ref sig .tc := ⟨.hbm, 58, rfl⟩
abbrev main_v7_9 : Ref sig .tc := ⟨.hbm, 59, rfl⟩
abbrev main_v7_10 : Ref sig .tc := ⟨.hbm, 60, rfl⟩
abbrev main_v7_11 : Ref sig .tc := ⟨.hbm, 61, rfl⟩
abbrev main_v7_12 : Ref sig .tc := ⟨.hbm, 62, rfl⟩
abbrev main_v7_13 : Ref sig .tc := ⟨.hbm, 63, rfl⟩
abbrev main_v7_14 : Ref sig .tc := ⟨.hbm, 64, rfl⟩
abbrev main_v7_15 : Ref sig .tc := ⟨.hbm, 65, rfl⟩
abbrev main_v7_16 : Ref sig .tc := ⟨.hbm, 66, rfl⟩
abbrev main_while0c_c_23 : Ref sig .tc := ⟨.hbm, 67, rfl⟩
abbrev main_while0c_v34 : Ref sig .tc := ⟨.hbm, 68, rfl⟩
abbrev main_while0b_c_23 : Ref sig .tc := ⟨.hbm, 69, rfl⟩
abbrev main_while0b_v34 : Ref sig .tc := ⟨.hbm, 70, rfl⟩
abbrev main_while0b_v35 : Ref sig .tc := ⟨.hbm, 71, rfl⟩
abbrev main_while0b_c_24 : Ref sig .tc := ⟨.hbm, 72, rfl⟩
abbrev main_while0b_v36 : Ref sig .tc := ⟨.hbm, 73, rfl⟩
abbrev main_while0b_c_25 : Ref sig .tc := ⟨.hbm, 74, rfl⟩
abbrev main_while0b_v37 : Ref sig .tc := ⟨.hbm, 75, rfl⟩
abbrev main_while0b_v38 : Ref sig .tc := ⟨.hbm, 76, rfl⟩
abbrev main_while0b_c_26 : Ref sig .tc := ⟨.hbm, 77, rfl⟩
abbrev main_while0b_c_27 : Ref sig .tc := ⟨.hbm, 78, rfl⟩
abbrev main_while0b_v39 : Ref sig .tc := ⟨.hbm, 79, rfl⟩
abbrev main_while0b_c_28 : Ref sig .tc := ⟨.hbm, 80, rfl⟩
abbrev main_while0b_c_29 : Ref sig .tc := ⟨.hbm, 81, rfl⟩
abbrev main_while0b_v40 : Ref sig .tc := ⟨.hbm, 82, rfl⟩
abbrev main_while0b_c_30 : Ref sig .tc := ⟨.hbm, 83, rfl⟩
abbrev main_while0b_v41 : Ref sig .tc := ⟨.hbm, 84, rfl⟩
abbrev main_while0b_v42 : Ref sig .tc := ⟨.hbm, 85, rfl⟩
abbrev main_while0b_v43 : Ref sig .tc := ⟨.hbm, 86, rfl⟩
abbrev main_while0b_v44 : Ref sig .tc := ⟨.hbm, 87, rfl⟩
abbrev main_while0b_c_31 : Ref sig .tc := ⟨.hbm, 88, rfl⟩
abbrev main_while0b_v45 : Ref sig .tc := ⟨.hbm, 89, rfl⟩
abbrev main_while0b_c_32 : Ref sig .tc := ⟨.hbm, 90, rfl⟩
abbrev main_while0b_v46 : Ref sig .tc := ⟨.hbm, 91, rfl⟩
abbrev main_while0b_v47 : Ref sig .tc := ⟨.hbm, 92, rfl⟩
abbrev main_while0b_c_33 : Ref sig .tc := ⟨.hbm, 93, rfl⟩
abbrev main_while0b_c_34 : Ref sig .tc := ⟨.hbm, 94, rfl⟩
abbrev main_while0b_v48 : Ref sig .tc := ⟨.hbm, 95, rfl⟩
abbrev main_while0b_c_35 : Ref sig .tc := ⟨.hbm, 96, rfl⟩
abbrev main_while0b_c_36 : Ref sig .tc := ⟨.hbm, 97, rfl⟩
abbrev main_while0b_v49 : Ref sig .tc := ⟨.hbm, 98, rfl⟩
abbrev main_while0b_c_37 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_cst_38 : Ref sig .tc := ⟨.hbm, 103, rfl⟩
abbrev main_while0b_v53 : Ref sig .tc := ⟨.hbm, 104, rfl⟩
abbrev main_while0b_v54 : Ref sig .tc := ⟨.hbm, 105, rfl⟩
abbrev main_while0b_cst_39 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_cst_40 : Ref sig .tc := ⟨.hbm, 112, rfl⟩
abbrev main_while0b_v60 : Ref sig .tc := ⟨.hbm, 113, rfl⟩
abbrev main_while0b_v61 : Ref sig .tc := ⟨.hbm, 114, rfl⟩
abbrev main_while0b_cst_41 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_v65 : Ref sig .tc := ⟨.hbm, 119, rfl⟩
abbrev main_while0b_cst_42 : Ref sig .tc := ⟨.hbm, 120, rfl⟩
abbrev main_while0b_v66 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_v77 : Ref sig .tc := ⟨.hbm, 132, rfl⟩
abbrev main_while0b_c_43 : Ref sig .tc := ⟨.hbm, 133, rfl⟩
abbrev main_while0b_v78 : Ref sig .tc := ⟨.hbm, 134, rfl⟩
abbrev main_while0b_c_44 : Ref sig .tc := ⟨.hbm, 135, rfl⟩
abbrev main_while0b_v79 : Ref sig .tc := ⟨.hbm, 136, rfl⟩
abbrev main_while0b_v80 : Ref sig .tc := ⟨.hbm, 137, rfl⟩
abbrev main_while0b_c_45 : Ref sig .tc := ⟨.hbm, 138, rfl⟩
abbrev main_while0b_c_46 : Ref sig .tc := ⟨.hbm, 139, rfl⟩
abbrev main_while0b_v81 : Ref sig .tc := ⟨.hbm, 140, rfl⟩
abbrev main_while0b_c_47 : Ref sig .tc := ⟨.hbm, 141, rfl⟩
abbrev main_while0b_c_48 : Ref sig .tc := ⟨.hbm, 142, rfl⟩
abbrev main_while0b_v82 : Ref sig .tc := ⟨.hbm, 143, rfl⟩
abbrev main_while0b_c_49 : Ref sig .tc := ⟨.hbm, 144, rfl⟩
abbrev main_while0b_v83 : Ref sig .tc := ⟨.hbm, 145, rfl⟩
abbrev main_while0b_c_50 : Ref sig .tc := ⟨.hbm, 146, rfl⟩
abbrev main_while0b_c_51 : Ref sig .tc := ⟨.hbm, 147, rfl⟩
abbrev main_while0b_v84 : Ref sig .tc := ⟨.hbm, 148, rfl⟩
abbrev main_while0b_c_52 : Ref sig .tc := ⟨.hbm, 149, rfl⟩
abbrev main_while0b_c_53 : Ref sig .tc := ⟨.hbm, 150, rfl⟩
abbrev main_while0b_v85 : Ref sig .tc := ⟨.hbm, 151, rfl⟩
abbrev main_while0b_c_54 : Ref sig .tc := ⟨.hbm, 152, rfl⟩
abbrev main_while0b_v86 : Ref sig .tc := ⟨.hbm, 153, rfl⟩
abbrev main_while0b_v87 : Ref sig .tc := ⟨.hbm, 154, rfl⟩
abbrev main_while0b_v88 : Ref sig .tc := ⟨.hbm, 155, rfl⟩
abbrev main_while0b_v89 : Ref sig .tc := ⟨.hbm, 156, rfl⟩
abbrev main_while0b_v90 : Ref sig .tc := ⟨.hbm, 157, rfl⟩
abbrev main_while0b_v91 : Ref sig .tc := ⟨.hbm, 158, rfl⟩
abbrev main_while0b_v92 : Ref sig .tc := ⟨.hbm, 159, rfl⟩
abbrev main_while0b_c_55 : Ref sig .tc := ⟨.hbm, 160, rfl⟩
abbrev main_while0b_v93 : Ref sig .tc := ⟨.hbm, 161, rfl⟩
abbrev main_while0b_c_56 : Ref sig .tc := ⟨.hbm, 162, rfl⟩
abbrev main_while0b_v94 : Ref sig .tc := ⟨.hbm, 163, rfl⟩
abbrev main_while0b_v95 : Ref sig .tc := ⟨.hbm, 164, rfl⟩
abbrev main_while0b_c_57 : Ref sig .tc := ⟨.hbm, 165, rfl⟩
abbrev main_while0b_c_58 : Ref sig .tc := ⟨.hbm, 166, rfl⟩
abbrev main_while0b_v96 : Ref sig .tc := ⟨.hbm, 167, rfl⟩
abbrev main_while0b_c_59 : Ref sig .tc := ⟨.hbm, 168, rfl⟩
abbrev main_while0b_c_60 : Ref sig .tc := ⟨.hbm, 169, rfl⟩
abbrev main_while0b_v97 : Ref sig .tc := ⟨.hbm, 170, rfl⟩
abbrev main_while0b_c_61 : Ref sig .tc := ⟨.hbm, 171, rfl⟩
abbrev main_while0b_v98 : Ref sig .tc := ⟨.hbm, 172, rfl⟩
abbrev main_while0b_c_62 : Ref sig .tc := ⟨.hbm, 173, rfl⟩
abbrev main_while0b_c_63 : Ref sig .tc := ⟨.hbm, 174, rfl⟩
abbrev main_while0b_v99 : Ref sig .tc := ⟨.hbm, 175, rfl⟩
abbrev main_while0b_c_64 : Ref sig .tc := ⟨.hbm, 176, rfl⟩
abbrev main_while0b_c_65 : Ref sig .tc := ⟨.hbm, 177, rfl⟩
abbrev main_while0b_v100 : Ref sig .tc := ⟨.hbm, 178, rfl⟩
abbrev main_while0b_c_66 : Ref sig .tc := ⟨.hbm, 179, rfl⟩
abbrev main_while0b_v101 : Ref sig .tc := ⟨.hbm, 180, rfl⟩
abbrev main_while0b_v102 : Ref sig .tc := ⟨.hbm, 181, rfl⟩
abbrev main_while0b_v103 : Ref sig .tc := ⟨.hbm, 182, rfl⟩
abbrev main_while0b_v104 : Ref sig .tc := ⟨.hbm, 183, rfl⟩
abbrev main_while0b_v105 : Ref sig .tc := ⟨.hbm, 184, rfl⟩
abbrev main_while0b_v106 : Ref sig .tc := ⟨.hbm, 185, rfl⟩
abbrev main_while0b_v107 : Ref sig .tc := ⟨.hbm, 186, rfl⟩
abbrev main_while0b_c_67 : Ref sig .tc := ⟨.hbm, 187, rfl⟩
abbrev main_while0b_v108 : Ref sig .tc := ⟨.hbm, 188, rfl⟩
abbrev main_while0b_c_68 : Ref sig .tc := ⟨.hbm, 189, rfl⟩
abbrev main_while0b_v109 : Ref sig .tc := ⟨.hbm, 190, rfl⟩
abbrev main_while0b_v110 : Ref sig .tc := ⟨.hbm, 191, rfl⟩
abbrev main_while0b_c_69 : Ref sig .tc := ⟨.hbm, 192, rfl⟩
abbrev main_while0b_c_70 : Ref sig .tc := ⟨.hbm, 193, rfl⟩
abbrev main_while0b_v111 : Ref sig .tc := ⟨.hbm, 194, rfl⟩
abbrev main_while0b_c_71 : Ref sig .tc := ⟨.hbm, 195, rfl⟩
abbrev main_while0b_c_72 : Ref sig .tc := ⟨.hbm, 196, rfl⟩
abbrev main_while0b_v112 : Ref sig .tc := ⟨.hbm, 197, rfl⟩
abbrev main_while0b_c_73 : Ref sig .tc := ⟨.hbm, 198, rfl⟩
abbrev main_while0b_v113 : Ref sig .tc := ⟨.hbm, 199, rfl⟩
abbrev main_while0b_c_74 : Ref sig .tc := ⟨.hbm, 200, rfl⟩
abbrev main_while0b_c_75 : Ref sig .tc := ⟨.hbm, 201, rfl⟩
abbrev main_while0b_v114 : Ref sig .tc := ⟨.hbm, 202, rfl⟩
abbrev main_while0b_c_76 : Ref sig .tc := ⟨.hbm, 203, rfl⟩
abbrev main_while0b_c_77 : Ref sig .tc := ⟨.hbm, 204, rfl⟩
abbrev main_while0b_v115 : Ref sig .tc := ⟨.hbm, 205, rfl⟩
abbrev main_while0b_c_78 : Ref sig .tc := ⟨.hbm, 206, rfl⟩
abbrev main_while0b_v116 : Ref sig .tc := ⟨.hbm, 207, rfl⟩
abbrev main_while0b_v117 : Ref sig .tc := ⟨.hbm, 208, rfl⟩
abbrev main_while0b_v118 : Ref sig .tc := ⟨.hbm, 209, rfl⟩
abbrev main_while0b_v119 : Ref sig .tc := ⟨.hbm, 210, rfl⟩
abbrev main_while0b_v120 : Ref sig .tc := ⟨.hbm, 211, rfl⟩
abbrev main_while0b_v121 : Ref sig .tc := ⟨.hbm, 212, rfl⟩
abbrev main_while0b_v122 : Ref sig .tc := ⟨.hbm, 213, rfl⟩
abbrev main_while0b_cst_79 : Ref sig .tc := ⟨.hbm, 214, rfl⟩
abbrev main_while0b_v123 : Ref sig .tc := ⟨.hbm, 215, rfl⟩
abbrev main_while0b_v124 : Ref sig .tc := ⟨.hbm, 216, rfl⟩
abbrev main_while0b_v125 : Ref sig .tc := ⟨.hbm, 217, rfl⟩
abbrev main_while0b_cst_80 : Ref sig .tc := ⟨.hbm, 218, rfl⟩
abbrev main_while0b_call1_v0 : Ref sig .tc := ⟨.hbm, 219, rfl⟩
abbrev main_while0b_call1_v1 : Ref sig .tc := ⟨.hbm, 220, rfl⟩
abbrev main_while0b_call1_v2 : Ref sig .tc := ⟨.hbm, 221, rfl⟩
abbrev main_while0b_v126 : Ref sig .tc := ⟨.hbm, 222, rfl⟩
abbrev main_while0b_v127 : Ref sig .tc := ⟨.hbm, 223, rfl⟩
abbrev main_while0b_cst_81 : Ref sig .tc := ⟨.hbm, 224, rfl⟩
abbrev main_while0b_call2_v0 : Ref sig .tc := ⟨.hbm, 225, rfl⟩
abbrev main_while0b_call2_v1 : Ref sig .tc := ⟨.hbm, 226, rfl⟩
abbrev main_while0b_call2_v2 : Ref sig .tc := ⟨.hbm, 227, rfl⟩
abbrev main_while0b_v128 : Ref sig .tc := ⟨.hbm, 228, rfl⟩
abbrev main_while0b_cst_82 : Ref sig .tc := ⟨.hbm, 229, rfl⟩
abbrev main_while0b_v129 : Ref sig .tc := ⟨.hbm, 230, rfl⟩
abbrev main_while0b_cst_83 : Ref sig .tc := ⟨.hbm, 231, rfl⟩
abbrev main_while0b_v130 : Ref sig .tc := ⟨.hbm, 232, rfl⟩
abbrev main_while0b_v131 : Ref sig .tc := ⟨.hbm, 233, rfl⟩
abbrev main_while0b_v132 : Ref sig .tc := ⟨.hbm, 234, rfl⟩
abbrev main_while0b_v133 : Ref sig .tc := ⟨.hbm, 235, rfl⟩
abbrev main_while0b_v134 : Ref sig .tc := ⟨.hbm, 236, rfl⟩
abbrev main_while0b_v135 : Ref sig .tc := ⟨.hbm, 237, rfl⟩
abbrev main_while0b_cst_84 : Ref sig .tc := ⟨.hbm, 238, rfl⟩
abbrev main_while0b_v136 : Ref sig .tc := ⟨.hbm, 239, rfl⟩
abbrev main_while0b_v137 : Ref sig .tc := ⟨.hbm, 240, rfl⟩
abbrev main_while0b_v138 : Ref sig .tc := ⟨.hbm, 241, rfl⟩
abbrev main_while0b_v139 : Ref sig .tc := ⟨.hbm, 242, rfl⟩
abbrev main_while0b_v140 : Ref sig .tc := ⟨.hbm, 243, rfl⟩
abbrev main_while0b_v141 : Ref sig .tc := ⟨.hbm, 244, rfl⟩
abbrev main_while0b_v142 : Ref sig .tc := ⟨.hbm, 245, rfl⟩
abbrev main_while0b_v143 : Ref sig .tc := ⟨.hbm, 246, rfl⟩
abbrev main_while0b_c_85 : Ref sig .tc := ⟨.hbm, 247, rfl⟩
abbrev main_while0b_v144 : Ref sig .tc := ⟨.hbm, 248, rfl⟩
abbrev main_while0b_c_86 : Ref sig .tc := ⟨.hbm, 249, rfl⟩
abbrev main_while0b_v145 : Ref sig .tc := ⟨.hbm, 250, rfl⟩
abbrev main_while0b_v146 : Ref sig .tc := ⟨.hbm, 251, rfl⟩
abbrev main_while0b_c_87 : Ref sig .tc := ⟨.hbm, 252, rfl⟩
abbrev main_while0b_c_88 : Ref sig .tc := ⟨.hbm, 253, rfl⟩
abbrev main_while0b_v147 : Ref sig .tc := ⟨.hbm, 254, rfl⟩
abbrev main_while0b_c_89 : Ref sig .tc := ⟨.hbm, 255, rfl⟩
abbrev main_while0b_c_90 : Ref sig .tc := ⟨.hbm, 256, rfl⟩
abbrev main_while0b_v148 : Ref sig .tc := ⟨.hbm, 257, rfl⟩
abbrev main_while0b_c_91 : Ref sig .tc := ⟨.hbm, 258, rfl⟩
abbrev main_while0b_v149 : Ref sig .tc := ⟨.hbm, 259, rfl⟩
abbrev main_while0b_c_92 : Ref sig .tc := ⟨.hbm, 260, rfl⟩
abbrev main_while0b_c_93 : Ref sig .tc := ⟨.hbm, 261, rfl⟩
abbrev main_while0b_v150 : Ref sig .tc := ⟨.hbm, 262, rfl⟩
abbrev main_while0b_c_94 : Ref sig .tc := ⟨.hbm, 263, rfl⟩
abbrev main_while0b_c_95 : Ref sig .tc := ⟨.hbm, 264, rfl⟩
abbrev main_while0b_v151 : Ref sig .tc := ⟨.hbm, 265, rfl⟩
abbrev main_while0b_c_96 : Ref sig .tc := ⟨.hbm, 266, rfl⟩
abbrev main_while0b_v152 : Ref sig .tc := ⟨.hbm, 267, rfl⟩
abbrev main_while0b_v153 : Ref sig .tc := ⟨.hbm, 268, rfl⟩
abbrev main_while0b_v154 : Ref sig .tc := ⟨.hbm, 269, rfl⟩
abbrev main_while0b_v155 : Ref sig .tc := ⟨.hbm, 270, rfl⟩
abbrev main_while0b_v156 : Ref sig .tc := ⟨.hbm, 271, rfl⟩
abbrev main_while0b_v157 : Ref sig .tc := ⟨.hbm, 272, rfl⟩
abbrev main_while0b_c_97 : Ref sig .tc := ⟨.hbm, 273, rfl⟩
abbrev main_while0b_v158 : Ref sig .tc := ⟨.hbm, 274, rfl⟩
abbrev main_while0b_c_98 : Ref sig .tc := ⟨.hbm, 275, rfl⟩
abbrev main_while0b_v159 : Ref sig .tc := ⟨.hbm, 276, rfl⟩
abbrev main_while0b_v160 : Ref sig .tc := ⟨.hbm, 277, rfl⟩
abbrev main_while0b_c_99 : Ref sig .tc := ⟨.hbm, 278, rfl⟩
abbrev main_while0b_c_100 : Ref sig .tc := ⟨.hbm, 279, rfl⟩
abbrev main_while0b_v161 : Ref sig .tc := ⟨.hbm, 280, rfl⟩
abbrev main_while0b_c_101 : Ref sig .tc := ⟨.hbm, 281, rfl⟩
abbrev main_while0b_c_102 : Ref sig .tc := ⟨.hbm, 282, rfl⟩
abbrev main_while0b_v162 : Ref sig .tc := ⟨.hbm, 283, rfl⟩
abbrev main_while0b_c_103 : Ref sig .tc := ⟨.hbm, 284, rfl⟩
abbrev main_while0b_v163 : Ref sig .tc := ⟨.hbm, 285, rfl⟩
abbrev main_while0b_v164 : Ref sig .tc := ⟨.hbm, 286, rfl⟩
abbrev main_while0b_v165 : Ref sig .tc := ⟨.hbm, 287, rfl⟩
abbrev main_while0b_v166 : Ref sig .tc := ⟨.hbm, 288, rfl⟩
abbrev main_while0b_c_104 : Ref sig .tc := ⟨.hbm, 289, rfl⟩
abbrev main_while0b_v167 : Ref sig .tc := ⟨.hbm, 290, rfl⟩
abbrev main_while0b_c_105 : Ref sig .tc := ⟨.hbm, 291, rfl⟩
abbrev main_while0b_v168 : Ref sig .tc := ⟨.hbm, 292, rfl⟩
abbrev main_while0b_v169 : Ref sig .tc := ⟨.hbm, 293, rfl⟩
abbrev main_while0b_c_106 : Ref sig .tc := ⟨.hbm, 294, rfl⟩
abbrev main_while0b_c_107 : Ref sig .tc := ⟨.hbm, 295, rfl⟩
abbrev main_while0b_v170 : Ref sig .tc := ⟨.hbm, 296, rfl⟩
abbrev main_while0b_c_108 : Ref sig .tc := ⟨.hbm, 297, rfl⟩
abbrev main_while0b_c_109 : Ref sig .tc := ⟨.hbm, 298, rfl⟩
abbrev main_while0b_v171 : Ref sig .tc := ⟨.hbm, 299, rfl⟩
abbrev main_while0b_c_110 : Ref sig .tc := ⟨.hbm, 300, rfl⟩
abbrev main_while0b_v172 : Ref sig .tc := ⟨.hbm, 301, rfl⟩
abbrev main_while0b_v173 : Ref sig .tc := ⟨.hbm, 302, rfl⟩
abbrev main_while0b_v174 : Ref sig .tc := ⟨.hbm, 303, rfl⟩
abbrev main_while0b_cst_111 : Ref sig .tc := ⟨.hbm, 304, rfl⟩
abbrev main_while0b_v175 : Ref sig .tc := ⟨.hbm, 305, rfl⟩
abbrev main_while0b_v176 : Ref sig .tc := ⟨.hbm, 306, rfl⟩
abbrev main_while0b_cst_112 : Ref sig .tc := ⟨.hbm, 307, rfl⟩
abbrev main_while0b_v177 : Ref sig .tc := ⟨.hbm, 308, rfl⟩
abbrev main_while0b_v178 : Ref sig .tc := ⟨.hbm, 309, rfl⟩
abbrev main_while0b_v179 : Ref sig .tc := ⟨.hbm, 310, rfl⟩
abbrev main_while0b_v180 : Ref sig .tc := ⟨.hbm, 311, rfl⟩
abbrev main_while0b_v181 : Ref sig .tc := ⟨.hbm, 312, rfl⟩
abbrev main_while0b_cst_113 : Ref sig .tc := ⟨.hbm, 313, rfl⟩
abbrev main_while0b_v182 : Ref sig .tc := ⟨.hbm, 314, rfl⟩
abbrev main_while0b_v183 : Ref sig .tc := ⟨.hbm, 315, rfl⟩
abbrev main_while0b_cst_114 : Ref sig .tc := ⟨.hbm, 316, rfl⟩
abbrev main_while0b_v184 : Ref sig .tc := ⟨.hbm, 317, rfl⟩
abbrev main_while0b_v185 : Ref sig .tc := ⟨.hbm, 318, rfl⟩
abbrev main_while0b_v186 : Ref sig .tc := ⟨.hbm, 319, rfl⟩
abbrev main_while0b_v187 : Ref sig .tc := ⟨.hbm, 320, rfl⟩
abbrev main_while0b_cst_115 : Ref sig .tc := ⟨.hbm, 321, rfl⟩
abbrev main_while0b_v188 : Ref sig .tc := ⟨.hbm, 322, rfl⟩
abbrev main_while0b_v189 : Ref sig .tc := ⟨.hbm, 323, rfl⟩
abbrev main_while0b_v190 : Ref sig .tc := ⟨.hbm, 324, rfl⟩
abbrev main_while0b_v191 : Ref sig .tc := ⟨.hbm, 325, rfl⟩
abbrev main_while0b_v192 : Ref sig .tc := ⟨.hbm, 326, rfl⟩
abbrev main_while0b_v193 : Ref sig .tc := ⟨.hbm, 327, rfl⟩
abbrev main_while0b_v194 : Ref sig .tc := ⟨.hbm, 328, rfl⟩
abbrev main_while0b_v195 : Ref sig .tc := ⟨.hbm, 329, rfl⟩
abbrev main_while0b_v196 : Ref sig .tc := ⟨.hbm, 330, rfl⟩
abbrev main_while0b_v197 : Ref sig .tc := ⟨.hbm, 331, rfl⟩
abbrev main_while0b_v198 : Ref sig .tc := ⟨.hbm, 332, rfl⟩
abbrev main_while0b_v199 : Ref sig .tc := ⟨.hbm, 333, rfl⟩
abbrev main_while0b_c_116 : Ref sig .tc := ⟨.hbm, 334, rfl⟩
abbrev main_while0b_v200 : Ref sig .tc := ⟨.hbm, 335, rfl⟩
abbrev main_while0b_c_117 : Ref sig .tc := ⟨.hbm, 336, rfl⟩
abbrev main_while0b_v201 : Ref sig .tc := ⟨.hbm, 337, rfl⟩
abbrev main_while0b_v202 : Ref sig .tc := ⟨.hbm, 338, rfl⟩
abbrev main_while0b_c_118 : Ref sig .tc := ⟨.hbm, 339, rfl⟩
abbrev main_while0b_c_119 : Ref sig .tc := ⟨.hbm, 340, rfl⟩
abbrev main_while0b_v203 : Ref sig .tc := ⟨.hbm, 341, rfl⟩
abbrev main_while0b_c_120 : Ref sig .tc := ⟨.hbm, 342, rfl⟩
abbrev main_while0b_c_121 : Ref sig .tc := ⟨.hbm, 343, rfl⟩
abbrev main_while0b_v204 : Ref sig .tc := ⟨.hbm, 344, rfl⟩
abbrev main_while0b_c_122 : Ref sig .tc := ⟨.hbm, 345, rfl⟩
abbrev main_while0b_v205 : Ref sig .tc := ⟨.hbm, 346, rfl⟩
abbrev main_while0b_c_123 : Ref sig .tc := ⟨.hbm, 347, rfl⟩
abbrev main_while0b_c_124 : Ref sig .tc := ⟨.hbm, 348, rfl⟩
abbrev main_while0b_v206 : Ref sig .tc := ⟨.hbm, 349, rfl⟩
abbrev main_while0b_c_125 : Ref sig .tc := ⟨.hbm, 350, rfl⟩
abbrev main_while0b_c_126 : Ref sig .tc := ⟨.hbm, 351, rfl⟩
abbrev main_while0b_v207 : Ref sig .tc := ⟨.hbm, 352, rfl⟩
abbrev main_while0b_c_127 : Ref sig .tc := ⟨.hbm, 353, rfl⟩
abbrev main_while0b_v208 : Ref sig .tc := ⟨.hbm, 354, rfl⟩
abbrev main_while0b_v209 : Ref sig .tc := ⟨.hbm, 355, rfl⟩
abbrev main_while0b_v210 : Ref sig .tc := ⟨.hbm, 356, rfl⟩
abbrev main_while0b_v211 : Ref sig .tc := ⟨.hbm, 357, rfl⟩
abbrev main_while0b_v212 : Ref sig .tc := ⟨.hbm, 358, rfl⟩
abbrev main_while0b_c_128 : Ref sig .tc := ⟨.hbm, 359, rfl⟩
abbrev main_while0b_v213 : Ref sig .tc := ⟨.hbm, 360, rfl⟩
abbrev main_while0b_c_129 : Ref sig .tc := ⟨.hbm, 361, rfl⟩
abbrev main_while0b_v214 : Ref sig .tc := ⟨.hbm, 362, rfl⟩
abbrev main_while0b_v215 : Ref sig .tc := ⟨.hbm, 363, rfl⟩
abbrev main_while0b_c_130 : Ref sig .tc := ⟨.hbm, 364, rfl⟩
abbrev main_while0b_c_131 : Ref sig .tc := ⟨.hbm, 365, rfl⟩
abbrev main_while0b_v216 : Ref sig .tc := ⟨.hbm, 366, rfl⟩
abbrev main_while0b_c_132 : Ref sig .tc := ⟨.hbm, 367, rfl⟩
abbrev main_while0b_c_133 : Ref sig .tc := ⟨.hbm, 368, rfl⟩
abbrev main_while0b_v217 : Ref sig .tc := ⟨.hbm, 369, rfl⟩
abbrev main_while0b_c_134 : Ref sig .tc := ⟨.hbm, 370, rfl⟩
abbrev main_while0b_v218 : Ref sig .tc := ⟨.hbm, 371, rfl⟩
abbrev main_while0b_v219 : Ref sig .tc := ⟨.hbm, 372, rfl⟩
abbrev main_while0b_v220 : Ref sig .tc := ⟨.hbm, 373, rfl⟩
abbrev main_while0b_v221 : Ref sig .tc := ⟨.hbm, 374, rfl⟩
abbrev main_while0b_v222 : Ref sig .tc := ⟨.hbm, 375, rfl⟩
abbrev main_while0b_v223 : Ref sig .tc := ⟨.hbm, 376, rfl⟩
abbrev main_while0b_v224 : Ref sig .tc := ⟨.hbm, 377, rfl⟩
abbrev main_while0b_v225 : Ref sig .tc := ⟨.hbm, 378, rfl⟩
abbrev main_while0b_cst_135 : Ref sig .tc := ⟨.hbm, 379, rfl⟩
abbrev main_while0b_v226 : Ref sig .tc := ⟨.hbm, 380, rfl⟩
abbrev main_while0b_v227 : Ref sig .tc := ⟨.hbm, 381, rfl⟩
abbrev main_while0b_v228 : Ref sig .tc := ⟨.hbm, 382, rfl⟩
abbrev main_while0b_cst_136 : Ref sig .tc := ⟨.hbm, 383, rfl⟩
abbrev main_while0b_v229 : Ref sig .tc := ⟨.hbm, 384, rfl⟩
abbrev main_while0b_v230 : Ref sig .tc := ⟨.hbm, 385, rfl⟩
abbrev main_while0b_v231 : Ref sig .tc := ⟨.hbm, 386, rfl⟩
abbrev main_while0b_cst_137 : Ref sig .tc := ⟨.hbm, 387, rfl⟩
abbrev main_while0b_v232 : Ref sig .tc := ⟨.hbm, 388, rfl⟩
abbrev main_while0b_v233 : Ref sig .tc := ⟨.hbm, 389, rfl⟩
abbrev main_while0b_cst_138 : Ref sig .tc := ⟨.hbm, 390, rfl⟩
abbrev main_while0b_v234 : Ref sig .tc := ⟨.hbm, 391, rfl⟩
abbrev main_while0b_v235 : Ref sig .tc := ⟨.hbm, 392, rfl⟩
abbrev main_while0b_v236 : Ref sig .tc := ⟨.hbm, 393, rfl⟩
abbrev main_while0b_v237 : Ref sig .tc := ⟨.hbm, 394, rfl⟩
abbrev main_while0b_c_139 : Ref sig .tc := ⟨.hbm, 395, rfl⟩
abbrev main_while0b_v238 : Ref sig .tc := ⟨.hbm, 396, rfl⟩
abbrev main_while0b_c_140 : Ref sig .tc := ⟨.hbm, 397, rfl⟩
abbrev main_while0b_v239 : Ref sig .tc := ⟨.hbm, 398, rfl⟩
abbrev main_while0b_v240 : Ref sig .tc := ⟨.hbm, 399, rfl⟩
abbrev main_while0b_c_141 : Ref sig .tc := ⟨.hbm, 400, rfl⟩
abbrev main_while0b_c_142 : Ref sig .tc := ⟨.hbm, 401, rfl⟩
abbrev main_while0b_v241 : Ref sig .tc := ⟨.hbm, 402, rfl⟩
abbrev main_while0b_c_143 : Ref sig .tc := ⟨.hbm, 403, rfl⟩
abbrev main_while0b_c_144 : Ref sig .tc := ⟨.hbm, 404, rfl⟩
abbrev main_while0b_v242 : Ref sig .tc := ⟨.hbm, 405, rfl⟩
abbrev main_while0b_c_145 : Ref sig .tc := ⟨.hbm, 406, rfl⟩
abbrev main_while0b_v243 : Ref sig .tc := ⟨.hbm, 407, rfl⟩
abbrev main_while0b_c_146 : Ref sig .tc := ⟨.hbm, 408, rfl⟩
abbrev main_while0b_c_147 : Ref sig .tc := ⟨.hbm, 409, rfl⟩
abbrev main_while0b_v244 : Ref sig .tc := ⟨.hbm, 410, rfl⟩
abbrev main_while0b_c_148 : Ref sig .tc := ⟨.hbm, 411, rfl⟩
abbrev main_while0b_c_149 : Ref sig .tc := ⟨.hbm, 412, rfl⟩
abbrev main_while0b_v245 : Ref sig .tc := ⟨.hbm, 413, rfl⟩
abbrev main_while0b_c_150 : Ref sig .tc := ⟨.hbm, 414, rfl⟩
abbrev main_while0b_v246 : Ref sig .tc := ⟨.hbm, 415, rfl⟩
abbrev main_while0b_v247 : Ref sig .tc := ⟨.hbm, 416, rfl⟩
abbrev main_while0b_v248 : Ref sig .tc := ⟨.hbm, 417, rfl⟩
abbrev main_while0b_v249 : Ref sig .tc := ⟨.hbm, 418, rfl⟩
abbrev main_while0b_v250 : Ref sig .tc := ⟨.hbm, 419, rfl⟩
abbrev main_while0b_c_151 : Ref sig .tc := ⟨.hbm, 420, rfl⟩
abbrev main_while0b_v251 : Ref sig .tc := ⟨.hbm, 421, rfl⟩
abbrev main_while0b_c_152 : Ref sig .tc := ⟨.hbm, 422, rfl⟩
abbrev main_while0b_v252 : Ref sig .tc := ⟨.hbm, 423, rfl⟩
abbrev main_while0b_v253 : Ref sig .tc := ⟨.hbm, 424, rfl⟩
abbrev main_while0b_c_153 : Ref sig .tc := ⟨.hbm, 425, rfl⟩
abbrev main_while0b_c_154 : Ref sig .tc := ⟨.hbm, 426, rfl⟩
abbrev main_while0b_v254 : Ref sig .tc := ⟨.hbm, 427, rfl⟩
abbrev main_while0b_c_155 : Ref sig .tc := ⟨.hbm, 428, rfl⟩
abbrev main_while0b_c_156 : Ref sig .tc := ⟨.hbm, 429, rfl⟩
abbrev main_while0b_v255 : Ref sig .tc := ⟨.hbm, 430, rfl⟩
abbrev main_while0b_c_157 : Ref sig .tc := ⟨.hbm, 431, rfl⟩
abbrev main_while0b_v256 : Ref sig .tc := ⟨.hbm, 432, rfl⟩
abbrev main_while0b_v257 : Ref sig .tc := ⟨.hbm, 433, rfl⟩
abbrev main_while0b_v258 : Ref sig .tc := ⟨.hbm, 434, rfl⟩
abbrev main_while0b_v259 : Ref sig .tc := ⟨.hbm, 435, rfl⟩
abbrev main_while0b_v260 : Ref sig .tc := ⟨.hbm, 436, rfl⟩
abbrev main_while0b_v261 : Ref sig .tc := ⟨.hbm, 437, rfl⟩
abbrev main_while0b_v262 : Ref sig .tc := ⟨.hbm, 438, rfl⟩
abbrev main_while0b_c_158 : Ref sig .tc := ⟨.hbm, 439, rfl⟩
abbrev main_while0b_v263 : Ref sig .tc := ⟨.hbm, 440, rfl⟩
abbrev main_cst : Ref sig .tc := ⟨.hbm, 441, rfl⟩
abbrev main_v8 : Ref sig .tc := ⟨.hbm, 442, rfl⟩
abbrev main_v9 : Ref sig .tc := ⟨.hbm, 443, rfl⟩
abbrev main_cst_3 : Ref sig .tc := ⟨.hbm, 444, rfl⟩
abbrev main_v10 : Ref sig .tc := ⟨.hbm, 445, rfl⟩
abbrev main_v11 : Ref sig .tc := ⟨.hbm, 446, rfl⟩
abbrev main_v12 : Ref sig .tc := ⟨.hbm, 447, rfl⟩
abbrev main_v13 : Ref sig .tc := ⟨.hbm, 448, rfl⟩
abbrev main_v14 : Ref sig .tc := ⟨.hbm, 449, rfl⟩
abbrev main_cst_4 : Ref sig .tc := ⟨.hbm, 450, rfl⟩
abbrev main_v15 : Ref sig .tc := ⟨.hbm, 451, rfl⟩
abbrev main_v16 : Ref sig .tc := ⟨.hbm, 452, rfl⟩
abbrev main_cst_5 : Ref sig .tc := ⟨.hbm, 453, rfl⟩
abbrev main_v17 : Ref sig .tc := ⟨.hbm, 454, rfl⟩
abbrev main_v18 : Ref sig .tc := ⟨.hbm, 455, rfl⟩
abbrev main_v19 : Ref sig .tc := ⟨.hbm, 456, rfl⟩
abbrev main_v20 : Ref sig .tc := ⟨.hbm, 457, rfl⟩
abbrev main_cst_6 : Ref sig .tc := ⟨.hbm, 458, rfl⟩
abbrev main_v21 : Ref sig .tc := ⟨.hbm, 459, rfl⟩
abbrev main_v22 : Ref sig .tc := ⟨.hbm, 460, rfl⟩
abbrev main_v23 : Ref sig .tc := ⟨.hbm, 461, rfl⟩
abbrev main_v24 : Ref sig .tc := ⟨.hbm, 462, rfl⟩
abbrev main_v25 : Ref sig .tc := ⟨.hbm, 463, rfl⟩
abbrev main_v26 : Ref sig .tc := ⟨.hbm, 464, rfl⟩
abbrev main_v27 : Ref sig .tc := ⟨.hbm, 465, rfl⟩
abbrev main_v28 : Ref sig .tc := ⟨.hbm, 466, rfl⟩
abbrev main_v29 : Ref sig .tc := ⟨.hbm, 467, rfl⟩
abbrev main_v30 : Ref sig .tc := ⟨.hbm, 468, rfl⟩
abbrev main_v31 : Ref sig .tc := ⟨.hbm, 469, rfl⟩
abbrev main_v32 : Ref sig .tc := ⟨.hbm, 470, rfl⟩
abbrev main_v33 : Ref sig .tc := ⟨.hbm, 471, rfl⟩

abbrev nD : Nat := 1
abbrev τ : Topo := Topo.v7x

variable {F : FTy → Type} [FloatOps F]

abbrev main_while0_count : Scf.Loop 32 := ⟨0#32, 12#32, 1#32⟩
-- ==== Proof.Ev.lean ====
/-
  Running a kernel's body on the contents of its buffers.

  `Res σ` owns every buffer at the contents that the state `σ` names. `EvQ Res … σ p Q` says that from
  there the program `p` runs to some answer and some state in the relation `Q`, owning everything again. The
  rules below run a load as a read of the state and a store as a rectangle of the state replaced.
-/
module

public import Idealize.ShloMosaic.Rules
public import Idealize.ShloMosaic.Lib.Memref
public import Idealize.ShloMosaic.Lib.Tactic
public import Idealize.ShloMosaic.Lib.Pipeline.FrameBody

@[expose] public section

noncomputable section

namespace BodyRun

open Idealize.ShloMosaic
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [instL : Preorder Lvl] {Λ : Labels}

variable {St : Type} (Res : St → sProp (MT nD τ sig Ix Val Name U Lvl)) (defs : Defs nD τ sig Val Λ) (𝒱 : Variants) (c : Thread nD τ)

/-- From the state `σ` the program `p` runs to an answer and a state in the relation `Q`. -/
def EvQ {α : Type} (σ : St) (p : Prog (TpuEff nD τ sig Val Λ c.2) α) (Q : α → St → Prop) : Prop :=
  Res σ ⊢ (wp frame (wpE defs 𝒱 c none) Set.univ p (fun a => (iprop(∃ σ', ⌜Q a σ'⌝ ∗ Res σ') : sProp (MT nD τ sig Ix Val Name U Lvl))) : sProp (MT nD τ sig Ix Val Name U Lvl))

/-- A buffer whose contents the state names: reading. -/
structure RSlot {sp : Space} {sh : Shape} {e : EltTy} (m : Memref sig c.2.kind sp sh e) (get : St → sh.Idx → Val e) : Prop where
  ok : ∀ σ, Res σ ⊢ iprop((owns c m fullShare (get σ) : sProp (MT nD τ sig Ix Val Name U Lvl)) ∗ ((owns c m fullShare (get σ) : sProp (MT nD τ sig Ix Val Name U Lvl)) -∗ Res σ))

/-- A buffer whose contents the state names: reading and replacing. -/
structure WSlot {sp : Space} {sh : Shape} {e : EltTy} (m : Memref sig c.2.kind sp sh e) (get : St → sh.Idx → Val e)
    (put : St → (sh.Idx → Val e) → St) : Prop where
  ok : ∀ σ, Res σ ⊢ iprop((owns c m fullShare (get σ) : sProp (MT nD τ sig Ix Val Name U Lvl)) ∗ (∀ X, (owns c m fullShare X : sProp (MT nD τ sig Ix Val Name U Lvl)) -∗ Res (put σ X)))

variable {Res defs 𝒱 c} {instL}

theorem EvQ.ret {α : Type} {σ : St} {a : α} {Q : α → St → Prop} (h : Q a σ) :
    EvQ Res defs 𝒱 c σ (.ret a : Prog (TpuEff nD τ sig Val Λ c.2) α) Q := by
  unfold EvQ
  refine Entails.trans ?_ (le_wp_ret _ _ _ a _)
  iintro H; iexists σ; isplitr; · ipureintro; exact h
  iexact H

theorem EvQ.mono {α : Type} {σ : St} {p : Prog (TpuEff nD τ sig Val Λ c.2) α} {Q Q' : α → St → Prop}
    (h : EvQ Res defs 𝒱 c σ p Q) (hQ : ∀ a σ', Q a σ' → Q' a σ') : EvQ Res defs 𝒱 c σ p Q' := by
  unfold EvQ at h ⊢
  refine h.trans (wp_mono _ _ _ fun a => ?_)
  iintro ⟨%σ', %hq, H⟩; iexists σ'; isplitr; · ipureintro; exact hQ _ _ hq
  iexact H

theorem EvQ.bind {α β : Type} {σ : St} {p : Prog (TpuEff nD τ sig Val Λ c.2) α} {k : α → Prog (TpuEff nD τ sig Val Λ c.2) β}
    {Q : α → St → Prop} {Q' : β → St → Prop}
    (h : EvQ Res defs 𝒱 c σ p Q) (hk : ∀ a σ', Q a σ' → EvQ Res defs 𝒱 c σ' (k a) Q') :
    EvQ Res defs 𝒱 c σ (p.bind k) Q' := by
  unfold EvQ at h hk ⊢
  refine h.trans ?_
  refine Entails.trans ?_ (Entails.of_eq (wp_bind _ _ _ p k _).symm)
  refine wp_mono frame (wpE defs 𝒱 c none) Set.univ fun a => ?_
  iintro ⟨%σ', %hq, H⟩
  iapply (hk a σ' hq); iexact H

/-- Forgetting all of the state but what is needed of it. -/
theorem EvQ.cut {α : Type} {σ : St} {p : Prog (TpuEff nD τ sig Val Λ c.2) α} {Q : α → St → Prop} {I : St → Prop}
    (h : I σ) (H : ∀ σ', I σ' → EvQ Res defs 𝒱 c σ' p Q) : EvQ Res defs 𝒱 c σ p Q := H σ h

/-- A guarded region before the rest of a program. -/
theorem EvQ.cond {β : Type} {σ : St} {b : Prop} {_dec : Decidable b} {t : b → Prog (TpuEff nD τ sig Val Λ c.2) PUnit}
    {e : ¬ b → Prog (TpuEff nD τ sig Val Λ c.2) PUnit} {k : PUnit → Prog (TpuEff nD τ sig Val Λ c.2) β}
    {I : St → Prop} {Q' : β → St → Prop}
    (ht : ∀ h, EvQ Res defs 𝒱 c σ (t h) fun _ => I) (he : ∀ h, EvQ Res defs 𝒱 c σ (e h) fun _ => I)
    (hk : ∀ σ', I σ' → EvQ Res defs 𝒱 c σ' (k ⟨⟩) Q') :
    EvQ Res defs 𝒱 c σ ((dite b t e).bind k) Q' := by
  refine EvQ.bind (Q := fun _ => I) ?_ fun _ σ' h => hk σ' h
  by_cases hb : b
  · rw [dif_pos hb]; exact ht hb
  · rw [dif_neg hb]; exact he hb

theorem EvQ.load {α : Type} {cs : CoreSpace} {s : Shape} {e : EltTy} {m : Memref sig c.2.kind cs s e} {get : St → s.Idx → Val e}
    (S : RSlot Res c m get) {σ : St} {r : LoadRect s} {hl : m.view.LoadsAt r}
    {k : (r.shape.Idx → Val e) → Prog (TpuEff nD τ sig Val Λ c.2) α} {Q : α → St → Prop}
    (h : EvQ Res defs 𝒱 c σ (k fun j => get σ (r.idx j)) Q) :
    EvQ Res defs 𝒱 c σ (.op (.load m r hl) k) Q := by
  unfold EvQ at h ⊢
  refine (S.ok σ).trans ?_
  unfold owns
  iintro ⟨⟨%f, %hf, Hp⟩, Hw⟩
  ihave Hk := (wp_load (defs := defs) 𝒱 c none Set.univ (m := m) (r := r) (hl := hl) (k := k) (q := fullShare) (f := f)
    (Q := fun a => iprop(∃ σ', ⌜Q a σ'⌝ ∗ Res σ')) (S := m.view.set) (by
      intro x hx; obtain ⟨y, -, rfl⟩ := Finset.mem_map.mp hx
      exact Finset.mem_map_of_mem _ (Finset.mem_univ y))) $$ Hp
  iapply Hk
  iintro Hp
  have e1 : m.view.readAt Val r f = fun j => get σ (r.idx j) := by
    funext j; rw [View.readAt_apply, ← hf]
  rw [e1]
  iapply h
  iapply Hw
  iexists f
  isplitr; · ipureintro; exact hf
  iexact Hp

theorem EvQ.store {α : Type} {cs : CoreSpace} {s : Shape} {e : EltTy} {m : Memref sig c.2.kind cs s e} {get : St → s.Idx → Val e}
    {put : St → (s.Idx → Val e) → St} (S : WSlot Res c m get put) {σ : St} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {Q : α → St → Prop}
    (h : EvQ Res defs 𝒱 c (put σ (r.overlay (get σ) w)) (k ⟨⟩) Q) :
    EvQ Res defs 𝒱 c σ (.op (.store m r w Finset.univ hx hm) k) Q := by
  unfold EvQ at h ⊢
  refine (S.ok σ).trans ?_
  unfold owns
  iintro ⟨⟨%f, %hf, Hp⟩, Hw⟩
  ihave Hk := (wp_store (defs := defs) 𝒱 c none Set.univ (m := m) (r := r) (w := w) (Mk := Finset.univ) (hx := hx) (hm := hm) (k := k) (f := f)
    (Q := fun a => iprop(∃ σ', ⌜Q a σ'⌝ ∗ Res σ')) (S := m.view.set) (by
      intro x hx; obtain ⟨y, -, rfl⟩ := Finset.mem_map.mp hx
      exact Finset.mem_map_of_mem _ (Finset.mem_univ (r.emb y)))) $$ Hp
  iapply Hk
  iintro Hp
  iapply h
  iapply Hw
  iexists ((m.access r).write Val f w Finset.univ)
  isplitr
  · ipureintro
    funext j
    by_cases hj : j ∈ r.set
    · obtain ⟨i, rfl⟩ := r.exists_idx_of_mem hj
      change m.view.read Val _ (r.emb i) = r.overlay _ w (r.emb i)
      rw [Rect.overlay_emb]
      have := congrFun (View.read_write_univ (v := m.access r) f w) i
      exact this
    · rw [Rect.overlay_of_not_mem _ _ _ hj, ← hf, View.read_apply, View.read_apply, View.write_of_not_mem]
      intro hmem
      obtain ⟨y, -, hy⟩ := Finset.mem_map.mp hmem
      have : r.emb y = j := m.view.emb.injective hy
      exact hj (this ▸ r.map_emb_univ ▸ Finset.mem_map_of_mem _ (Finset.mem_univ y))
  · iexact Hp

/-! ## Slots of a separating conjunction -/

section Slots

variable {R S : St → sProp (MT nD τ sig Ix Val Name U Lvl)}
variable {sp : Space} {sh : Shape} {e : EltTy} {m : Memref sig c.2.kind sp sh e} {get : St → sh.Idx → Val e} {put : St → (sh.Idx → Val e) → St}

theorem RSlot.last : RSlot (fun σ => (owns c m fullShare (get σ) : sProp (MT nD τ sig Ix Val Name U Lvl))) c m get :=
  ⟨fun σ => by iintro H; isplitl [H]; · iexact H
               iintro H; iexact H⟩

theorem RSlot.left : RSlot (fun σ => iprop((owns c m fullShare (get σ) : sProp (MT nD τ sig Ix Val Name U Lvl)) ∗ R σ)) c m get :=
  ⟨fun σ => by iintro ⟨H, HR⟩; isplitl [H]; · iexact H
               iintro H; isplitl [H]; · iexact H
               iexact HR⟩

theorem RSlot.right (h : RSlot R c m get) : RSlot (fun σ => iprop(S σ ∗ R σ)) c m get :=
  ⟨fun σ => by iintro ⟨HS, HR⟩
               ihave H := (h.ok σ) $$ HR
               icases H with ⟨H, Hw⟩
               isplitl [H]; · iexact H
               iintro H; isplitl [HS]; · iexact HS
               iapply Hw; iexact H⟩

theorem WSlot.last (hg : ∀ σ X, get (put σ X) = X) :
    WSlot (fun σ => (owns c m fullShare (get σ) : sProp (MT nD τ sig Ix Val Name U Lvl))) c m get put :=
  ⟨fun σ => by iintro H; isplitl [H]; · iexact H
               iintro %X H; rw [hg]; iexact H⟩

theorem WSlot.left (hg : ∀ σ X, get (put σ X) = X) (hR : ∀ σ X, R (put σ X) = R σ) :
    WSlot (fun σ => iprop((owns c m fullShare (get σ) : sProp (MT nD τ sig Ix Val Name U Lvl)) ∗ R σ)) c m get put :=
  ⟨fun σ => by iintro ⟨H, HR⟩; isplitl [H]; · iexact H
               iintro %X H; rw [hg, hR]; isplitl [H]; · iexact H
               iexact HR⟩

theorem WSlot.right (hS : ∀ σ X, S (put σ X) = S σ) (h : WSlot R c m get put) : WSlot (fun σ => iprop(S σ ∗ R σ)) c m get put :=
  ⟨fun σ => by iintro ⟨HS, HR⟩
               ihave H := (h.ok σ) $$ HR
               icases H with ⟨H, Hw⟩
               isplitl [H]; · iexact H
               iintro %X H; rw [hS]; isplitl [HS]; · iexact HS
               iapply Hw; iexact H⟩

end Slots

theorem EvQ.assoc {α β γ : Type} {σ : St} {p : Prog (TpuEff nD τ sig Val Λ c.2) α} {k : α → Prog (TpuEff nD τ sig Val Λ c.2) β}
    {k' : β → Prog (TpuEff nD τ sig Val Λ c.2) γ} {Q : γ → St → Prop}
    (h : EvQ Res defs 𝒱 c σ (p.bind fun a => (k a).bind k') Q) : EvQ Res defs 𝒱 c σ ((p.bind k).bind k') Q := by
  have e : (p.bind k).bind k' = p.bind fun a => (k a).bind k' := Prog.bind_assoc p k k'
  rw [e]; exact h

end BodyRun

end
-- ==== Proof.Run.lean ====
module

public import proofs.«01_k».proof.Proof.Gen.KernelIdeal.Frame
public import proofs.«01_k».proof.Proof.Ev

@[expose] public section

set_option maxRecDepth 65536
set_option pp.maxSteps 3000

noncomputable section

namespace Cert.KernelIdeal.Run

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open BodyRun
open Cert.KernelIdeal.Gen

variable {F : FTy → Type} [FloatOps F] [Named F]

/-- The kernel's buffers: the staged windows and the scratch. -/
structure Bufs where
  m2 : Memref sig .tc .vmem S2560x1 .i32
  w2 : m2.IsWhole
  m3 : Memref sig .tc .vmem S64x1x160 .f32
  w3 : m3.IsWhole
  m4 : Memref sig .tc .vmem S2560x1 .f32
  w4 : m4.IsWhole
  m5 : Memref sig .tc .vmem S44x256 .f32
  w5 : m5.IsWhole
  m6 : Memref sig .tc .vmem S1x1x256 .f32
  w6 : m6.IsWhole
  m7 : Memref sig .tc .vmem S1x1x256 .f32
  w7 : m7.IsWhole
  m8 : Memref sig .tc .vmem S1x256x256 .f32
  w8 : m8.IsWhole
  m9 : Memref sig .tc .vmem S1x256x256 .f32
  w9 : m9.IsWhole
  m10 : Memref sig .tc .vmem S1x256x256 .f32
  w10 : m10.IsWhole
  m11 : Memref sig .tc .vmem S1x256x256 .f32
  w11 : m11.IsWhole
  m12 : Memref sig .tc .vmem S1x1x256 .f32
  w12 : m12.IsWhole
  m13 : Memref sig .tc .vmem S1x1x256 .f32
  w13 : m13.IsWhole
  m14 : Memref sig .tc .vmem S1x256x1024 .f32
  w14 : m14.IsWhole
  m15 : Memref sig .tc .vmem S1x1x1024 .f32
  w15 : m15.IsWhole
  m16 : Memref sig .tc .vmem S1x1024x256 .f32
  w16 : m16.IsWhole
  m17 : Memref sig .tc .vmem S1x1x256 .f32
  w17 : m17.IsWhole
  m18 : Memref sig .tc .vmem S1x256 .f32
  w18 : m18.IsWhole
  m19 : Memref sig .tc .vmem S1x256 .f32
  w19 : m19.IsWhole
  m20 : Memref sig .tc .vmem S128x256 .f32
  w20 : m20.IsWhole
  m21 : Memref sig .tc .vmem S20480x256 .f32
  w21 : m21.IsWhole
  m22 : Memref sig .tc .vmem S2560x256 .f32
  w22 : m22.IsWhole
  m23 : Memref sig .tc .vmem S2560x256 .f32
  w23 : m23.IsWhole
  m24 : Memref sig .tc .vmem S2560x256 .f32
  w24 : m24.IsWhole
  m25 : Memref sig .tc .vmem S2560x256 .f32
  w25 : m25.IsWhole
  m26 : Memref sig .tc .vmem S2560x1024 .f32
  w26 : m26.IsWhole
  m27 : Memref sig .tc .vmem S160x256 .f32
  w27 : m27.IsWhole
  m28 : Memref sig .tc .vmem S160x256 .f32
  w28 : m28.IsWhole

/-- The contents of the staged inputs at one point. -/
structure Ins (F : FTy → Type) where
  x2 : S2560x1.Idx → Elt F .i32
  x3 : S64x1x160.Idx → Elt F .f32
  x4 : S2560x1.Idx → Elt F .f32
  x5 : S44x256.Idx → Elt F .f32
  x6 : S1x1x256.Idx → Elt F .f32
  x7 : S1x1x256.Idx → Elt F .f32
  x8 : S1x256x256.Idx → Elt F .f32
  x9 : S1x256x256.Idx → Elt F .f32
  x10 : S1x256x256.Idx → Elt F .f32
  x11 : S1x256x256.Idx → Elt F .f32
  x12 : S1x1x256.Idx → Elt F .f32
  x13 : S1x1x256.Idx → Elt F .f32
  x14 : S1x256x1024.Idx → Elt F .f32
  x15 : S1x1x1024.Idx → Elt F .f32
  x16 : S1x1024x256.Idx → Elt F .f32
  x17 : S1x1x256.Idx → Elt F .f32
  x18 : S1x256.Idx → Elt F .f32
  x19 : S1x256.Idx → Elt F .f32

/-- The contents of the output window's buffer and of the scratch. -/
structure St (F : FTy → Type) where
  o : S128x256.Idx → Elt F .f32
  h : S20480x256.Idx → Elt F .f32
  q : S2560x256.Idx → Elt F .f32
  k : S2560x256.Idx → Elt F .f32
  v : S2560x256.Idx → Elt F .f32
  a : S2560x256.Idx → Elt F .f32
  f : S2560x1024.Idx → Elt F .f32
  kx : S160x256.Idx → Elt F .f32
  vx : S160x256.Idx → Elt F .f32

/-- The body on these buffers. -/
abbrev bodyOn (i : grid0.Coords) (B : Bufs) : Prog (TpuEff nD τ sig (Elt F) Λ₀ .tc) PUnit :=
  cc0__encoder_body i B.m2 B.w2 B.m3 B.w3 B.m4 B.w4 B.m5 B.w5 B.m6 B.w6 B.m7 B.w7 B.m8 B.w8 B.m9 B.w9 B.m10 B.w10 B.m11 B.w11 B.m12 B.w12 B.m13 B.w13 B.m14 B.w14 B.m15 B.w15 B.m16 B.w16 B.m17 B.w17 B.m18 B.w18 B.m19 B.w19 B.m20 B.w20 B.m21 B.w21 B.m22 B.w22 B.m23 B.w23 B.m24 B.w24 B.m25 B.w25 B.m26 B.w26 B.m27 B.w27 B.m28 B.w28

/-- Every buffer owned at the contents named. -/
def Res (c : Dev nD) (B : Bufs) (X : Ins F) (σ : St F) : sProp (MT nD τ sig Unit (Elt F) ℕ (UR sig nD τ) ℕ) :=
  iprop(owns (c : Thread nD τ) B.m2 fullShare X.x2 ∗ owns (c : Thread nD τ) B.m3 fullShare X.x3 ∗ owns (c : Thread nD τ) B.m4 fullShare X.x4 ∗ owns (c : Thread nD τ) B.m5 fullShare X.x5 ∗ owns (c : Thread nD τ) B.m6 fullShare X.x6 ∗ owns (c : Thread nD τ) B.m7 fullShare X.x7 ∗ owns (c : Thread nD τ) B.m8 fullShare X.x8 ∗ owns (c : Thread nD τ) B.m9 fullShare X.x9 ∗ owns (c : Thread nD τ) B.m10 fullShare X.x10 ∗ owns (c : Thread nD τ) B.m11 fullShare X.x11 ∗ owns (c : Thread nD τ) B.m12 fullShare X.x12 ∗ owns (c : Thread nD τ) B.m13 fullShare X.x13 ∗ owns (c : Thread nD τ) B.m14 fullShare X.x14 ∗ owns (c : Thread nD τ) B.m15 fullShare X.x15 ∗ owns (c : Thread nD τ) B.m16 fullShare X.x16 ∗ owns (c : Thread nD τ) B.m17 fullShare X.x17 ∗ owns (c : Thread nD τ) B.m18 fullShare X.x18 ∗ owns (c : Thread nD τ) B.m19 fullShare X.x19 ∗ owns (c : Thread nD τ) B.m20 fullShare σ.o ∗ owns (c : Thread nD τ) B.m21 fullShare σ.h ∗ owns (c : Thread nD τ) B.m22 fullShare σ.q ∗ owns (c : Thread nD τ) B.m23 fullShare σ.k ∗ owns (c : Thread nD τ) B.m24 fullShare σ.v ∗ owns (c : Thread nD τ) B.m25 fullShare σ.a ∗ owns (c : Thread nD τ) B.m26 fullShare σ.f ∗ owns (c : Thread nD τ) B.m27 fullShare σ.kx ∗ owns (c : Thread nD τ) B.m28 fullShare σ.vx)

variable (c : Dev nD) (B : Bufs) (X : Ins F)

theorem r2 : RSlot (Res c B X) (c : Thread nD τ) B.m2 (fun _ => X.x2) :=
  RSlot.left
theorem r3 : RSlot (Res c B X) (c : Thread nD τ) B.m3 (fun _ => X.x3) :=
  RSlot.right (RSlot.left)
theorem r4 : RSlot (Res c B X) (c : Thread nD τ) B.m4 (fun _ => X.x4) :=
  RSlot.right (RSlot.right (RSlot.left))
theorem r5 : RSlot (Res c B X) (c : Thread nD τ) B.m5 (fun _ => X.x5) :=
  RSlot.right (RSlot.right (RSlot.right (RSlot.left)))
theorem r6 : RSlot (Res c B X) (c : Thread nD τ) B.m6 (fun _ => X.x6) :=
  RSlot.right (RSlot.right (RSlot.right (RSlot.right (RSlot.left))))
theorem r7 : RSlot (Res c B X) (c : Thread nD τ) B.m7 (fun _ => X.x7) :=
  RSlot.right (RSlot.right (RSlot.right (RSlot.right (RSlot.right (RSlot.left)))))
theorem r8 : RSlot (Res c B X) (c : Thread nD τ) B.m8 (fun _ => X.x8) :=
  RSlot.right (RSlot.right (RSlot.right (RSlot.right (RSlot.right (RSlot.right (RSlot.left))))))
theorem r9 : RSlot (Res c B X) (c : Thread nD τ) B.m9 (fun _ => X.x9) :=
  RSlot.right (RSlot.right (RSlot.right (RSlot.right (RSlot.right (RSlot.right (RSlot.right (RSlot.left)))))))
theorem r10 : RSlot (Res c B X) (c : Thread nD τ) B.m10 (fun _ => X.x10) :=
  RSlot.right (RSlot.right (RSlot.right (RSlot.right (RSlot.right (RSlot.right (RSlot.right (RSlot.right (RSlot.left))))))))
theorem r11 : RSlot (Res c B X) (c : Thread nD τ) B.m11 (fun _ => X.x11) :=
  RSlot.right (RSlot.right (RSlot.right (RSlot.right (RSlot.right (RSlot.right (RSlot.right (RSlot.right (RSlot.right (RSlot.left)))))))))
theorem r12 : RSlot (Res c B X) (c : Thread nD τ) B.m12 (fun _ => X.x12) :=
  RSlot.right (RSlot.right (RSlot.right (RSlot.right (RSlot.right (RSlot.right (RSlot.right (RSlot.right (RSlot.right (RSlot.right (RSlot.left))))))))))
theorem r13 : RSlot (Res c B X) (c : Thread nD τ) B.m13 (fun _ => X.x13) :=
  RSlot.right (RSlot.right (RSlot.right (RSlot.right (RSlot.right (RSlot.right (RSlot.right (RSlot.right (RSlot.right (RSlot.right (RSlot.right (RSlot.left)))))))))))
theorem r14 : RSlot (Res c B X) (c : Thread nD τ) B.m14 (fun _ => X.x14) :=
  RSlot.right (RSlot.right (RSlot.right (RSlot.right (RSlot.right (RSlot.right (RSlot.right (RSlot.right (RSlot.right (RSlot.right (RSlot.right (RSlot.right (RSlot.left))))))))))))
theorem r15 : RSlot (Res c B X) (c : Thread nD τ) B.m15 (fun _ => X.x15) :=
  RSlot.right (RSlot.right (RSlot.right (RSlot.right (RSlot.right (RSlot.right (RSlot.right (RSlot.right (RSlot.right (RSlot.right (RSlot.right (RSlot.right (RSlot.right (RSlot.left)))))))))))))
theorem r16 : RSlot (Res c B X) (c : Thread nD τ) B.m16 (fun _ => X.x16) :=
  RSlot.right (RSlot.right (RSlot.right (RSlot.right (RSlot.right (RSlot.right (RSlot.right (RSlot.right (RSlot.right (RSlot.right (RSlot.right (RSlot.right (RSlot.right (RSlot.right (RSlot.left))))))))))))))
theorem r17 : RSlot (Res c B X) (c : Thread nD τ) B.m17 (fun _ => X.x17) :=
  RSlot.right (RSlot.right (RSlot.right (RSlot.right (RSlot.right (RSlot.right (RSlot.right (RSlot.right (RSlot.right (RSlot.right (RSlot.right (RSlot.right (RSlot.right (RSlot.right (RSlot.right (RSlot.left)))))))))))))))
theorem r18 : RSlot (Res c B X) (c : Thread nD τ) B.m18 (fun _ => X.x18) :=
  RSlot.right (RSlot.right (RSlot.right (RSlot.right (RSlot.right (RSlot.right (RSlot.right (RSlot.right (RSlot.right (RSlot.right (RSlot.right (RSlot.right (RSlot.right (RSlot.right (RSlot.right (RSlot.right (RSlot.left))))))))))))))))
theorem r19 : RSlot (Res c B X) (c : Thread nD τ) B.m19 (fun _ => X.x19) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left)))))))))))))))))
theorem r20 : RSlot (Res c B X) (c : Thread nD τ) B.m20 (fun σ => σ.o) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left))))))))))))))))))
theorem s20 : WSlot (Res c B X) (c : Thread nD τ) B.m20 (fun σ => σ.o) (fun σ x => { σ with o := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.left (fun _ _ => rfl) (fun _ _ => rfl)))))))))))))))))))
theorem r21 : RSlot (Res c B X) (c : Thread nD τ) B.m21 (fun σ => σ.h) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left)))))))))))))))))))
theorem s21 : WSlot (Res c B X) (c : Thread nD τ) B.m21 (fun σ => σ.h) (fun σ x => { σ with h := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.left (fun _ _ => rfl) (fun _ _ => rfl))))))))))))))))))))
theorem r22 : RSlot (Res c B X) (c : Thread nD τ) B.m22 (fun σ => σ.q) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left))))))))))))))))))))
theorem s22 : WSlot (Res c B X) (c : Thread nD τ) B.m22 (fun σ => σ.q) (fun σ x => { σ with q := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.left (fun _ _ => rfl) (fun _ _ => rfl)))))))))))))))))))))
theorem r23 : RSlot (Res c B X) (c : Thread nD τ) B.m23 (fun σ => σ.k) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left)))))))))))))))))))))
theorem s23 : WSlot (Res c B X) (c : Thread nD τ) B.m23 (fun σ => σ.k) (fun σ x => { σ with k := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.left (fun _ _ => rfl) (fun _ _ => rfl))))))))))))))))))))))
theorem r24 : RSlot (Res c B X) (c : Thread nD τ) B.m24 (fun σ => σ.v) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left))))))))))))))))))))))
theorem s24 : WSlot (Res c B X) (c : Thread nD τ) B.m24 (fun σ => σ.v) (fun σ x => { σ with v := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.left (fun _ _ => rfl) (fun _ _ => rfl)))))))))))))))))))))))
theorem r25 : RSlot (Res c B X) (c : Thread nD τ) B.m25 (fun σ => σ.a) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left)))))))))))))))))))))))
theorem s25 : WSlot (Res c B X) (c : Thread nD τ) B.m25 (fun σ => σ.a) (fun σ x => { σ with a := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.left (fun _ _ => rfl) (fun _ _ => rfl))))))))))))))))))))))))
theorem r26 : RSlot (Res c B X) (c : Thread nD τ) B.m26 (fun σ => σ.f) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left))))))))))))))))))))))))
theorem s26 : WSlot (Res c B X) (c : Thread nD τ) B.m26 (fun σ => σ.f) (fun σ x => { σ with f := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.left (fun _ _ => rfl) (fun _ _ => rfl)))))))))))))))))))))))))
theorem r27 : RSlot (Res c B X) (c : Thread nD τ) B.m27 (fun σ => σ.kx) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.left)))))))))))))))))))))))))
theorem s27 : WSlot (Res c B X) (c : Thread nD τ) B.m27 (fun σ => σ.kx) (fun σ x => { σ with kx := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.left (fun _ _ => rfl) (fun _ _ => rfl))))))))))))))))))))))))))
theorem r28 : RSlot (Res c B X) (c : Thread nD τ) B.m28 (fun σ => σ.vx) :=
  RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.right (RSlot.last))))))))))))))))))))))))))
theorem s28 : WSlot (Res c B X) (c : Thread nD τ) B.m28 (fun σ => σ.vx) (fun σ x => { σ with vx := x }) :=
  WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.right (fun _ _ => rfl) (WSlot.last (fun _ _ => rfl)))))))))))))))))))))))))))

variable (𝒱 : Variants) (i : grid0.Coords)

/-- From the contents `σ` the program `p` runs to an answer and contents in the relation `Q`. -/
abbrev Runs {α : Type} (σ : St F) (p : Prog (TpuEff nD τ sig (Elt F) Λ₀ .tc) α) (Q : α → St F → Prop) : Prop :=
  EvQ (Ix := Unit) (Name := ℕ) (U := UR sig nD τ) (Lvl := ℕ) (Res c B X) (defs₀ (F := F)) 𝒱 (c : Thread nD τ) σ p Q

variable {c B X 𝒱}

/-- A program over the kernel's signature. -/
abbrev KProg (F : FTy → Type) (α : Type) := Prog (TpuEff nD τ sig (Elt F) Λ₀ .tc) α

theorem Runs.ret {α : Type} {σ : St F} {a : α} {Q : α → St F → Prop} (h : Q a σ) : Runs c B X 𝒱 σ (.ret a) Q := EvQ.ret h

theorem Runs.bind {α β : Type} {σ : St F} {p : KProg F α} {k : α → KProg F β} {Q : α → St F → Prop} {Q' : β → St F → Prop}
    (h : Runs c B X 𝒱 σ p Q) (hk : ∀ a σ', Q a σ' → Runs c B X 𝒱 σ' (k a) Q') : Runs c B X 𝒱 σ (p >>= k) Q' := EvQ.bind h hk

theorem Runs.cond {β : Type} {σ : St F} {b : Prop} {_dec : Decidable b} {t : b → KProg F β} {e : ¬ b → KProg F β}
    {Q : β → St F → Prop} (ht : ∀ h, Runs c B X 𝒱 σ (t h) Q) (he : ∀ h, Runs c B X 𝒱 σ (e h) Q) :
    Runs c B X 𝒱 σ (dite b t e) Q := by
  by_cases hb : b
  · rw [dif_pos hb]; exact ht hb
  · rw [dif_neg hb]; exact he hb

theorem Runs.assoc {α β γ : Type} {σ : St F} {p : KProg F α} {k : α → KProg F β} {k' : β → KProg F γ} {Q : γ → St F → Prop}
    (h : Runs c B X 𝒱 σ (p >>= fun a => k a >>= k') Q) : Runs c B X 𝒱 σ ((p >>= k) >>= k') Q := EvQ.assoc h

theorem Runs.load {α : Type} {s : Shape} {e : EltTy} {m : Memref sig .tc .vmem s e} {get : St F → s.Idx → Elt F e}
    (S : RSlot (Res c B X) (c : Thread nD τ) m get) {σ : St F} {r : LoadRect s} {hl : m.view.LoadsAt r}
    {k : (r.shape.Idx → Elt F e) → KProg F α} {Q : α → St F → Prop}
    (h : Runs c B X 𝒱 σ (k fun j => get σ (r.idx j)) Q) : Runs c B X 𝒱 σ (.op (.load m r hl) k) Q := EvQ.load S h

theorem Runs.store {α : Type} {s : Shape} {e : EltTy} {m : Memref sig .tc .vmem s e} {get : St F → s.Idx → Elt F e}
    {put : St F → (s.Idx → Elt F e) → St F} (S : WSlot (Res c B X) (c : Thread nD τ) m get put) {σ : St F} {r : Rect s} {w : r.shape.Idx → Elt F e}
    {hx : (m.access r).Stores Finset.univ} {hm : (Finset.univ : Finset r.shape.Idx) = Finset.univ ∨ ∀ a, r.stride a = 1}
    {k : PUnit → KProg F α} {Q : α → St F → Prop}
    (h : Runs c B X 𝒱 (put σ (r.overlay (get σ) w)) (k ⟨⟩) Q) : Runs c B X 𝒱 σ (.op (.store m r w Finset.univ hx hm) k) Q := EvQ.store S h

variable (c B X 𝒱)

set_option maxHeartbeats 0 in
theorem part1_runs (σ : St F) : Runs c B X 𝒱 σ (k0_part1 i B.m2 B.w2 B.m3 B.w3 B.m4 B.w4 B.m5 B.w5 B.m6 B.w6 B.m7 B.w7 B.m8 B.w8 B.m9 B.w9 B.m10 B.w10 B.m11 B.w11 B.m12 B.w12 B.m13 B.w13 B.m14 B.w14 B.m15 B.w15 B.m16 B.w16 B.m17 B.w17 B.m18 B.w18 B.m19 B.w19 B.m20 B.w20 B.m21 B.w21 B.m22 B.w22 B.m23 B.w23 B.m24 B.w24 B.m25 B.w25 B.m26 B.w26 B.m27 B.w27 B.m28 B.w28) fun _ _ => True := by
  unfold k0_part1
  refine Runs.cond (fun h => ?_) (fun h => ?_)
  · refine Runs.load (r27 c B X) ?_
    refine Runs.store (s27 c B X) ?_
    refine Runs.load (r28 c B X) ?_
    refine Runs.store (s28 c B X) ?_
    refine Runs.cond (fun h => ?_) (fun h => ?_)
    · refine Runs.load (r2 c B X) ?_
      refine Runs.load (r5 c B X) ?_
      refine Runs.load (r21 c B X) ?_
      refine Runs.store (s21 c B X) ?_
      refine Runs.load (r21 c B X) ?_
      refine Runs.load (r6 c B X) ?_
      refine Runs.load (r7 c B X) ?_
      exact Runs.ret trivial
    refine Runs.load (r21 c B X) ?_
    refine Runs.load (r6 c B X) ?_
    refine Runs.load (r7 c B X) ?_
    exact Runs.ret trivial
  · refine Runs.cond (fun h => ?_) (fun h => ?_)
    · refine Runs.load (r2 c B X) ?_
      refine Runs.load (r5 c B X) ?_
      refine Runs.load (r21 c B X) ?_
      refine Runs.store (s21 c B X) ?_
      refine Runs.load (r21 c B X) ?_
      refine Runs.load (r6 c B X) ?_
      refine Runs.load (r7 c B X) ?_
      exact Runs.ret trivial
    refine Runs.load (r21 c B X) ?_
    refine Runs.load (r6 c B X) ?_
    refine Runs.load (r7 c B X) ?_
    exact Runs.ret trivial

set_option maxHeartbeats 0 in
theorem body_runs (σ : St F) : Runs c B X 𝒱 σ (bodyOn i B) fun _ _ => True := by
  unfold bodyOn cc0__encoder_body k0_part233
  refine Runs.assoc ?_
  refine Runs.bind (part1_runs c B X 𝒱 i σ) ?_
  rintro ⟨arg0, v1, v11, v35⟩ σ -
  refine Runs.load (r8 c B X) ?_
  refine Runs.load (r22 c B X) ?_
  refine Runs.store (s22 c B X) ?_
  refine Runs.load (r9 c B X) ?_
  refine Runs.load (r23 c B X) ?_
  refine Runs.store (s23 c B X) ?_
  refine Runs.load (r10 c B X) ?_
  refine Runs.load (r24 c B X) ?_
  refine Runs.store (s24 c B X) ?_
  iterate 64
    refine Runs.load (r4 c B X) ?_
    iterate 8
      refine Runs.load (r23 c B X) ?_
      refine Runs.load (r27 c B X) ?_
      refine Runs.store (s27 c B X) ?_
      refine Runs.load (r24 c B X) ?_
      refine Runs.load (r28 c B X) ?_
      refine Runs.store (s28 c B X) ?_
    refine Runs.load (r3 c B X) ?_
    iterate 2
      refine Runs.load (r22 c B X) ?_
      refine Runs.load (r27 c B X) ?_
      refine Runs.load (r28 c B X) ?_
      refine Runs.load (r25 c B X) ?_
      refine Runs.store (s25 c B X) ?_
    refine EvQ.cut (I := fun _ => True) trivial ?_
    clear σ
    intro σ _
  refine Runs.load (r25 c B X) ?_
  refine Runs.load (r11 c B X) ?_
  refine Runs.load (r12 c B X) ?_
  refine Runs.load (r13 c B X) ?_
  refine Runs.load (r14 c B X) ?_
  refine Runs.load (r15 c B X) ?_
  refine Runs.load (r26 c B X) ?_
  refine Runs.store (s26 c B X) ?_
  refine Runs.load (r26 c B X) ?_
  refine Runs.load (r16 c B X) ?_
  refine Runs.load (r17 c B X) ?_
  refine Runs.load (r21 c B X) ?_
  refine Runs.store (s21 c B X) ?_
  refine Runs.cond (fun h => ?_) (fun h => ?_)
  · refine Runs.load (r21 c B X) ?_
    refine Runs.load (r18 c B X) ?_
    refine Runs.load (r19 c B X) ?_
    refine Runs.load (r20 c B X) ?_
    refine Runs.store (s20 c B X) ?_
    exact Runs.ret trivial
  · exact Runs.ret trivial

end Cert.KernelIdeal.Run

end
-- ==== Proof.Region.lean ====
module

public import proofs.«01_k».proof.Proof.Gen.KernelIdeal.Frame
public import proofs.«01_k».proof.Proof.Run
public import Idealize.ShloMosaic.Lib.Pipeline.DatRel

@[expose] public section

set_option maxRecDepth 65536
set_option pp.maxSteps 3000

noncomputable section

namespace Cert.KernelIdeal.Run

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open BodyRun
open Cert.KernelIdeal.Gen

variable {F : FTy → Type} [FloatOps F] [Named F]

variable (m : (ℓ : Loc nD τ sig) → Buf (Elt F) ℓ)

/-- The staged inputs' blocks at point `t`. -/
noncomputable def ins (c : Dev nD) (t : Fin cfg0.N) : Ins F where
  x2 := iblk m c 0 t
  x3 := iblk m c 1 t
  x4 := iblk m c 2 t
  x5 := iblk m c 3 t
  x6 := iblk m c 4 t
  x7 := iblk m c 5 t
  x8 := iblk m c 6 t
  x9 := iblk m c 7 t
  x10 := iblk m c 8 t
  x11 := iblk m c 9 t
  x12 := iblk m c 10 t
  x13 := iblk m c 11 t
  x14 := iblk m c 12 t
  x15 := iblk m c 13 t
  x16 := iblk m c 14 t
  x17 := iblk m c 15 t
  x18 := iblk m c 16 t
  x19 := iblk m c 17 t

/-- The buffers the body is given at point `t`. -/
noncomputable def bufsAt (t : Fin cfg0.N) : Bufs where
  m2 := win0_0.stage (cfg0.slots t 0)
  w2 := hstage0_0 ((cfg0.slots t 0).cast nbuf0_0)
  m3 := win0_1.stage (cfg0.slots t 1)
  w3 := hstage0_1 ((cfg0.slots t 1).cast nbuf0_1)
  m4 := win0_2.stage (cfg0.slots t 2)
  w4 := hstage0_2 ((cfg0.slots t 2).cast nbuf0_2)
  m5 := win0_3.stage (cfg0.slots t 3)
  w5 := hstage0_3 ((cfg0.slots t 3).cast nbuf0_3)
  m6 := win0_4.stage (cfg0.slots t 4)
  w6 := hstage0_4 ((cfg0.slots t 4).cast nbuf0_4)
  m7 := win0_5.stage (cfg0.slots t 5)
  w7 := hstage0_5 ((cfg0.slots t 5).cast nbuf0_5)
  m8 := win0_6.stage (cfg0.slots t 6)
  w8 := hstage0_6 ((cfg0.slots t 6).cast nbuf0_6)
  m9 := win0_7.stage (cfg0.slots t 7)
  w9 := hstage0_7 ((cfg0.slots t 7).cast nbuf0_7)
  m10 := win0_8.stage (cfg0.slots t 8)
  w10 := hstage0_8 ((cfg0.slots t 8).cast nbuf0_8)
  m11 := win0_9.stage (cfg0.slots t 9)
  w11 := hstage0_9 ((cfg0.slots t 9).cast nbuf0_9)
  m12 := win0_10.stage (cfg0.slots t 10)
  w12 := hstage0_10 ((cfg0.slots t 10).cast nbuf0_10)
  m13 := win0_11.stage (cfg0.slots t 11)
  w13 := hstage0_11 ((cfg0.slots t 11).cast nbuf0_11)
  m14 := win0_12.stage (cfg0.slots t 12)
  w14 := hstage0_12 ((cfg0.slots t 12).cast nbuf0_12)
  m15 := win0_13.stage (cfg0.slots t 13)
  w15 := hstage0_13 ((cfg0.slots t 13).cast nbuf0_13)
  m16 := win0_14.stage (cfg0.slots t 14)
  w16 := hstage0_14 ((cfg0.slots t 14).cast nbuf0_14)
  m17 := win0_15.stage (cfg0.slots t 15)
  w17 := hstage0_15 ((cfg0.slots t 15).cast nbuf0_15)
  m18 := win0_16.stage (cfg0.slots t 16)
  w18 := hstage0_16 ((cfg0.slots t 16).cast nbuf0_16)
  m19 := win0_17.stage (cfg0.slots t 17)
  w19 := hstage0_17 ((cfg0.slots t 17).cast nbuf0_17)
  m20 := win0_18.stage (cfg0.slots t 18)
  w20 := hstage0_18 ((cfg0.slots t 18).cast nbuf0_18)
  m21 := Memref.whole cc0_scratch0
  w21 := Memref.isWhole_whole _
  m22 := Memref.whole cc0_scratch1
  w22 := Memref.isWhole_whole _
  m23 := Memref.whole cc0_scratch2
  w23 := Memref.isWhole_whole _
  m24 := Memref.whole cc0_scratch3
  w24 := Memref.isWhole_whole _
  m25 := Memref.whole cc0_scratch4
  w25 := Memref.isWhole_whole _
  m26 := Memref.whole cc0_scratch5
  w26 := Memref.isWhole_whole _
  m27 := Memref.whole cc0_scratch6
  w27 := Memref.isWhole_whole _
  m28 := Memref.whole cc0_scratch7
  w28 := Memref.isWhole_whole _

/-- The scratch at the contents `σ` names. -/
noncomputable def scr (c : Dev nD) (σ : St F) : sProp (MT nD τ sig Unit (Elt F) ℕ (UR sig nD τ) ℕ) :=
  iprop(owns (c : Thread nD τ) (Memref.whole cc0_scratch0) fullShare σ.h ∗ owns (c : Thread nD τ) (Memref.whole cc0_scratch1) fullShare σ.q ∗ owns (c : Thread nD τ) (Memref.whole cc0_scratch2) fullShare σ.k ∗ owns (c : Thread nD τ) (Memref.whole cc0_scratch3) fullShare σ.v ∗ owns (c : Thread nD τ) (Memref.whole cc0_scratch4) fullShare σ.a ∗ owns (c : Thread nD τ) (Memref.whole cc0_scratch5) fullShare σ.f ∗ owns (c : Thread nD τ) (Memref.whole cc0_scratch6) fullShare σ.kx ∗ owns (c : Thread nD τ) (Memref.whole cc0_scratch7) fullShare σ.vx)

variable (J : Dev nD → ℕ → St F → Prop) (R : Dev nD → Fin cfg0.N → (S128x256.Idx → Elt F .f32) → Prop)

/-- Before point `n`: the scratch at contents the invariant allows, and the generator's register. -/
noncomputable def Phi (c : Dev nD) (n : ℕ) : sProp (MT nD τ sig Unit (Elt F) ℕ (UR sig nD τ) ℕ) :=
  iprop((∃ σ, ⌜J c n σ⌝ ∗ scr c σ) ∗ ∃ r, prngReg c r)

/-- The proof data: each staged input's block left in place. -/
noncomputable def dat (c : Dev nD) : Pipeline.Dat τ (Elt F) Unit ℕ (UR sig nD τ) ℕ cfg0 c where
  A w := V m c (Pipeline.arrRef spec0 w)
  after w t := (cfg0.win w).fill (grid0.coords t) (Pipeline.Dat.unnamed (cfg := cfg0) w t) (iblk m c w t)
  Φ t := Phi J c t.val
  q _ := fullShare
  owed _ := 0

/-- Only the output window is described by a relation. -/
noncomputable def fgt : Fin 19 → Bool := fun
  | 18 => true
  | _ => false

/-- What the output window's buffer holds after point `t`. -/
noncomputable def rel (c : Dev nD) : (w : Fin 19) → Fin cfg0.N → ((cfg0.win w).block.Idx → Elt F (cfg0.win w).elt) → Prop := fun
  | 18 => fun t X => R c t X
  | _ => fun _ _ => True

/-- The body takes contents the invariant allows before a point to contents it allows after. -/
def Steps : Prop := ∀ (c : Dev nD) (t : Fin cfg0.N) (B : Bufs) (𝒱 : Variants) (σ : St F), J c t.val σ →
  Runs c B (ins m c t) 𝒱 σ (bodyOn (grid0.coords t) B) fun _ σ' => J c (t.val + 1) σ' ∧ R c t σ'.o

theorem dat_A (c : Dev nD) (w : Fin cfg0.W) : (dat m J c).A w = V m c (Pipeline.arrRef spec0 w) := rfl

theorem dat_after (c : Dev nD) (w : Fin cfg0.W) (t : Fin cfg0.N) :
    (dat m J c).after w t = (cfg0.win w).fill (grid0.coords t) (Pipeline.Dat.unnamed (cfg := cfg0) w t) (iblk m c w t) := rfl

theorem fill_0 (t : Fin cfg0.N) (d) (x : ((cfg0.win 0).xblock (grid0.coords t)).Idx → Elt F (cfg0.win 0).elt) :
    (cfg0.win 0).fill (grid0.coords t) d x = x := rfl
theorem bef_0 (c : Dev nD) (t : Fin cfg0.N) (d) : (dat m J c).before 0 t d = iblk m c 0 t :=
  before0_0_of m (dat m J c) (dat_A m J c 0) (fun t => (dat_after m J c 0 t).trans (fill_0 t _ _)) t d
theorem fill_1 (t : Fin cfg0.N) (d) (x : ((cfg0.win 1).xblock (grid0.coords t)).Idx → Elt F (cfg0.win 1).elt) :
    (cfg0.win 1).fill (grid0.coords t) d x = x := rfl
theorem bef_1 (c : Dev nD) (t : Fin cfg0.N) (d) : (dat m J c).before 1 t d = iblk m c 1 t :=
  before0_1_of m (dat m J c) (dat_A m J c 1) (fun t => (dat_after m J c 1 t).trans (fill_1 t _ _)) t d
theorem fill_2 (t : Fin cfg0.N) (d) (x : ((cfg0.win 2).xblock (grid0.coords t)).Idx → Elt F (cfg0.win 2).elt) :
    (cfg0.win 2).fill (grid0.coords t) d x = x := rfl
theorem bef_2 (c : Dev nD) (t : Fin cfg0.N) (d) : (dat m J c).before 2 t d = iblk m c 2 t :=
  before0_2_of m (dat m J c) (dat_A m J c 2) (fun t => (dat_after m J c 2 t).trans (fill_2 t _ _)) t d
theorem fill_3 (t : Fin cfg0.N) (d) (x : ((cfg0.win 3).xblock (grid0.coords t)).Idx → Elt F (cfg0.win 3).elt) :
    (cfg0.win 3).fill (grid0.coords t) d x = x := rfl
theorem bef_3 (c : Dev nD) (t : Fin cfg0.N) (d) : (dat m J c).before 3 t d = iblk m c 3 t :=
  before0_3_of m (dat m J c) (dat_A m J c 3) (fun t => (dat_after m J c 3 t).trans (fill_3 t _ _)) t d
theorem fill_4 (t : Fin cfg0.N) (d) (x : ((cfg0.win 4).xblock (grid0.coords t)).Idx → Elt F (cfg0.win 4).elt) :
    (cfg0.win 4).fill (grid0.coords t) d x = x := rfl
theorem bef_4 (c : Dev nD) (t : Fin cfg0.N) (d) : (dat m J c).before 4 t d = iblk m c 4 t :=
  before0_4_of m (dat m J c) (dat_A m J c 4) (fun t => (dat_after m J c 4 t).trans (fill_4 t _ _)) t d
theorem fill_5 (t : Fin cfg0.N) (d) (x : ((cfg0.win 5).xblock (grid0.coords t)).Idx → Elt F (cfg0.win 5).elt) :
    (cfg0.win 5).fill (grid0.coords t) d x = x := rfl
theorem bef_5 (c : Dev nD) (t : Fin cfg0.N) (d) : (dat m J c).before 5 t d = iblk m c 5 t :=
  before0_5_of m (dat m J c) (dat_A m J c 5) (fun t => (dat_after m J c 5 t).trans (fill_5 t _ _)) t d
theorem fill_6 (t : Fin cfg0.N) (d) (x : ((cfg0.win 6).xblock (grid0.coords t)).Idx → Elt F (cfg0.win 6).elt) :
    (cfg0.win 6).fill (grid0.coords t) d x = x := rfl
theorem bef_6 (c : Dev nD) (t : Fin cfg0.N) (d) : (dat m J c).before 6 t d = iblk m c 6 t :=
  before0_6_of m (dat m J c) (dat_A m J c 6) (fun t => (dat_after m J c 6 t).trans (fill_6 t _ _)) t d
theorem fill_7 (t : Fin cfg0.N) (d) (x : ((cfg0.win 7).xblock (grid0.coords t)).Idx → Elt F (cfg0.win 7).elt) :
    (cfg0.win 7).fill (grid0.coords t) d x = x := rfl
theorem bef_7 (c : Dev nD) (t : Fin cfg0.N) (d) : (dat m J c).before 7 t d = iblk m c 7 t :=
  before0_7_of m (dat m J c) (dat_A m J c 7) (fun t => (dat_after m J c 7 t).trans (fill_7 t _ _)) t d
theorem fill_8 (t : Fin cfg0.N) (d) (x : ((cfg0.win 8).xblock (grid0.coords t)).Idx → Elt F (cfg0.win 8).elt) :
    (cfg0.win 8).fill (grid0.coords t) d x = x := rfl
theorem bef_8 (c : Dev nD) (t : Fin cfg0.N) (d) : (dat m J c).before 8 t d = iblk m c 8 t :=
  before0_8_of m (dat m J c) (dat_A m J c 8) (fun t => (dat_after m J c 8 t).trans (fill_8 t _ _)) t d
theorem fill_9 (t : Fin cfg0.N) (d) (x : ((cfg0.win 9).xblock (grid0.coords t)).Idx → Elt F (cfg0.win 9).elt) :
    (cfg0.win 9).fill (grid0.coords t) d x = x := rfl
theorem bef_9 (c : Dev nD) (t : Fin cfg0.N) (d) : (dat m J c).before 9 t d = iblk m c 9 t :=
  before0_9_of m (dat m J c) (dat_A m J c 9) (fun t => (dat_after m J c 9 t).trans (fill_9 t _ _)) t d
theorem fill_10 (t : Fin cfg0.N) (d) (x : ((cfg0.win 10).xblock (grid0.coords t)).Idx → Elt F (cfg0.win 10).elt) :
    (cfg0.win 10).fill (grid0.coords t) d x = x := rfl
theorem bef_10 (c : Dev nD) (t : Fin cfg0.N) (d) : (dat m J c).before 10 t d = iblk m c 10 t :=
  before0_10_of m (dat m J c) (dat_A m J c 10) (fun t => (dat_after m J c 10 t).trans (fill_10 t _ _)) t d
theorem fill_11 (t : Fin cfg0.N) (d) (x : ((cfg0.win 11).xblock (grid0.coords t)).Idx → Elt F (cfg0.win 11).elt) :
    (cfg0.win 11).fill (grid0.coords t) d x = x := rfl
theorem bef_11 (c : Dev nD) (t : Fin cfg0.N) (d) : (dat m J c).before 11 t d = iblk m c 11 t :=
  before0_11_of m (dat m J c) (dat_A m J c 11) (fun t => (dat_after m J c 11 t).trans (fill_11 t _ _)) t d
theorem fill_12 (t : Fin cfg0.N) (d) (x : ((cfg0.win 12).xblock (grid0.coords t)).Idx → Elt F (cfg0.win 12).elt) :
    (cfg0.win 12).fill (grid0.coords t) d x = x := rfl
theorem bef_12 (c : Dev nD) (t : Fin cfg0.N) (d) : (dat m J c).before 12 t d = iblk m c 12 t :=
  before0_12_of m (dat m J c) (dat_A m J c 12) (fun t => (dat_after m J c 12 t).trans (fill_12 t _ _)) t d
theorem fill_13 (t : Fin cfg0.N) (d) (x : ((cfg0.win 13).xblock (grid0.coords t)).Idx → Elt F (cfg0.win 13).elt) :
    (cfg0.win 13).fill (grid0.coords t) d x = x := rfl
theorem bef_13 (c : Dev nD) (t : Fin cfg0.N) (d) : (dat m J c).before 13 t d = iblk m c 13 t :=
  before0_13_of m (dat m J c) (dat_A m J c 13) (fun t => (dat_after m J c 13 t).trans (fill_13 t _ _)) t d
theorem fill_14 (t : Fin cfg0.N) (d) (x : ((cfg0.win 14).xblock (grid0.coords t)).Idx → Elt F (cfg0.win 14).elt) :
    (cfg0.win 14).fill (grid0.coords t) d x = x := rfl
theorem bef_14 (c : Dev nD) (t : Fin cfg0.N) (d) : (dat m J c).before 14 t d = iblk m c 14 t :=
  before0_14_of m (dat m J c) (dat_A m J c 14) (fun t => (dat_after m J c 14 t).trans (fill_14 t _ _)) t d
theorem fill_15 (t : Fin cfg0.N) (d) (x : ((cfg0.win 15).xblock (grid0.coords t)).Idx → Elt F (cfg0.win 15).elt) :
    (cfg0.win 15).fill (grid0.coords t) d x = x := rfl
theorem bef_15 (c : Dev nD) (t : Fin cfg0.N) (d) : (dat m J c).before 15 t d = iblk m c 15 t :=
  before0_15_of m (dat m J c) (dat_A m J c 15) (fun t => (dat_after m J c 15 t).trans (fill_15 t _ _)) t d
theorem fill_16 (t : Fin cfg0.N) (d) (x : ((cfg0.win 16).xblock (grid0.coords t)).Idx → Elt F (cfg0.win 16).elt) :
    (cfg0.win 16).fill (grid0.coords t) d x = x := rfl
theorem bef_16 (c : Dev nD) (t : Fin cfg0.N) (d) : (dat m J c).before 16 t d = iblk m c 16 t :=
  before0_16_of m (dat m J c) (dat_A m J c 16) (fun t => (dat_after m J c 16 t).trans (fill_16 t _ _)) t d
theorem fill_17 (t : Fin cfg0.N) (d) (x : ((cfg0.win 17).xblock (grid0.coords t)).Idx → Elt F (cfg0.win 17).elt) :
    (cfg0.win 17).fill (grid0.coords t) d x = x := rfl
theorem bef_17 (c : Dev nD) (t : Fin cfg0.N) (d) : (dat m J c).before 17 t d = iblk m c 17 t :=
  before0_17_of m (dat m J c) (dat_A m J c 17) (fun t => (dat_after m J c 17 t).trans (fill_17 t _ _)) t d
variable {J R m}

set_option maxHeartbeats 0 in
theorem body_ob (hJ : ∀ c n σ x, J c n σ → J c n { σ with o := x }) (hs : Steps m J R) (𝒱 : Variants) (c : Dev nD) :
    Pipeline.BodyObligationRel (dat m J c) defs₀ 𝒱 () Set.univ fgt (rel R c) := by
  intro t
  rw [bigSep_W0, bigSep_W0]
  refine Entails.trans (Q := iprop(∃ σ, ⌜J c t.val σ⌝ ∗ Res c (bufsAt t) (ins m c t) σ ∗ (∃ r, prngReg c r) ∗ (dat m J c).owesAt () t.castSucc)) ?_ ?_
  · show iprop(Phi J c t.val ∗ _ ∗ _) ⊢ _
    dsimp only [fgt]
    simp only [bef_0, bef_1, bef_2, bef_3, bef_4, bef_5, bef_6, bef_7, bef_8, bef_9, bef_10, bef_11, bef_12, bef_13, bef_14, bef_15, bef_16, bef_17]
    unfold Phi scr
    iintro ⟨⟨⟨%σ, %hσ, HS⟩, HP⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%Y, -, H18⟩⟩
    iexists { σ with o := Y }
    isplitr; · ipureintro; exact hJ _ _ _ _ hσ
    isplitr [HP HO]
    · unfold Res
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact HS
    · isplitl [HP]; · iexact HP
      iexact HO
  · have h := hs c t (bufsAt t) 𝒱
    unfold Runs EvQ at h
    refine Entails.trans (Q := iprop(wp frame (wpE defs₀ 𝒱 (c : Thread nD τ) none) Set.univ (bodyOn (grid0.coords t) (bufsAt t))
      (fun _ => iprop(∃ σ', ⌜J c (t.val + 1) σ' ∧ R c t σ'.o⌝ ∗ Res c (bufsAt t) (ins m c t) σ'))
        ∗ ((∃ r, prngReg c r) ∗ (dat m J c).owesAt () t.castSucc))) ?_ ?_
    · iintro ⟨%σ, %hσ, HR, HP⟩
      isplitl [HR]
      · iapply (h σ hσ); iexact HR
      · iexact HP
    refine (wp_frame_r frame _ _).trans (wp_mono frame _ _ fun a => ?_)
    dsimp only [fgt]
    show iprop((∃ σ', ⌜J c (t.val + 1) σ' ∧ R c t σ'.o⌝ ∗ Res c (bufsAt t) (ins m c t) σ')
        ∗ ((∃ r, prngReg c r) ∗ (dat m J c).owesAt () t.castSucc)) ⊢ iprop(Phi J c (t.val + 1) ∗ (dat m J c).owesAt () t.castSucc ∗
      owns (c : Thread nD τ) ((bufsAt t).m2) fullShare ((ins m c t).x2) ∗
      owns (c : Thread nD τ) ((bufsAt t).m3) fullShare ((ins m c t).x3) ∗
      owns (c : Thread nD τ) ((bufsAt t).m4) fullShare ((ins m c t).x4) ∗
      owns (c : Thread nD τ) ((bufsAt t).m5) fullShare ((ins m c t).x5) ∗
      owns (c : Thread nD τ) ((bufsAt t).m6) fullShare ((ins m c t).x6) ∗
      owns (c : Thread nD τ) ((bufsAt t).m7) fullShare ((ins m c t).x7) ∗
      owns (c : Thread nD τ) ((bufsAt t).m8) fullShare ((ins m c t).x8) ∗
      owns (c : Thread nD τ) ((bufsAt t).m9) fullShare ((ins m c t).x9) ∗
      owns (c : Thread nD τ) ((bufsAt t).m10) fullShare ((ins m c t).x10) ∗
      owns (c : Thread nD τ) ((bufsAt t).m11) fullShare ((ins m c t).x11) ∗
      owns (c : Thread nD τ) ((bufsAt t).m12) fullShare ((ins m c t).x12) ∗
      owns (c : Thread nD τ) ((bufsAt t).m13) fullShare ((ins m c t).x13) ∗
      owns (c : Thread nD τ) ((bufsAt t).m14) fullShare ((ins m c t).x14) ∗
      owns (c : Thread nD τ) ((bufsAt t).m15) fullShare ((ins m c t).x15) ∗
      owns (c : Thread nD τ) ((bufsAt t).m16) fullShare ((ins m c t).x16) ∗
      owns (c : Thread nD τ) ((bufsAt t).m17) fullShare ((ins m c t).x17) ∗
      owns (c : Thread nD τ) ((bufsAt t).m18) fullShare ((ins m c t).x18) ∗
      owns (c : Thread nD τ) ((bufsAt t).m19) fullShare ((ins m c t).x19) ∗
      ∃ X, ⌜R c t X⌝ ∗ owns (c : Thread nD τ) ((bufsAt t).m20) fullShare X)
    unfold Res
    iintro ⟨⟨%σ', %hq, H0, H1, H2, H3, H4, H5, H6, H7, H8, H9, H10, H11, H12, H13, H14, H15, H16, H17, H18, HS⟩, HP, HO⟩
    isplitl [HS HP]
    · unfold Phi
      isplitl [HS]
      · iexists σ'
        isplitr; · ipureintro; exact hq.1
        unfold scr; iexact HS
      · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexists σ'.o
    isplitr; · ipureintro; exact hq.2
    iexact H18

variable (ρ : Dev nD → PrngReg)

/-- The region's relational proof data. -/
noncomputable abbrev rdat (m : (ℓ : Loc nD τ sig) → Buf (Elt F) ℓ) (J : Dev nD → ℕ → St F → Prop)
    (R : Dev nD → Fin cfg0.N → (S128x256.Idx → Elt F .f32) → Prop) (c : Dev nD) :=
  (dat m J c).toRRel fgt (rel R c)

theorem share_full (c : Dev nD) (w : Fin cfg0.W) : (dat m J c).share w = fullShare := by
  unfold Pipeline.Dat.share; split <;> rfl

theorem Phi_in (h0 : ∀ c σ, J c 0 σ) (c : Dev nD) : Pipeline.ΦA spec0 c ⊢ (Phi J c 0 : sProp (MT nD τ sig Unit (Elt F) ℕ (UR sig nD τ) ℕ)) := by
  unfold Pipeline.ΦA Phi scr
  rw [scopedRest0_eq]
  simp only [owns_whole]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, HP⟩
  isplitr [HP]
  · iexists (⟨Pipeline.Dat.unnamed (cfg := cfg0) 18 ⟨0, by decide⟩, f0, f1, f2, f3, f4, f5, f6, f7⟩ : St F)
    isplitr; · ipureintro; exact h0 _ _
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iexact HP

theorem Phi_out (c : Dev nD) (n : ℕ) : (Phi J c n : sProp (MT nD τ sig Unit (Elt F) ℕ (UR sig nD τ) ℕ)) ⊢ Pipeline.ΦA spec0 c := by
  unfold Pipeline.ΦA Phi scr
  rw [scopedRest0_eq]
  simp only [owns_whole]
  iintro ⟨⟨%σ, -, H0, H1, H2, H3, H4, H5, H6, H7⟩, HP⟩
  isplitr [HP]
  · isplitl [H0]; · iexists σ.h; iexact H0
    isplitl [H1]; · iexists σ.q; iexact H1
    isplitl [H2]; · iexists σ.k; iexact H2
    isplitl [H3]; · iexists σ.v; iexact H3
    isplitl [H4]; · iexists σ.a; iexact H4
    isplitl [H5]; · iexists σ.f; iexact H5
    isplitl [H6]; · iexists σ.kx; iexact H6
    iexists σ.vx; iexact H7
  · iexact HP

/-- The whole program runs, every array as the proof data say and every counter at zero. -/
theorem region_run (hJ : ∀ c n σ x, J c n σ → J c n { σ with o := x }) (h0 : ∀ c σ, J c 0 σ) (hs : Steps m J R) :
    θ_run (defs (F := F)) (onTc (τ := τ) (main (F := F))) (s₀ m ρ) fun r =>
      Pipeline.RDat.FramePost cfg0 (rdat m J R) (V m) r ∧ r.2.sem = fun _ => 0 :=
  Pipeline.RDat.θ_run_frame_track cfgs 0 launch0 defs₀ Variants.none (rdat m J R) m ρ main
    (fun c => (body_ob hJ hs _ c).toRRel) (fun c w => share_full (m := m) (J := J) c w) (fun _ _ => rfl) (V m) (hmain m _) (fun c w => dat_A m J c w)
    (fun c => Phi_in h0 c) (fun c => Phi_out c _) _ (fun _ h => h)

set_option maxHeartbeats 0 in
/-- Every argument array ends as it was launched. -/
theorem args_of {r : PUnit × MemSt nD τ sig (Elt F)} (h : Pipeline.RDat.FramePost cfg0 (rdat m J R) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (h.arr_in c 7 rfl).trans ((dat_A m J c 7).trans (V_main_arg6 m c)),
    (h.arr_in c 8 rfl).trans ((dat_A m J c 8).trans (V_main_arg7 m c)),
    (h.arr_in c 9 rfl).trans ((dat_A m J c 9).trans (V_main_arg8 m c)),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    (h.arr_in c 12 rfl).trans ((dat_A m J c 12).trans (V_main_arg11 m c)),
    ((h c).2 main_arg12 (Pipeline.mem_restRefs_of main_arg12 (by decide) (by decide))).trans (V_main_arg12 m c),
    (h.arr_in c 14 rfl).trans ((dat_A m J c 14).trans (V_main_arg13 m c)),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c)⟩

end Cert.KernelIdeal.Run

end
-- ==== Proof.Frames.lean ====
module

public import proofs.«01_k».proof.Defs
public import proofs.«01_k».proof.Proof.Region
public import proofs.«01_k».proof.Proof.RegionK
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Frames

open Idealize.ShloMosaic Idealize.ShloMosaic.TcCoe Idealize.SL.Sem

/-- The kernel runs, its arguments unchanged and every counter at zero. -/
theorem kernel : Cert.quiescent_Kernel := fun m g _ =>
  (θ_run Cert.Kernel.defs _ _).mono (fun _ h => ⟨fun c => Cert.Kernel.Run.args_of h.1 c, h.2⟩)
    (Cert.Kernel.Run.region_run (F := Bits) (m := m) (J := fun _ _ _ => True) (R := fun _ _ _ => True) g (fun _ _ _ _ _ => trivial) (fun _ _ => trivial)
      (fun c t B 𝒱 σ _ => BodyRun.EvQ.mono (Cert.Kernel.Run.body_runs c B _ 𝒱 _ σ) fun _ _ _ => ⟨trivial, trivial⟩))

/-- The idealized kernel runs, its arguments unchanged and every counter at zero. -/
theorem kernelIdeal : Cert.quiescent_KernelIdeal := fun m g _ =>
  (θ_run Cert.KernelIdeal.defs _ _).mono (fun _ h => ⟨fun c => Cert.KernelIdeal.Run.args_of h.1 c, h.2⟩)
    (Cert.KernelIdeal.Run.region_run (F := Ideal) (m := m) (J := fun _ _ _ => True) (R := fun _ _ _ => True) g (fun _ _ _ _ _ => trivial) (fun _ _ => trivial)
      (fun c t B 𝒱 σ _ => BodyRun.EvQ.mono (Cert.KernelIdeal.Run.body_runs c B _ 𝒱 _ σ) fun _ _ _ => ⟨trivial, trivial⟩))

/-- The idealized reference runs, its arguments unchanged and every counter at zero. -/
theorem referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant stands where the kernel's literal did. -/
theorem preserves : Cert.preserves_Kernel_KernelIdeal :=
  IdealRules.named_const.statement Cert.KernelIdeal.κ "mask" .f32 0xCE6E6B28#32 ⊥ rfl

end Cert.Frames

end
-- ==== Proof.PreVal.lean ====
/-
  What the precondition says of the arguments: every token is below 24 and every float is finite.
-/
module

public import proofs.«01_k».proof.Pre_drawn
public import Idealize.ShloMosaic.Lib.KernelVsHost
public import Idealize.ShloMosaic.Lib.WordCmp
public import Idealize.ShloMosaic.Lib.Affine
public import Idealize.ShloMosaic.Lib.Pointwise

@[expose] public section

set_option maxRecDepth 65536

namespace Cert.Pre_drawn.Read
open Idealize.ShloMosaic Cert.Pre_drawn

theorem facts : Cert.Pre_drawn.Facts where
  bcast_S_S1024x20 := by decide
  reducesTo_S1024x20_S_d0_1 := by decide
  h_S_ := by decide
  bcast_S_S24x256 := by decide
  reducesTo_S24x256_S_d0_1 := by decide
  bcast_S_S20x256 := by decide
  reducesTo_S20x256_S_d0_1 := by decide
  bcast_S_S12x256 := by decide
  reducesTo_S12x256_S_d0_1 := by decide
  bcast_S_S12x256x256 := by decide
  reducesTo_S12x256x256_S_d0_1_2 := by decide
  bcast_S_S12x256x1024 := by decide
  reducesTo_S12x256x1024_S_d0_1_2 := by decide
  bcast_S_S12x1024 := by decide
  reducesTo_S12x1024_S_d0_1 := by decide
  bcast_S_S12x1024x256 := by decide
  reducesTo_S12x1024x256_S_d0_1_2 := by decide
  bcast_S_S256 := by decide
  reducesTo_S256_S_d0 := by decide

/-- A conjunction's fold is true only of true bits. -/
theorem fold_and {ι : Type} (f : ι → BitVec 1) : ∀ (l : List ι) (a : BitVec 1), l.foldl (fun r n => IntOp.andi r (f n)) a = 1#1 → a = 1#1 ∧ ∀ n ∈ l, f n = 1#1
  | [], a, h => ⟨h, fun _ hn => absurd hn List.not_mem_nil⟩
  | n :: l, a, h => by
    obtain ⟨h1, h2⟩ := fold_and f l _ h
    obtain ⟨h3, h4⟩ := IntOp.andi_eq_one.mp h1
    refine ⟨h3, fun k hk => ?_⟩
    rcases List.mem_cons.mp hk with rfl | hk
    · exact h4
    · exact h2 k hk

/-- A conjunction over a whole array is true only if every entry is. -/
theorem all_of {s : Shape} {axes : List (Fin s.rank)} (x : IVec s 1) (v : IVec S_ 1) (h : s.ReducesTo axes S_) (hu : 0 < S_.numel) (j : S_.Idx)
    (e : Host.reduce IntOp.andi x v h hu j = 1#1) (i : s.Idx) : x i = 1#1 := by
  have := (fold_and _ _ _ e).2 (s.rowMajor i) (List.mem_filter.mpr ⟨List.mem_finRange _, by
    rw [Equiv.symm_apply_apply]; exact decide_eq_true (funext fun a => a.elim0)⟩)
  rwa [Equiv.symm_apply_apply] at this

/-- An entry whose absolute value is below infinity is a real number. -/
theorem fin_of {s : Shape} {axes : List (Fin s.rank)} (x : FVec Ideal s .f32) (v : IVec S_ 1) (h : s.ReducesTo axes S_) (hu : 0 < S_.numel) (hb : S_.BroadcastsInDim s (![] : Fin 0 → Fin s.rank)) (j : S_.Idx)
    (e : Host.reduce IntOp.andi (cmpf .olt (Host.absf x) (broadcastInDim s ![] hb (constant S_ .f32 0x7F800000#32))) v h hu j = 1#1) (i : s.Idx) : (x i : EReal) = (((x i : EReal).toReal : ℝ) : EReal) := by
  have h1 := all_of _ _ _ _ _ e i
  have h2 : FloatOps.cmpf .olt (FloatOps.hostAbsf (x i)) (FloatOps.ofBits (F := Ideal) .f32 0x7F800000#32) = 1#1 := h1
  rw [← Ideal.xori_weird_eq_hostAbsf_olt_inf] at h2
  have h3 : IntOp.xori (BitVec.ofBool (decide ((x i : EReal) = ⊤ ∨ (x i : EReal) = ⊥))) 1#1 = 1#1 := h2
  by_cases hx : (x i : EReal) = ⊤ ∨ (x i : EReal) = ⊥
  · rw [decide_eq_true hx] at h3
    exact absurd h3 (by decide)
  · push Not at hx
    exact (EReal.coe_toReal hx.1 hx.2).symm

/-- A token between the two bounds is below 24. -/
theorem tok_of (x : IVec S1024x20 32) (v v' : IVec S_ 1) (h h' : S1024x20.ReducesTo [0, 1] S_) (hu hu' : 0 < S_.numel) (hb hb' : S_.BroadcastsInDim S1024x20 (![] : Fin 0 → Fin S1024x20.rank)) (j : S_.Idx)
    (e : Host.reduce IntOp.andi (cmpi .sge x (broadcastInDim S1024x20 ![] hb (constantI S_ 32 0#32))) v h hu j = 1#1)
    (e' : Host.reduce IntOp.andi (cmpi .slt x (broadcastInDim S1024x20 ![] hb' (constantI S_ 32 24#32))) v' h' hu' j = 1#1) (i : S1024x20.Idx) : (x i).toNat < 24 := by
  have h1 : IntOp.cmpi .sge (x i) 0#32 = 1#1 := all_of _ _ _ _ _ e i
  have h2 : IntOp.cmpi .slt (x i) 24#32 = 1#1 := all_of _ _ _ _ _ e' i
  have h3 := WordCmp.andi_sge_zero_slt_ofNat (w := 32) (k := 24) (by norm_num) (x i)
  rw [h1, show IntOp.cmpi .slt (x i) (BitVec.ofNat 32 24) = 1#1 from h2] at h3
  by_contra hx
  rw [decide_eq_false hx] at h3
  exact absurd h3 (by decide)

variable [Cert.Pre_drawn.Facts]

set_option maxHeartbeats 0 in
theorem reads {a0 : IVec S1024x20 32} {a1 : FVec Ideal S24x256 .f32} {a2 : FVec Ideal S20x256 .f32} {a3 a4 : FVec Ideal S12x256 .f32} {a5 a6 a7 a8 : FVec Ideal S12x256x256 .f32}
    {a9 a10 : FVec Ideal S12x256 .f32} {a11 : FVec Ideal S12x256x1024 .f32} {a12 : FVec Ideal S12x1024 .f32} {a13 : FVec Ideal S12x1024x256 .f32} {a14 : FVec Ideal S12x256 .f32} {a15 a16 : FVec Ideal S256 .f32}
    (h : fn (F := Ideal) a0 a1 a2 a3 a4 a5 a6 a7 a8 a9 a10 a11 a12 a13 a14 a15 a16 = fun _ => 1#1) :
    (∀ i, (a0 i).toNat < 24) ∧ (∀ i, (a1 i : EReal) = (((a1 i : EReal).toReal : ℝ) : EReal)) ∧ (∀ i, (a2 i : EReal) = (((a2 i : EReal).toReal : ℝ) : EReal))
    ∧ (∀ i, (a3 i : EReal) = (((a3 i : EReal).toReal : ℝ) : EReal)) ∧ (∀ i, (a4 i : EReal) = (((a4 i : EReal).toReal : ℝ) : EReal))
    ∧ (∀ i, (a5 i : EReal) = (((a5 i : EReal).toReal : ℝ) : EReal)) ∧ (∀ i, (a6 i : EReal) = (((a6 i : EReal).toReal : ℝ) : EReal))
    ∧ (∀ i, (a7 i : EReal) = (((a7 i : EReal).toReal : ℝ) : EReal)) ∧ (∀ i, (a8 i : EReal) = (((a8 i : EReal).toReal : ℝ) : EReal))
    ∧ (∀ i, (a9 i : EReal) = (((a9 i : EReal).toReal : ℝ) : EReal)) ∧ (∀ i, (a10 i : EReal) = (((a10 i : EReal).toReal : ℝ) : EReal))
    ∧ (∀ i, (a11 i : EReal) = (((a11 i : EReal).toReal : ℝ) : EReal)) ∧ (∀ i, (a12 i : EReal) = (((a12 i : EReal).toReal : ℝ) : EReal))
    ∧ (∀ i, (a13 i : EReal) = (((a13 i : EReal).toReal : ℝ) : EReal)) ∧ (∀ i, (a14 i : EReal) = (((a14 i : EReal).toReal : ℝ) : EReal))
    ∧ (∀ i, (a15 i : EReal) = (((a15 i : EReal).toReal : ℝ) : EReal)) ∧ (∀ i, (a16 i : EReal) = (((a16 i : EReal).toReal : ℝ) : EReal)) := by
  have h' := congrFun h ix0
  simp only [fn, fn_part1, fn_part2, fn_part3, fn_part4, fn_part5, WordCmp.andi_at, IntOp.andi_eq_one] at h'
  obtain ⟨⟨⟨⟨⟨⟨⟨⟨⟨⟨⟨⟨⟨⟨⟨⟨⟨h00, h01⟩, h1⟩, h2⟩, h3⟩, h4⟩, h5⟩, h6⟩, h7⟩, h8⟩, h9⟩, h10⟩, h11⟩, h12⟩, h13⟩, h14⟩, h15⟩, h16⟩ := h'
  exact ⟨tok_of _ _ _ _ _ _ _ _ _ _ h00 h01, fin_of _ _ _ _ _ _ h1, fin_of _ _ _ _ _ _ h2, fin_of _ _ _ _ _ _ h3, fin_of _ _ _ _ _ _ h4, fin_of _ _ _ _ _ _ h5, fin_of _ _ _ _ _ _ h6,
    fin_of _ _ _ _ _ _ h7, fin_of _ _ _ _ _ _ h8, fin_of _ _ _ _ _ _ h9, fin_of _ _ _ _ _ _ h10, fin_of _ _ _ _ _ _ h11, fin_of _ _ _ _ _ _ h12, fin_of _ _ _ _ _ _ h13,
    fin_of _ _ _ _ _ _ h14, fin_of _ _ _ _ _ _ h15, fin_of _ _ _ _ _ _ h16⟩

end Cert.Pre_drawn.Read
end
-- ==== Proof.Model.lean ====
/-
  The encoder over the real numbers, one sequence at a time, and the extended reals' operations at reals.
-/
module

public import Idealize.ShloMosaic.PureOps.Ideal
public import Idealize.ShloMosaic.Lib.Pointwise

@[expose] public section

noncomputable section

namespace Cert.Model

open Idealize.ShloMosaic

/-! ## Operations at reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

theorem sqrt_coe (a : ℝ) (ha : 0 ≤ a) : Ideal.sqrt (a : EReal) = ((Real.sqrt a : ℝ) : EReal) := by
  show (if a < 0 then ⊥ else ((Real.sqrt a : ℝ) : EReal)) = _
  rw [if_neg (not_lt.mpr ha)]

theorem exp_coe (a : ℝ) : Ideal.exp (a : EReal) = ((Real.exp a : ℝ) : EReal) := rfl
theorem exp_bot : Ideal.exp ⊥ = 0 := rfl
theorem tanh_coe (a : ℝ) : Ideal.tanh (a : EReal) = ((Real.tanh a : ℝ) : EReal) := rfl

/-! ## The literals -/

/-- A positive normal number's value. -/
theorem f32_pos (b : BitVec 32) (ex fr : ℕ) (hs : (b.extractLsb' 31 1 == 1#1) = false) (hex : (b.extractLsb' 23 8).toNat = ex)
    (hfr : (b.extractLsb' 0 23).toNat = fr) (h1 : ex ≠ 255) (h0 : ex ≠ 0) :
    Ideal.ofBits .f32 b = (((2 ^ 23 + fr : ℕ) * (2 : ℝ) ^ ((ex : ℤ) - 127 - 23) : ℝ) : EReal) := by
  show Ideal.ieee 8 23 b = _
  unfold Ideal.ieee
  simp only [Nat.reduceAdd, hs, hex, hfr]
  rw [if_neg (by simpa using h1), if_neg h0]
  norm_num

theorem c256 : Ideal.ofBits .f32 0x43800000#32 = ((256 : ℝ) : EReal) := by
  rw [f32_pos _ 135 0 (by decide) (by decide) (by decide) (by decide) (by decide)]; norm_num
theorem c_half : Ideal.ofBits .f32 0x3F000000#32 = ((1 / 2 : ℝ) : EReal) := by
  rw [f32_pos _ 126 0 (by decide) (by decide) (by decide) (by decide) (by decide)]; norm_num
theorem c_bot : Ideal.ofBits .f32 0xFF800000#32 = ⊥ := by
  show Ideal.ieee 8 23 0xFF800000#32 = _
  unfold Ideal.ieee
  rw [if_pos (by decide), if_pos (by decide), if_pos (by decide)]

/-- The variance's addend. -/
def eps : ℝ := (Ideal.ofBits .f32 0x3727C5AC#32).toReal
/-- The scale of the scores. -/
def scl : ℝ := (Ideal.ofBits .f32 0x3E3504F3#32).toReal
/-- The two constants of the activation. -/
def gl1 : ℝ := (Ideal.ofBits .f32 0x3D372713#32).toReal
def gl2 : ℝ := (Ideal.ofBits .f32 0x3F4C422A#32).toReal
/-- The weight of a key of a sequence of padding alone. -/
def uni : ℝ := (Ideal.ofBits .f32 0x3D4CCCCD#32).toReal

theorem f32_ex (b : BitVec 32) (hs : (b.extractLsb' 31 1 == 1#1) = false) (h1 : (b.extractLsb' 23 8).toNat ≠ 255)
    (h0 : (b.extractLsb' 23 8).toNat ≠ 0) : ∃ r : ℝ, 0 < r ∧ Ideal.ofBits .f32 b = (r : EReal) :=
  ⟨_, by positivity, f32_pos b _ _ hs rfl rfl h1 h0⟩

theorem c_eps' : ∃ r : ℝ, 0 < r ∧ Ideal.ofBits .f32 0x3727C5AC#32 = (r : EReal) := f32_ex _ (by decide) (by decide) (by decide)
theorem c_uni' : ∃ r : ℝ, 0 < r ∧ Ideal.ofBits .f32 0x3D4CCCCD#32 = (r : EReal) := f32_ex _ (by decide) (by decide) (by decide)
theorem c_scl' : ∃ r : ℝ, 0 < r ∧ Ideal.ofBits .f32 0x3E3504F3#32 = (r : EReal) := f32_ex _ (by decide) (by decide) (by decide)
theorem c_gl1' : ∃ r : ℝ, 0 < r ∧ Ideal.ofBits .f32 0x3D372713#32 = (r : EReal) := f32_ex _ (by decide) (by decide) (by decide)
theorem c_gl2' : ∃ r : ℝ, 0 < r ∧ Ideal.ofBits .f32 0x3F4C422A#32 = (r : EReal) := f32_ex _ (by decide) (by decide) (by decide)

theorem c_eps : Ideal.ofBits .f32 0x3727C5AC#32 = (eps : EReal) := by
  obtain ⟨r, -, h⟩ := c_eps'; rw [eps, h, EReal.toReal_coe]
theorem c_uni : Ideal.ofBits .f32 0x3D4CCCCD#32 = (uni : EReal) := by
  obtain ⟨r, -, h⟩ := c_uni'; rw [uni, h, EReal.toReal_coe]
theorem c_scl : Ideal.ofBits .f32 0x3E3504F3#32 = (scl : EReal) := by
  obtain ⟨r, -, h⟩ := c_scl'; rw [scl, h, EReal.toReal_coe]
theorem c_gl1 : Ideal.ofBits .f32 0x3D372713#32 = (gl1 : EReal) := by
  obtain ⟨r, -, h⟩ := c_gl1'; rw [gl1, h, EReal.toReal_coe]
theorem c_gl2 : Ideal.ofBits .f32 0x3F4C422A#32 = (gl2 : EReal) := by
  obtain ⟨r, -, h⟩ := c_gl2'; rw [gl2, h, EReal.toReal_coe]
theorem eps_pos : 0 < eps := by
  obtain ⟨r, hr, h⟩ := c_eps'; rw [eps, h, EReal.toReal_coe]; exact hr
theorem uni_pos : 0 < uni := by
  obtain ⟨r, hr, h⟩ := c_uni'; rw [uni, h, EReal.toReal_coe]; exact hr

/-! ## The model -/

def mean (x : Fin 256 → ℝ) : ℝ := (∑ k, x k) / 256
def var (x : Fin 256 → ℝ) : ℝ := (∑ k, (x k - mean x) * (x k - mean x)) / 256

theorem var_nonneg (x : Fin 256 → ℝ) : 0 ≤ var x :=
  div_nonneg (Finset.sum_nonneg fun k _ => mul_self_nonneg _) (by norm_num)

theorem var_eps_pos (x : Fin 256 → ℝ) : 0 < var x + eps := add_pos_of_nonneg_of_pos (var_nonneg x) eps_pos

/-- A row normalized. -/
def ln (g b x : Fin 256 → ℝ) (c : Fin 256) : ℝ :=
  (x c - mean x) * (Real.sqrt (var x + eps))⁻¹ * g c + b c

/-- A row times a matrix. -/
def lin {n m : ℕ} (x : Fin n → ℝ) (w : Fin n → Fin m → ℝ) (c : Fin m) : ℝ := ∑ k, x k * w k c

def gelu (x : ℝ) : ℝ := x * (1 / 2 * (1 + Real.tanh (gl2 * (x + gl1 * (x * (x * x))))))

/-- Column `d` of head `n`. -/
abbrev hcol (n : Fin 8) (d : Fin 32) : Fin 256 := ⟨32 * n.val + d.val, by omega⟩
/-- The head of a column. -/
abbrev hd (c : Fin 256) : Fin 8 := ⟨c.val / 32, by omega⟩

def score (q k : Fin 20 → Fin 256 → ℝ) (s j : Fin 20) (n : Fin 8) : ℝ := ∑ d, q s (hcol n d) * k j (hcol n d)

/-- The weight, not yet normalized, of key `j` for query `s` in head `n`; a sequence without a live token weighs every key the same. -/
def wt (live : Fin 20 → Prop) (q k : Fin 20 → Fin 256 → ℝ) (s j : Fin 20) (n : Fin 8) : ℝ :=
  open Classical in if ∃ i, live i then (if live j then Real.exp (score q k s j n) else 0) else 1

def attn (live : Fin 20 → Prop) (q k v : Fin 20 → Fin 256 → ℝ) (s : Fin 20) (c : Fin 256) : ℝ :=
  (∑ j, wt live q k s j (hd c) * v j c) / ∑ j, wt live q k s j (hd c)

theorem wt_nonneg (live : Fin 20 → Prop) (q k : Fin 20 → Fin 256 → ℝ) (s j : Fin 20) (n : Fin 8) : 0 ≤ wt live q k s j n := by
  unfold wt; split_ifs <;> first | exact (Real.exp_pos _).le | norm_num

theorem wt_sum_pos (live : Fin 20 → Prop) (q k : Fin 20 → Fin 256 → ℝ) (s : Fin 20) (n : Fin 8) : 0 < ∑ j, wt live q k s j n := by
  by_cases h : ∃ i, live i
  · obtain ⟨i, hi⟩ := h
    refine lt_of_lt_of_le ?_ (Finset.single_le_sum (f := fun j => wt live q k s j n) (fun j _ => wt_nonneg live q k s j n) (Finset.mem_univ i))
    unfold wt; rw [if_pos ⟨i, hi⟩, if_pos hi]; exact Real.exp_pos _
  · simp [wt, h]

/-- The parameters. -/
structure Par where
  emb : Fin 24 → Fin 256 → ℝ
  pos : Fin 20 → Fin 256 → ℝ
  g1 : ℕ → Fin 256 → ℝ
  e1 : ℕ → Fin 256 → ℝ
  wq : ℕ → Fin 256 → Fin 256 → ℝ
  wk : ℕ → Fin 256 → Fin 256 → ℝ
  wv : ℕ → Fin 256 → Fin 256 → ℝ
  wo : ℕ → Fin 256 → Fin 256 → ℝ
  g2 : ℕ → Fin 256 → ℝ
  e2 : ℕ → Fin 256 → ℝ
  w1 : ℕ → Fin 256 → Fin 1024 → ℝ
  b1 : ℕ → Fin 1024 → ℝ
  w2 : ℕ → Fin 1024 → Fin 256 → ℝ
  b2 : ℕ → Fin 256 → ℝ
  gf : Fin 256 → ℝ
  ef : Fin 256 → ℝ

variable (P : Par)

/-- A row after its attention is added, after its feed-forward layer. -/
def ff (l : ℕ) (x : Fin 256 → ℝ) (c : Fin 256) : ℝ :=
  x c + lin (fun k => gelu (lin (ln (P.g2 l) (P.e2 l) x) (P.w1 l) k + P.b1 l k)) (P.w2 l) c + P.b2 l c

def qm (l : ℕ) (x : Fin 256 → ℝ) : Fin 256 → ℝ := lin (ln (P.g1 l) (P.e1 l) x) (fun a b => P.wq l a b * scl)
def km (l : ℕ) (x : Fin 256 → ℝ) : Fin 256 → ℝ := lin (ln (P.g1 l) (P.e1 l) x) (P.wk l)
def vm (l : ℕ) (x : Fin 256 → ℝ) : Fin 256 → ℝ := lin (ln (P.g1 l) (P.e1 l) x) (P.wv l)

def att (l : ℕ) (live : Fin 20 → Prop) (h : Fin 20 → Fin 256 → ℝ) : Fin 20 → Fin 256 → ℝ :=
  attn live (fun s => qm P l (h s)) (fun s => km P l (h s)) (fun s => vm P l (h s))

/-- One layer on a sequence. -/
def layer (l : ℕ) (live : Fin 20 → Prop) (h : Fin 20 → Fin 256 → ℝ) (s : Fin 20) : Fin 256 → ℝ :=
  ff P l fun c => h s c + lin (att P l live h s) (P.wo l) c

/-- A sequence's rows after `l` layers. -/
def hid (x : Fin 20 → Fin 24) : ℕ → Fin 20 → Fin 256 → ℝ
  | 0 => fun s c => P.emb (x s) c + P.pos s c
  | l + 1 => layer P l (fun s => (x s).val ≠ 0) (hid x l)

/-- The encoder's result on a sequence. -/
def out (x : Fin 20 → Fin 24) : Fin 256 → ℝ := ln P.gf P.ef (hid P x 12 0)

/-! ## Sums over a block -/

theorem sum_block {n m : ℕ} (o : ℕ) (ho : o + m ≤ n) (f : Fin n → ℝ) (h : ∀ k : Fin n, ¬ (o ≤ k.val ∧ k.val < o + m) → f k = 0) :
    ∑ k, f k = ∑ j : Fin m, f ⟨o + j.val, by omega⟩ := by
  symm
  refine Finset.sum_of_injOn (fun j : Fin m => (⟨o + j.val, by omega⟩ : Fin n)) ?_ ?_ ?_ ?_
  · intro a _ b _ hab; simp only [Fin.mk.injEq] at hab; exact Fin.ext (by omega)
  · intro a _; simp
  · intro i _ hi
    refine h i fun hk => hi ?_
    exact ⟨⟨i.val - o, by omega⟩, by simp, Fin.ext (by simp; omega)⟩
  · intro i _; rfl

end Cert.Model

end
-- ==== Proof.Kern.lean ====
/-
  The values the kernel's body stores, as functions of what it reads, each met with the model at real contents.
-/
module

public import proofs.«01_k».proof.Proof.Run
public import proofs.«01_k».proof.Proof.Model

@[expose] public section

set_option maxRecDepth 65536

noncomputable section

namespace Cert.KernelIdeal.Body

open Idealize.ShloMosaic Idealize.ShloMosaic.TcCoe Idealize.ShloMosaic.Tactic
open Cert.KernelIdeal.Gen
open Cert.Model

section Values

variable {F : FTy → Type} [FloatOps F] [Named F]

/-- Rows normalized. -/
def lnV (v11 : Vec F S2560x256 .f32) (v12 v14 : Vec F S1x1x256 .f32) : FVec F S2560x256 .f32 :=
  have v16 : FVec F S2560 .f32 := multiReduction .add [1] S2560 v11 0x00000000#32 reduces_S2560x256_S2560 (.inl rfl) rfl
  have v17 : FVec F S2560x1 .f32 := shapeCast S2560x1 v16 shapeCasts_S2560_S2560x1
  have cst_10 : F .f32 := Scalar.ofBits .f32 0x43800000#32
  have v18 : FVec F S2560x1 .f32 := broadcast S2560x1 cst_10
  have v19 : FVec F S2560x1 .f32 := divf v17 v18
  have v20 : FVec F S2560x256 .f32 := broadcastTo S2560x256 v19 broadcasts_S2560x1_S2560x256
  have v21 : FVec F S2560x256 .f32 := subf v11 v20
  have v22 : FVec F S2560x256 .f32 := mulf v21 v21
  have v23 : FVec F S2560 .f32 := multiReduction .add [1] S2560 v22 0x00000000#32 reduces_S2560x256_S2560 (.inl rfl) rfl
  have v24 : FVec F S2560x1 .f32 := shapeCast S2560x1 v23 shapeCasts_S2560_S2560x1
  have cst_12 : F .f32 := Scalar.ofBits .f32 0x43800000#32
  have v25 : FVec F S2560x1 .f32 := broadcast S2560x1 cst_12
  have v26 : FVec F S2560x1 .f32 := divf v24 v25
  have cst_13 : F .f32 := Scalar.ofBits .f32 0x3727C5AC#32
  have v27 : FVec F S2560x1 .f32 := broadcast S2560x1 cst_13
  have v28 : FVec F S2560x1 .f32 := addf v26 v27
  have v29 : FVec F S2560x1 .f32 := rsqrt v28
  have v30 : FVec F S2560x256 .f32 := broadcastTo S2560x256 v29 broadcasts_S2560x1_S2560x256
  have v31 : FVec F S2560x256 .f32 := mulf v21 v30
  have v13 : FVec F S1x256 .f32 := shapeCast S1x256 v12 shapeCasts_S1x1x256_S1x256
  have v32 : FVec F S2560x256 .f32 := broadcastTo S2560x256 v13 broadcasts_S1x256_S2560x256
  have v33 : FVec F S2560x256 .f32 := mulf v31 v32
  have v15 : FVec F S1x256 .f32 := shapeCast S1x256 v14 shapeCasts_S1x1x256_S1x256
  have v34 : FVec F S2560x256 .f32 := broadcastTo S2560x256 v15 broadcasts_S1x256_S2560x256
  have v35 : FVec F S2560x256 .f32 := addf v33 v34
  v35

/-- Rows times a matrix. -/
def mmV (v35 : FVec F S2560x256 .f32) (v36 : Vec F S1x256x256 .f32) : FVec F S2560x256 .f32 :=
  have v37 : FVec F S256x256 .f32 := shapeCast S256x256 v36 shapeCasts_S1x256x256_S256x256
  have cst_17 : FVec F S2560x256 .f32 := constant S2560x256 .f32 0x00000000#32
  have v38 : FVec F S2560x256 .f32 := matmul dot_S2560x256_S256x256_S2560x256_1_0_0_1_n_n none v35 v37 cst_17
  v38

/-- The embedded rows. -/
def embV (v6777 : Vec F S2560x1 .i32) (v6805 : Vec F S44x256 .f32) : FVec F S2560x256 .f32 :=
  have v6779 : IVec S2560x44 32 := iota .tc S2560x44 32 [1] iota_S2560x44_d1_w32
  have v6778 : IVec S2560x1 32 := shapeCast S2560x1 v6777 shapeCasts_S2560x1_S2560x1
  have v6781 : IVec S2560x44 32 := broadcastTo S2560x44 v6778 broadcasts_S2560x1_S2560x44
  have v6782 : IVec S2560x44 1 := cmpi .eq v6779 v6781
  have v6780 : IVec S2560x44 32 := iota .tc S2560x44 32 [0] iota_S2560x44_d0_w32
  have c20_i32_5866 : BitVec 32 := 20#32
  have c0_i32_5867 : BitVec 32 := 0#32
  have v6783 : BitVec 1 := Scalar.cmpi .eq c20_i32_5866 c0_i32_5867
  have c1_i32_5868 : BitVec 32 := 1#32
  have v6784 : BitVec 32 := Scalar.select v6783 c1_i32_5868 c20_i32_5866
  have v6785 : IVec S2560x44 32 := broadcast S2560x44 v6784
  have v6786 : IVec S2560x44 32 := remsi v6780 v6785
  have c0_i32_5870 : BitVec 32 := 0#32
  have v6789 : IVec S2560x44 32 := broadcast S2560x44 c0_i32_5870
  have v6790 : IVec S2560x44 1 := cmpi .slt v6786 v6789
  have c0_i32_5871 : BitVec 32 := 0#32
  have v6791 : BitVec 1 := Scalar.cmpi .slt v6784 c0_i32_5871
  have v6792 : IVec S2560x44 1 := broadcast S2560x44 v6791
  have v6793 : IVec S2560x44 1 := broadcastTo S2560x44 v6792 broadcasts_S2560x44_S2560x44
  have v6794 : IVec S2560x44 1 := xori v6790 v6793
  have c0_i32_5869 : BitVec 32 := 0#32
  have v6787 : IVec S2560x44 32 := broadcast S2560x44 c0_i32_5869
  have v6788 : IVec S2560x44 1 := cmpi .ne v6786 v6787
  have v6795 : IVec S2560x44 1 := andi v6794 v6788
  have v6796 : IVec S2560x44 32 := broadcast S2560x44 v6784
  have v6797 : IVec S2560x44 32 := addi v6786 v6796
  have v6798 : IVec S2560x44 32 := select v6795 v6797 v6786
  have c24_i32 : BitVec 32 := 24#32
  have v6799 : IVec S2560x44 32 := broadcast S2560x44 c24_i32
  have v6800 : IVec S2560x44 32 := addi v6798 v6799
  have v6801 : IVec S2560x44 1 := cmpi .eq v6779 v6800
  have v6802 : IVec S2560x44 1 := ori v6782 v6801
  have v6803 : IVec S2560x44 32 := extui 32 v6802 natLt_1_32
  have v6804 : FVec F S2560x44 .f32 := sitofp .f32 v6803
  have v6806 : FVec F S44x256 .f32 := shapeCast S44x256 v6805 shapeCasts_S44x256_S44x256
  have cst_5874 : FVec F S2560x256 .f32 := constant S2560x256 .f32 0x00000000#32
  have v6807 : FVec F S2560x256 .f32 := matmul dot_S2560x44_S44x256_S2560x256_1_0_0_1_n_n none v6804 v6806 cst_5874
  v6807

/-- Whether a row and a key are of one sequence. -/
def sameV : IVec S40x160 1 :=
  have v54 : IVec S40x160 32 := iota .tc S40x160 32 [0] iota_S40x160_d0_w32
  have c0_i32_32 : BitVec 32 := 0#32
  have v57 : IVec S40x160 32 := broadcast S40x160 c0_i32_32
  have v58 : IVec S40x160 1 := cmpi .sgt v54 v57
  have v59 : IVec S40x160 32 := extui 32 v58 natLt_1_32
  have c0_i32_33 : BitVec 32 := 0#32
  have v60 : IVec S40x160 32 := broadcast S40x160 c0_i32_33
  have v61 : IVec S40x160 1 := cmpi .slt v54 v60
  have v62 : IVec S40x160 32 := extui 32 v61 natLt_1_32
  have v63 : IVec S40x160 32 := subi v59 v62
  have c20_i32 : BitVec 32 := 20#32
  have c0_i32_34 : BitVec 32 := 0#32
  have v64 : BitVec 1 := Scalar.cmpi .sgt c20_i32 c0_i32_34
  have v65 : BitVec 32 := Scalar.extui v64
  have c0_i32_35 : BitVec 32 := 0#32
  have v66 : BitVec 1 := Scalar.cmpi .slt c20_i32 c0_i32_35
  have v67 : BitVec 32 := Scalar.extui v66
  have v68 : BitVec 32 := Scalar.subi v65 v67
  have v69 : IVec S40x160 32 := broadcast S40x160 v68
  have v70 : IVec S40x160 1 := cmpi .ne v63 v69
  have v71 : IVec S40x160 32 := broadcast S40x160 c20_i32
  have v72 : IVec S40x160 32 := remsi v54 v71
  have c0_i32_36 : BitVec 32 := 0#32
  have v73 : IVec S40x160 32 := broadcast S40x160 c0_i32_36
  have v74 : IVec S40x160 1 := cmpi .ne v72 v73
  have v75 : IVec S40x160 1 := andi v70 v74
  have v55 : IVec S40x160 32 := broadcast S40x160 c20_i32
  have v56 : IVec S40x160 32 := divsi v54 v55
  have c1_i32 : BitVec 32 := 1#32
  have v76 : IVec S40x160 32 := broadcast S40x160 c1_i32
  have v77 : IVec S40x160 32 := subi v56 v76
  have v78 : IVec S40x160 32 := select v75 v77 v56
  have v79 : IVec S40x160 32 := iota .tc S40x160 32 [1] iota_S40x160_d1_w32
  have c40_i32 : BitVec 32 := 40#32
  have c0_i32_37 : BitVec 32 := 0#32
  have v80 : BitVec 1 := Scalar.cmpi .eq c40_i32 c0_i32_37
  have c1_i32_38 : BitVec 32 := 1#32
  have v81 : BitVec 32 := Scalar.select v80 c1_i32_38 c40_i32
  have v82 : IVec S40x160 32 := broadcast S40x160 v81
  have v83 : IVec S40x160 32 := remsi v79 v82
  have c0_i32_40 : BitVec 32 := 0#32
  have v86 : IVec S40x160 32 := broadcast S40x160 c0_i32_40
  have v87 : IVec S40x160 1 := cmpi .slt v83 v86
  have c0_i32_41 : BitVec 32 := 0#32
  have v88 : BitVec 1 := Scalar.cmpi .slt v81 c0_i32_41
  have v89 : IVec S40x160 1 := broadcast S40x160 v88
  have v90 : IVec S40x160 1 := broadcastTo S40x160 v89 broadcasts_S40x160_S40x160
  have v91 : IVec S40x160 1 := xori v87 v90
  have c0_i32_39 : BitVec 32 := 0#32
  have v84 : IVec S40x160 32 := broadcast S40x160 c0_i32_39
  have v85 : IVec S40x160 1 := cmpi .ne v83 v84
  have v92 : IVec S40x160 1 := andi v91 v85
  have v93 : IVec S40x160 32 := broadcast S40x160 v81
  have v94 : IVec S40x160 32 := addi v83 v93
  have v95 : IVec S40x160 32 := select v92 v94 v83
  have c0_i32_43 : BitVec 32 := 0#32
  have v98 : IVec S40x160 32 := broadcast S40x160 c0_i32_43
  have v99 : IVec S40x160 1 := cmpi .sgt v95 v98
  have v100 : IVec S40x160 32 := extui 32 v99 natLt_1_32
  have c0_i32_44 : BitVec 32 := 0#32
  have v101 : IVec S40x160 32 := broadcast S40x160 c0_i32_44
  have v102 : IVec S40x160 1 := cmpi .slt v95 v101
  have v103 : IVec S40x160 32 := extui 32 v102 natLt_1_32
  have v104 : IVec S40x160 32 := subi v100 v103
  have c20_i32_42 : BitVec 32 := 20#32
  have c0_i32_45 : BitVec 32 := 0#32
  have v105 : BitVec 1 := Scalar.cmpi .sgt c20_i32_42 c0_i32_45
  have v106 : BitVec 32 := Scalar.extui v105
  have c0_i32_46 : BitVec 32 := 0#32
  have v107 : BitVec 1 := Scalar.cmpi .slt c20_i32_42 c0_i32_46
  have v108 : BitVec 32 := Scalar.extui v107
  have v109 : BitVec 32 := Scalar.subi v106 v108
  have v110 : IVec S40x160 32 := broadcast S40x160 v109
  have v111 : IVec S40x160 1 := cmpi .ne v104 v110
  have v112 : IVec S40x160 32 := broadcast S40x160 c20_i32_42
  have v113 : IVec S40x160 32 := remsi v95 v112
  have c0_i32_47 : BitVec 32 := 0#32
  have v114 : IVec S40x160 32 := broadcast S40x160 c0_i32_47
  have v115 : IVec S40x160 1 := cmpi .ne v113 v114
  have v116 : IVec S40x160 1 := andi v111 v115
  have v96 : IVec S40x160 32 := broadcast S40x160 c20_i32_42
  have v97 : IVec S40x160 32 := divsi v95 v96
  have c1_i32_48 : BitVec 32 := 1#32
  have v117 : IVec S40x160 32 := broadcast S40x160 c1_i32_48
  have v118 : IVec S40x160 32 := subi v97 v117
  have v119 : IVec S40x160 32 := select v116 v118 v97
  have v120 : IVec S40x160 1 := cmpi .eq v78 v119
  v120

/-- Whether a key and a column are of one head. -/
def spreadV : IVec S160x128 1 :=
  have v128 : IVec S160x128 32 := iota .tc S160x128 32 [0] iota_S160x128_d0_w32
  have c0_i32_53 : BitVec 32 := 0#32
  have v131 : IVec S160x128 32 := broadcast S160x128 c0_i32_53
  have v132 : IVec S160x128 1 := cmpi .sgt v128 v131
  have v133 : IVec S160x128 32 := extui 32 v132 natLt_1_32
  have c0_i32_54 : BitVec 32 := 0#32
  have v134 : IVec S160x128 32 := broadcast S160x128 c0_i32_54
  have v135 : IVec S160x128 1 := cmpi .slt v128 v134
  have v136 : IVec S160x128 32 := extui 32 v135 natLt_1_32
  have v137 : IVec S160x128 32 := subi v133 v136
  have c40_i32_52 : BitVec 32 := 40#32
  have c0_i32_55 : BitVec 32 := 0#32
  have v138 : BitVec 1 := Scalar.cmpi .sgt c40_i32_52 c0_i32_55
  have v139 : BitVec 32 := Scalar.extui v138
  have c0_i32_56 : BitVec 32 := 0#32
  have v140 : BitVec 1 := Scalar.cmpi .slt c40_i32_52 c0_i32_56
  have v141 : BitVec 32 := Scalar.extui v140
  have v142 : BitVec 32 := Scalar.subi v139 v141
  have v143 : IVec S160x128 32 := broadcast S160x128 v142
  have v144 : IVec S160x128 1 := cmpi .ne v137 v143
  have v145 : IVec S160x128 32 := broadcast S160x128 c40_i32_52
  have v146 : IVec S160x128 32 := remsi v128 v145
  have c0_i32_57 : BitVec 32 := 0#32
  have v147 : IVec S160x128 32 := broadcast S160x128 c0_i32_57
  have v148 : IVec S160x128 1 := cmpi .ne v146 v147
  have v149 : IVec S160x128 1 := andi v144 v148
  have v129 : IVec S160x128 32 := broadcast S160x128 c40_i32_52
  have v130 : IVec S160x128 32 := divsi v128 v129
  have c1_i32_58 : BitVec 32 := 1#32
  have v150 : IVec S160x128 32 := broadcast S160x128 c1_i32_58
  have v151 : IVec S160x128 32 := subi v130 v150
  have v152 : IVec S160x128 32 := select v149 v151 v130
  have v153 : IVec S160x128 32 := iota .tc S160x128 32 [1] iota_S160x128_d1_w32
  have c0_i32_59 : BitVec 32 := 0#32
  have v156 : IVec S160x128 32 := broadcast S160x128 c0_i32_59
  have v157 : IVec S160x128 1 := cmpi .sgt v153 v156
  have v158 : IVec S160x128 32 := extui 32 v157 natLt_1_32
  have c0_i32_60 : BitVec 32 := 0#32
  have v159 : IVec S160x128 32 := broadcast S160x128 c0_i32_60
  have v160 : IVec S160x128 1 := cmpi .slt v153 v159
  have v161 : IVec S160x128 32 := extui 32 v160 natLt_1_32
  have v162 : IVec S160x128 32 := subi v158 v161
  have c32_i32 : BitVec 32 := 32#32
  have c0_i32_61 : BitVec 32 := 0#32
  have v163 : BitVec 1 := Scalar.cmpi .sgt c32_i32 c0_i32_61
  have v164 : BitVec 32 := Scalar.extui v163
  have c0_i32_62 : BitVec 32 := 0#32
  have v165 : BitVec 1 := Scalar.cmpi .slt c32_i32 c0_i32_62
  have v166 : BitVec 32 := Scalar.extui v165
  have v167 : BitVec 32 := Scalar.subi v164 v166
  have v168 : IVec S160x128 32 := broadcast S160x128 v167
  have v169 : IVec S160x128 1 := cmpi .ne v162 v168
  have v170 : IVec S160x128 32 := broadcast S160x128 c32_i32
  have v171 : IVec S160x128 32 := remsi v153 v170
  have c0_i32_63 : BitVec 32 := 0#32
  have v172 : IVec S160x128 32 := broadcast S160x128 c0_i32_63
  have v173 : IVec S160x128 1 := cmpi .ne v171 v172
  have v174 : IVec S160x128 1 := andi v169 v173
  have v154 : IVec S160x128 32 := broadcast S160x128 c32_i32
  have v155 : IVec S160x128 32 := divsi v153 v154
  have c1_i32_64 : BitVec 32 := 1#32
  have v175 : IVec S160x128 32 := broadcast S160x128 c1_i32_64
  have v176 : IVec S160x128 32 := subi v155 v175
  have v177 : IVec S160x128 32 := select v174 v176 v155
  have v178 : IVec S160x128 1 := cmpi .eq v152 v177
  v178

/-- The activation's rows. -/
def geluV (v6737 : FVec F S2560x256 .f32) (v6738 : Vec F S1x256x1024 .f32) (v6741 : Vec F S1x1x1024 .f32) : FVec F S2560x1024 .f32 :=
  have v6739 : FVec F S256x1024 .f32 := shapeCast S256x1024 v6738 shapeCasts_S1x256x1024_S256x1024
  have cst_5843 : FVec F S2560x1024 .f32 := constant S2560x1024 .f32 0x00000000#32
  have v6740 : FVec F S2560x1024 .f32 := matmul dot_S2560x256_S256x1024_S2560x1024_1_0_0_1_n_n none v6737 v6739 cst_5843
  have v6742 : FVec F S1x1024 .f32 := shapeCast S1x1024 v6741 shapeCasts_S1x1x1024_S1x1024
  have v6743 : FVec F S2560x1024 .f32 := broadcastTo S2560x1024 v6742 broadcasts_S1x1024_S2560x1024
  have v6744 : FVec F S2560x1024 .f32 := addf v6740 v6743
  have cst_5850 : F .f32 := Scalar.ofBits .f32 0x3F000000#32
  have v6755 : FVec F S2560x1024 .f32 := broadcast S2560x1024 cst_5850
  have cst_5849 : F .f32 := Scalar.ofBits .f32 0x3F800000#32
  have v6753 : FVec F S2560x1024 .f32 := broadcast S2560x1024 cst_5849
  have cst_5848 : F .f32 := Scalar.ofBits .f32 0x3F4C422A#32
  have v6750 : FVec F S2560x1024 .f32 := broadcast S2560x1024 cst_5848
  have cst_5847 : F .f32 := Scalar.ofBits .f32 0x3D372713#32
  have v6747 : FVec F S2560x1024 .f32 := broadcast S2560x1024 cst_5847
  have v6745 : FVec F S2560x1024 .f32 := mulf v6744 v6744
  have v6746 : FVec F S2560x1024 .f32 := mulf v6744 v6745
  have v6748 : FVec F S2560x1024 .f32 := mulf v6747 v6746
  have v6749 : FVec F S2560x1024 .f32 := addf v6744 v6748
  have v6751 : FVec F S2560x1024 .f32 := mulf v6750 v6749
  have v6752 : FVec F S2560x1024 .f32 := tanh v6751
  have v6754 : FVec F S2560x1024 .f32 := addf v6753 v6752
  have v6756 : FVec F S2560x1024 .f32 := mulf v6755 v6754
  have v6757 : FVec F S2560x1024 .f32 := mulf v6744 v6756
  v6757

/-- The rows after the feed-forward layer. -/
def ffV (v6713 : FVec F S2560x256 .f32) (v6761 : Vec F S2560x1024 .f32) (v6762 : Vec F S1x1024x256 .f32) (v6766 : Vec F S1x1x256 .f32) : FVec F S2560x256 .f32 :=
  have v6763 : FVec F S1024x256 .f32 := shapeCast S1024x256 v6762 shapeCasts_S1x1024x256_S1024x256
  have cst_5858 : FVec F S2560x256 .f32 := constant S2560x256 .f32 0x00000000#32
  have v6764 : FVec F S2560x256 .f32 := matmul dot_S2560x1024_S1024x256_S2560x256_1_0_0_1_n_n none v6761 v6763 cst_5858
  have v6765 : FVec F S2560x256 .f32 := addf v6713 v6764
  have v6767 : FVec F S1x256 .f32 := shapeCast S1x256 v6766 shapeCasts_S1x1x256_S1x256
  have v6768 : FVec F S2560x256 .f32 := broadcastTo S2560x256 v6767 broadcasts_S1x256_S2560x256
  have v6769 : FVec F S2560x256 .f32 := addf v6765 v6768
  v6769

/-- The weights of one group's queries in one half of the heads. -/
def expV (v127s : IVec S40x160 1) (v181 : Vec F S40x1 .f32) (v249 : Vec F S1x1x160 .f32) (v253 : Vec F S40x128 .f32) (v254 : Vec F S160x128 .f32) : FVec F S40x160 .f32 :=
  have v182 : FVec F S40x1 .f32 := shapeCast S40x1 v181 shapeCasts_S40x1_S40x1
  have cst_67 : F .f32 := Scalar.ofBits .f32 0x3F000000#32
  have v183 : FVec F S40x1 .f32 := broadcast S40x1 cst_67
  have v184 : IVec S40x1 1 := cmpf .ogt v182 v183
  have v258 : IVec S40x1 1 := shapeCast S40x1 v184 shapeCasts_S40x1_S40x1
  have v259 : IVec S40x160 1 := broadcastTo S40x160 v258 broadcasts_S40x1_S40x160
  have v121 : IVec S40x160 32 := extui 32 v127s natLt_1_32
  have v122 : FVec F S40x160 .f32 := sitofp .f32 v121
  have cst_49 : F .f32 := Scalar.ofBits .f32 0x3D4CCCCD#32
  have v123 : FVec F S40x160 .f32 := broadcast S40x160 cst_49
  have v124 : FVec F S40x160 .f32 := mulf v122 v123
  have cst_129 : FVec F S40x160 .f32 := constant S40x160 .f32 0x00000000#32
  have v255 : FVec F S40x160 .f32 := matmul dot_S40x128_S160x128_S40x160_1_1_0_0_n_n none v253 v254 cst_129
  have v250 : FVec F S1x160 .f32 := shapeCast S1x160 v249 shapeCasts_S1x1x160_S1x160
  have v251 : FVec F S40x160 .f32 := broadcastTo S40x160 v250 broadcasts_S1x160_S40x160
  have cst_50 : F .f32 := Scalar.ofBits .f32 0x00000000#32
  have v125 : FVec F S40x160 .f32 := broadcast S40x160 cst_50
  have cst_51 : F .f32 := Named.named κ "mask" 0xCE6E6B28#32
  have v126 : FVec F S40x160 .f32 := broadcast S40x160 cst_51
  have v127 : FVec F S40x160 .f32 := select v127s v125 v126
  have v252 : FVec F S40x160 .f32 := addf v251 v127
  have v256 : FVec F S40x160 .f32 := addf v255 v252
  have v257 : FVec F S40x160 .f32 := exp v256
  have v260 : FVec F S40x160 .f32 := select v259 v124 v257
  v260

/-- One group's attention in one half of the heads. -/
def halfV (v260 : FVec F S40x160 .f32) (v178 : IVec S160x128 1) (v262 : Vec F S160x128 .f32) : FVec F S40x128 .f32 :=
  have cst_133 : FVec F S40x128 .f32 := constant S40x128 .f32 0x00000000#32
  have v263 : FVec F S40x128 .f32 := matmul dot_S40x160_S160x128_S40x128_1_0_0_1_n_n none v260 v262 cst_133
  have v179 : IVec S160x128 32 := extui 32 v178 natLt_1_32
  have v180 : FVec F S160x128 .f32 := sitofp .f32 v179
  have cst_130 : FVec F S40x128 .f32 := constant S40x128 .f32 0x00000000#32
  have v261 : FVec F S40x128 .f32 := matmul dot_S40x160_S160x128_S40x128_1_0_0_1_n_n none v260 v180 cst_130
  have v264 : FVec F S40x128 .f32 := divf v263 v261
  v264

/-- The result's rows. -/
def finV (v6778 : Vec F S2560x256 .f32) (v6787 v6789 : Vec F S1x256 .f32) : FVec F S128x256 .f32 :=
  have v6780 : IVec S128x2560 32 := iota .tc S128x2560 32 [1] iota_S128x2560_d1_w32
  have v6779 : IVec S128x2560 32 := iota .tc S128x2560 32 [0] iota_S128x2560_d0_w32
  have c20_i32_5865 : BitVec 32 := 20#32
  have v6781 : IVec S128x2560 32 := broadcast S128x2560 c20_i32_5865
  have v6782 : IVec S128x2560 32 := muli v6779 v6781
  have v6783 : IVec S128x2560 1 := cmpi .eq v6780 v6782
  have v6784 : IVec S128x2560 32 := extui 32 v6783 natLt_1_32
  have v6785 : FVec F S128x2560 .f32 := sitofp .f32 v6784
  have cst_5866 : FVec F S128x256 .f32 := constant S128x256 .f32 0x00000000#32
  have v6786 : FVec F S128x256 .f32 := matmul dot_S128x2560_S2560x256_S128x256_1_0_0_1_n_n none v6785 v6778 cst_5866
  have v6791 : FVec F S128 .f32 := multiReduction .add [1] S128 v6786 0x00000000#32 reduces_S128x256_S128 (.inl rfl) rfl
  have v6792 : FVec F S128x1 .f32 := shapeCast S128x1 v6791 shapeCasts_S128_S128x1
  have cst_5872 : F .f32 := Scalar.ofBits .f32 0x43800000#32
  have v6793 : FVec F S128x1 .f32 := broadcast S128x1 cst_5872
  have v6794 : FVec F S128x1 .f32 := divf v6792 v6793
  have v6795 : FVec F S128x256 .f32 := broadcastTo S128x256 v6794 broadcasts_S128x1_S128x256
  have v6796 : FVec F S128x256 .f32 := subf v6786 v6795
  have v6797 : FVec F S128x256 .f32 := mulf v6796 v6796
  have v6798 : FVec F S128 .f32 := multiReduction .add [1] S128 v6797 0x00000000#32 reduces_S128x256_S128 (.inl rfl) rfl
  have v6799 : FVec F S128x1 .f32 := shapeCast S128x1 v6798 shapeCasts_S128_S128x1
  have cst_5874 : F .f32 := Scalar.ofBits .f32 0x43800000#32
  have v6800 : FVec F S128x1 .f32 := broadcast S128x1 cst_5874
  have v6801 : FVec F S128x1 .f32 := divf v6799 v6800
  have cst_5875 : F .f32 := Scalar.ofBits .f32 0x3727C5AC#32
  have v6802 : FVec F S128x1 .f32 := broadcast S128x1 cst_5875
  have v6803 : FVec F S128x1 .f32 := addf v6801 v6802
  have v6804 : FVec F S128x1 .f32 := rsqrt v6803
  have v6805 : FVec F S128x256 .f32 := broadcastTo S128x256 v6804 broadcasts_S128x1_S128x256
  have v6806 : FVec F S128x256 .f32 := mulf v6796 v6805
  have v6788 : FVec F S1x256 .f32 := shapeCast S1x256 v6787 shapeCasts_S1x256_S1x256
  have v6807 : FVec F S128x256 .f32 := broadcastTo S128x256 v6788 broadcasts_S1x256_S128x256
  have v6808 : FVec F S128x256 .f32 := mulf v6806 v6807
  have v6790 : FVec F S1x256 .f32 := shapeCast S1x256 v6789 shapeCasts_S1x256_S1x256
  have v6809 : FVec F S128x256 .f32 := broadcastTo S128x256 v6790 broadcasts_S1x256_S128x256
  have v6810 : FVec F S128x256 .f32 := addf v6808 v6809
  v6810

end Values

section Words

/-- The remainder the kernel takes, of the sign of the divisor. -/
def modW (x d : BitVec 32) : BitVec 32 :=
  Scalar.select
    (IntOp.andi
      (IntOp.xori (IntOp.cmpi .slt (IntOp.remsi .vector x (Scalar.select (Scalar.cmpi .eq d 0#32) 1#32 d)) 0#32)
        (Scalar.cmpi .slt (Scalar.select (Scalar.cmpi .eq d 0#32) 1#32 d) 0#32))
      (IntOp.cmpi .ne (IntOp.remsi .vector x (Scalar.select (Scalar.cmpi .eq d 0#32) 1#32 d)) 0#32))
    (IntOp.addi (IntOp.remsi .vector x (Scalar.select (Scalar.cmpi .eq d 0#32) 1#32 d)) (Scalar.select (Scalar.cmpi .eq d 0#32) 1#32 d))
    (IntOp.remsi .vector x (Scalar.select (Scalar.cmpi .eq d 0#32) 1#32 d))

/-- The quotient the kernel takes, rounded down. -/
def divW (x d : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

theorem divW20 : ∀ r : Fin 40, divW (BitVec.ofNat 32 r.val) 20#32 = BitVec.ofNat 32 (r.val / 20) := by decide +kernel
theorem divW40 : ∀ r : Fin 160, divW (BitVec.ofNat 32 r.val) 40#32 = BitVec.ofNat 32 (r.val / 40) := by decide +kernel
theorem divW32 : ∀ r : Fin 128, divW (BitVec.ofNat 32 r.val) 32#32 = BitVec.ofNat 32 (r.val / 32) := by decide +kernel
theorem modW40 : ∀ r : Fin 160, divW (modW (BitVec.ofNat 32 r.val) 40#32) 20#32 = BitVec.ofNat 32 (r.val % 40 / 20) := by decide +kernel
theorem modW20 : ∀ r : Fin 2560, IntOp.addi (modW (BitVec.ofNat 32 r.val) 20#32) 24#32 = BitVec.ofNat 32 (24 + r.val % 20) := by decide +kernel

theorem eqW (a b : ℕ) (ha : a < 2 ^ 32) (hb : b < 2 ^ 32) : IntOp.cmpi .eq (BitVec.ofNat 32 a) (BitVec.ofNat 32 b) = BitVec.ofBool (decide (a = b)) := by
  have : (BitVec.ofNat 32 a == BitVec.ofNat 32 b) = decide (a = b) := by
    rw [Bool.eq_iff_iff]
    simp only [beq_iff_eq, decide_eq_true_eq]
    constructor
    · intro h
      have := congrArg BitVec.toNat h
      rw [BitVec.toNat_ofNat, BitVec.toNat_ofNat, Nat.mod_eq_of_lt ha, Nat.mod_eq_of_lt hb] at this
      exact this
    · rintro rfl; rfl
  show BitVec.ofBool (BitVec.ofNat 32 a == BitVec.ofNat 32 b) = _
  rw [this]

theorem sitofp_bool (p : Bool) : (FloatOps.sitofp (F := Ideal) FTy.f32 (BitVec.setWidth 32 (BitVec.ofBool p)) : EReal) = ((if p then (1 : ℝ) else 0 : ℝ) : EReal) := by
  cases p
  · show (((BitVec.setWidth 32 (BitVec.ofBool false)).toInt : ℝ) : EReal) = _
    rw [show (BitVec.setWidth 32 (BitVec.ofBool false)).toInt = 0 by decide]; simp
  · show (((BitVec.setWidth 32 (BitVec.ofBool true)).toInt : ℝ) : EReal) = _
    rw [show (BitVec.setWidth 32 (BitVec.ofBool true)).toInt = 1 by decide]; simp

theorem sameV_val (r : Fin 40) (k : Fin 160) : sameV (ix2 r k) = BitVec.ofBool (decide (r.val / 20 = (k.val % 40) / 20)) := by
  unfold sameV
  pointwise
  show IntOp.cmpi .eq (divW (BitVec.ofNat 32 r.val) 20#32) (divW (modW (BitVec.ofNat 32 k.val) 40#32) 20#32) = _
  rw [divW20, modW40, eqW _ _ (by omega) (by omega)]

theorem spreadV_val (k : Fin 160) (c : Fin 128) : spreadV (ix2 k c) = BitVec.ofBool (decide (k.val / 40 = c.val / 32)) := by
  unfold spreadV
  pointwise
  show IntOp.cmpi .eq (divW (BitVec.ofNat 32 k.val) 40#32) (divW (BitVec.ofNat 32 c.val) 32#32) = _
  rw [divW40, divW32, eqW _ _ (by omega) (by omega)]

end Words

section Reals

/-- The contents of an array are these reals. -/
abbrev Is2 {n m : ℕ} (x : (⟨2, ![n, m]⟩ : Shape).Idx → EReal) (X : Fin n → Fin m → ℝ) : Prop := ∀ r c, x (ix2 r c) = ((X r c : ℝ) : EReal)

theorem ln_expr (X G E : Fin 256 → ℝ) (c : Fin 256) :
    ((X c : EReal) - Ideal.div (∑ x, (X x : EReal)) (Ideal.ofBits FTy.f32 0x43800000#32)) *
          Ideal.rsqrt
            (Ideal.div
                (∑ x, ((X x : EReal) - Ideal.div (∑ x, (X x : EReal)) (Ideal.ofBits FTy.f32 0x43800000#32)) *
                    ((X x : EReal) - Ideal.div (∑ x, (X x : EReal)) (Ideal.ofBits FTy.f32 0x43800000#32)))
                (Ideal.ofBits FTy.f32 0x43800000#32) + Ideal.ofBits FTy.f32 0x3727C5AC#32) * (G c : EReal) + (E c : EReal) = ((ln G E X c : ℝ) : EReal) := by
  rw [c256, c_eps, ← coe_sum, div_coe _ _ (by norm_num)]
  simp only [← EReal.coe_sub, ← EReal.coe_mul]
  have hr := rsqrt_coe _ (var_eps_pos X)
  simp only [var, mean] at hr
  rw [← coe_sum, div_coe _ _ (by norm_num), ← EReal.coe_add, hr]
  simp only [← EReal.coe_mul, ← EReal.coe_add]
  rfl

theorem lnV_val {x : FVec Ideal S2560x256 .f32} {X : Fin 2560 → Fin 256 → ℝ} (hx : Is2 x X) {g b : Vec Ideal S1x1x256 .f32} {G E : Fin 256 → ℝ}
    (hg : ∀ c, g (ix3 0 0 c) = ((G c : ℝ) : EReal)) (hb : ∀ c, b (ix3 0 0 c) = ((E c : ℝ) : EReal)) :
    Is2 (lnV (F := Ideal) x g b) (fun r => ln G E (X r)) := by
  intro r c
  unfold lnV
  pointwise
  simp only [hx, hg, hb]
  exact ln_expr (X r) G E c

theorem lin_expr {n m : ℕ} (x : Fin n → ℝ) (w : Fin n → Fin m → ℝ) (c : Fin m) : ∑ k, (x k : EReal) * (w k c : EReal) = ((lin x w c : ℝ) : EReal) := by
  simp only [← EReal.coe_mul]
  rw [← coe_sum]; rfl

theorem mmV_val {x : FVec Ideal S2560x256 .f32} {X : Fin 2560 → Fin 256 → ℝ} (hx : Is2 x X) {w : Vec Ideal S1x256x256 .f32} {W : Fin 256 → Fin 256 → ℝ}
    (hw : ∀ a c, w (ix3 0 a c) = ((W a c : ℝ) : EReal)) :
    Is2 (mmV (F := Ideal) x w) (fun r => lin (X r) W) := by
  intro r c
  unfold mmV
  pointwise
  simp only [hx, hw]
  exact lin_expr _ _ _

theorem embV_val {x : Vec Ideal S2560x1 .i32} {X : Fin 2560 → Fin 24} (hx : ∀ r, x (ix2 r 0) = BitVec.ofNat 32 (X r).val) {t : Vec Ideal S44x256 .f32}
   {T : Fin 44 → Fin 256 → ℝ} (ht : Is2 t T) :
   Is2 (embV (F := Ideal) x t) (fun r c => T ⟨(X r).val, by omega⟩ c + T ⟨24 + r.val % 20, by omega⟩ c) := by
  intro r c
  unfold embV
  pointwise
  simp only [hx, ht]
  show ∑ k : Fin 44, FloatOps.sitofp (F := Ideal) FTy.f32 (BitVec.setWidth 32 (IntOp.ori (IntOp.cmpi .eq (BitVec.ofNat 32 k.val) (BitVec.ofNat 32 (X r).val))
    (IntOp.cmpi .eq (BitVec.ofNat 32 k.val) (IntOp.addi (modW (BitVec.ofNat 32 r.val) 20#32) 24#32)))) * (T k c : EReal) = _
  have key : ∀ k : Fin 44, FloatOps.sitofp (F := Ideal) FTy.f32 (BitVec.setWidth 32 (IntOp.ori (IntOp.cmpi .eq (BitVec.ofNat 32 k.val) (BitVec.ofNat 32 (X r).val))
    (IntOp.cmpi .eq (BitVec.ofNat 32 k.val) (IntOp.addi (modW (BitVec.ofNat 32 r.val) 20#32) 24#32)))) * (T k c : EReal)
     = (((if k.val = (X r).val then T k c else 0) + (if k.val = 24 + r.val % 20 then T k c else 0) : ℝ) : EReal) := by
    intro k
    rw [modW20, eqW _ _ (by omega) (by omega), eqW _ _ (by omega) (by omega),
      show ∀ p q : Bool, IntOp.ori (BitVec.ofBool p) (BitVec.ofBool q) = BitVec.ofBool (p || q) by decide, sitofp_bool, ← EReal.coe_mul]
    congr 1
    by_cases h1 : k.val = (X r).val
    · have h2 : ¬ k.val = 24 + r.val % 20 := by omega
      simp [h1, h2]
      omega
    · by_cases h2 : k.val = 24 + r.val % 20 <;> simp [h1, h2]
      omega
  rw [Finset.sum_congr rfl fun k _ => key k, ← coe_sum]
  congr 1
  rw [Finset.sum_add_distrib]
  congr 1
  · rw [Finset.sum_eq_single (⟨(X r).val, by omega⟩ : Fin 44)]
    · simp
    · intro b _ hb; rw [if_neg]; intro h; exact hb (Fin.ext h)
    · simp
  · rw [Finset.sum_eq_single (⟨24 + r.val % 20, by omega⟩ : Fin 44)]
    · simp
    · intro b _ hb; rw [if_neg]; intro h; exact hb (Fin.ext h)
    · simp

theorem c_one : Ideal.ofBits .f32 0x3F800000#32 = ((1 : ℝ) : EReal) := by
  rw [f32_pos _ 127 0 (by decide) (by decide) (by decide) (by decide) (by decide)]; norm_num

theorem geluV_val {x : FVec Ideal S2560x256 .f32} {X : Fin 2560 → Fin 256 → ℝ} (hx : Is2 x X) {w : Vec Ideal S1x256x1024 .f32} {W : Fin 256 → Fin 1024 → ℝ}
    (hw : ∀ a c, w (ix3 0 a c) = ((W a c : ℝ) : EReal)) {b : Vec Ideal S1x1x1024 .f32} {C : Fin 1024 → ℝ} (hb : ∀ c, b (ix3 0 0 c) = ((C c : ℝ) : EReal)) :
    Is2 (geluV (F := Ideal) x w b) (fun r c => gelu (lin (X r) W c + C c)) := by
  intro r c
  unfold geluV
  pointwise
  simp only [hx, hw, hb, lin_expr, c_half, c_gl1, c_gl2, ← EReal.coe_mul, ← EReal.coe_add, tanh_coe]
  first
  | rfl
  | (simp only [c_one, ← EReal.coe_mul, ← EReal.coe_add]; rfl)
  | (simp only [← EReal.coe_one, ← EReal.coe_mul, ← EReal.coe_add]; rfl)

theorem ffV_val {x : FVec Ideal S2560x256 .f32} {X : Fin 2560 → Fin 256 → ℝ} (hx : Is2 x X) {f : Vec Ideal S2560x1024 .f32} {H : Fin 2560 → Fin 1024 → ℝ} (hf : Is2 f H)
   {w : Vec Ideal S1x1024x256 .f32} {W : Fin 1024 → Fin 256 → ℝ}
    (hw : ∀ a c, w (ix3 0 a c) = ((W a c : ℝ) : EReal)) {b : Vec Ideal S1x1x256 .f32} {C : Fin 256 → ℝ} (hb : ∀ c, b (ix3 0 0 c) = ((C c : ℝ) : EReal)) :
    Is2 (ffV (F := Ideal) x f w b) (fun r c => X r c + lin (H r) W c + C c) := by
  intro r c
  unfold ffV
  pointwise
  simp only [hx, hf, hw, hb, lin_expr, ← EReal.coe_add]

theorem mul20W : ∀ r : Fin 128, IntOp.muli (BitVec.ofNat 32 r.val) 20#32 = BitVec.ofNat 32 (20 * r.val) := by decide +kernel

theorem sel_expr (r : Fin 128) (X : Fin 2560 → ℝ) :
    ∑ x : Fin 2560, FloatOps.sitofp (F := Ideal) FTy.f32 (BitVec.setWidth 32 (IntOp.cmpi .eq (BitVec.ofNat 32 x.val) (IntOp.muli (BitVec.ofNat 32 r.val) 20#32))) * (X x : EReal)
      = ((X ⟨20 * r.val, by omega⟩ : ℝ) : EReal) := by
  have key : ∀ x : Fin 2560, FloatOps.sitofp (F := Ideal) FTy.f32 (BitVec.setWidth 32 (IntOp.cmpi .eq (BitVec.ofNat 32 x.val) (IntOp.muli (BitVec.ofNat 32 r.val) 20#32))) * (X x : EReal)
      = ((if x.val = 20 * r.val then X x else 0 : ℝ) : EReal) := by
    intro x
    rw [mul20W, eqW _ _ (by omega) (by omega), sitofp_bool, ← EReal.coe_mul]
    by_cases h : x.val = 20 * r.val <;> simp [h]
  rw [Finset.sum_congr rfl fun k _ => key k, ← coe_sum, Finset.sum_eq_single (⟨20 * r.val, by omega⟩ : Fin 2560)]
  · simp
  · intro b _ hb; rw [if_neg]; intro h; exact hb (Fin.ext h)
  · simp

theorem finV_val {x : FVec Ideal S2560x256 .f32} {X : Fin 2560 → Fin 256 → ℝ} (hx : Is2 x X) {g b : Vec Ideal S1x256 .f32} {G E : Fin 256 → ℝ}
    (hg : ∀ c, g (ix2 0 c) = ((G c : ℝ) : EReal)) (hb : ∀ c, b (ix2 0 c) = ((E c : ℝ) : EReal)) :
    Is2 (finV (F := Ideal) x g b) (fun r => ln G E (X ⟨20 * r.val, by omega⟩)) := by
  intro r c
  unfold finV
  pointwise
  simp only [hx, hg, hb]
  have key := fun x : Fin 256 => sel_expr r (fun k => X k x)
  simp only [key]
  exact ln_expr (X ⟨20 * r.val, by omega⟩) G E c

/-- The scalar form of a group's attention weight. -/
def ew (same live dead : Prop) (s : ℝ) : ℝ := open Classical in if dead then (if same then uni else 0) else (if live ∧ same then Real.exp s else 0)

theorem mask_bot : Named.named (F := Ideal) (φ := .f32) κ "mask" 0xCE6E6B28#32 = (⊥ : EReal) := by
  first
  | rfl
  | (simp [Named.named, κ]; done)

theorem expV_val {same : IVec S40x160 1} {sm : Fin 40 → Fin 160 → Prop} [∀ r k, Decidable (sm r k)] (hs : ∀ r k, same (ix2 r k) = BitVec.ofBool (decide (sm r k)))
    {d : Vec Ideal S40x1 .f32} {D : Fin 40 → Prop} [∀ r, Decidable (D r)] (hd : ∀ r, d (ix2 r 0) = (((if D r then 1 else 0 : ℝ) : ℝ) : EReal))
    {m : Vec Ideal S1x1x160 .f32} {L : Fin 160 → Prop} [∀ k, Decidable (L k)] (hm : ∀ k, m (ix3 0 0 k) = (if L k then 0 else ⊥ : EReal))
    {q : Vec Ideal S40x128 .f32} {Q : Fin 40 → Fin 128 → ℝ} (hq : Is2 q Q)
    {x : Vec Ideal S160x128 .f32} {K : Fin 160 → Fin 128 → ℝ} (hx : Is2 x K) :
    Is2 (expV (F := Ideal) same d m q x) (fun r k => ew (sm r k) (L k) (D r) (∑ c, Q r c * K k c)) := by
  intro r k
  unfold expV
  pointwise
  simp only [hs, hd, hm, hq, hx]
  rw [mask_bot, sitofp_bool, c_uni, c_half]
  simp only [← EReal.coe_mul, ← coe_sum]
  unfold ew
  by_cases hD : D r
  · rw [if_pos (by rw [if_pos hD]; exact_mod_cast (by norm_num : (1 / 2 : ℝ) < 1)), if_pos hD]
    by_cases h : sm r k <;> simp [h]
  · rw [if_neg (by rw [if_neg hD]; simp), if_neg hD]
    by_cases h : sm r k
    · by_cases h' : L k
      · simp [h, h', Scalar.select, exp_coe]
      · simp [h, h', Scalar.select, exp_bot]
    · simp [h, Scalar.select, exp_bot]

theorem halfV_val {e : FVec Ideal S40x160 .f32} {E : Fin 40 → Fin 160 → ℝ} (he : Is2 e E)
   {v : Vec Ideal S160x128 .f32} {V : Fin 160 → Fin 128 → ℝ} (hv : Is2 v V) (r : Fin 40) (c : Fin 128)
   (h0 : ∑ k : Fin 160, E r k * (if k.val / 40 = c.val / 32 then 1 else 0) ≠ 0) :
   halfV (F := Ideal) e spreadV v (ix2 r c) = (((∑ k, E r k * V k c) / ∑ k : Fin 160, E r k * (if k.val / 40 = c.val / 32 then 1 else 0) : ℝ) : EReal) := by
  unfold halfV
  pointwise
  simp only [he, hv, spreadV_val, sitofp_bool, decide_eq_true_eq, ← EReal.coe_mul, ← coe_sum]
  exact div_coe _ _ h0

/-- A group's rows of one head's half, met with the model. -/
theorem attn_half (Q K V : Fin 40 → Fin 256 → ℝ) (live : Fin 40 → Prop) (nh : ℕ) (hnh : nh < 2) (E : Fin 40 → Fin 160 → ℝ)
    (hE : ∀ r k, E r k = ew (r.val / 20 = k.val % 40 / 20) (live ⟨k.val % 40, by omega⟩) (¬ ∃ i : Fin 20, live ⟨20 * (r.val / 20) + i.val, by omega⟩)
      (∑ d : Fin 128, Q r ⟨128 * nh + d.val, by omega⟩ * (if k.val / 40 = d.val / 32 then K ⟨k.val % 40, by omega⟩ ⟨128 * nh + d.val, by omega⟩ else 0)))
    (r : Fin 40) (c : Fin 128) :
    (∑ k : Fin 160, E r k * (if k.val / 40 = c.val / 32 then 1 else 0) ≠ 0) ∧
    (∑ k : Fin 160, E r k * (if k.val / 40 = c.val / 32 then V ⟨k.val % 40, by omega⟩ ⟨128 * nh + c.val, by omega⟩ else 0)) / (∑ k : Fin 160, E r k * (if k.val / 40 = c.val / 32 then 1 else 0))
    = attn (fun j => live ⟨20 * (r.val / 20) + j.val, by omega⟩) (fun j => Q ⟨20 * (r.val / 20) + j.val, by omega⟩)
       (fun j => K ⟨20 * (r.val / 20) + j.val, by omega⟩) (fun j => V ⟨20 * (r.val / 20) + j.val, by omega⟩) ⟨r.val % 20, by omega⟩ ⟨128 * nh + c.val, by omega⟩ := by
  classical
  set lv : Fin 20 → Prop := fun j => live ⟨20 * (r.val / 20) + j.val, by omega⟩ with hlv
  set q : Fin 20 → Fin 256 → ℝ := fun j => Q ⟨20 * (r.val / 20) + j.val, by omega⟩ with hq
  set k : Fin 20 → Fin 256 → ℝ := fun j => K ⟨20 * (r.val / 20) + j.val, by omega⟩ with hk
  set v : Fin 20 → Fin 256 → ℝ := fun j => V ⟨20 * (r.val / 20) + j.val, by omega⟩ with hv
  set C : Fin 256 := ⟨128 * nh + c.val, by omega⟩ with hC
  set s : Fin 20 := ⟨r.val % 20, by omega⟩ with hs
  have hEo : ∀ j : Fin 20, E r ⟨40 * (c.val / 32) + 20 * (r.val / 20) + j.val, by omega⟩ = (if ∃ i, lv i then 1 else uni) * wt lv q k s j (hd C) := by
    intro j
    rw [hE]
    have e1 : (40 * (c.val / 32) + 20 * (r.val / 20) + j.val) % 40 = 20 * (r.val / 20) + j.val := by omega
    have e2 : (40 * (c.val / 32) + 20 * (r.val / 20) + j.val) / 40 = c.val / 32 := by omega
    have e3 : (20 * (r.val / 20) + j.val) / 20 = r.val / 20 := by omega
    simp only [e1, e2, e3]
    have hsc : (∑ d : Fin 128, Q r ⟨128 * nh + d.val, by omega⟩ * (if c.val / 32 = d.val / 32 then K ⟨20 * (r.val / 20) + j.val, by omega⟩ ⟨128 * nh + d.val, by omega⟩ else 0)) = score q k s j (hd C) := by
      rw [sum_block (m := 32) (32 * (c.val / 32)) (by omega)]
      · unfold score
        refine Finset.sum_congr rfl fun d _ => ?_
        have e4 : c.val / 32 = (32 * (c.val / 32) + d.val) / 32 := by omega
        rw [if_pos e4]
        have e5 : r = (⟨20 * (r.val / 20) + r.val % 20, by omega⟩ : Fin 40) := Fin.ext (by simp; omega)
        have e6 : (⟨128 * nh + (32 * (c.val / 32) + d.val), by omega⟩ : Fin 256) = hcol (hd C) d := Fin.ext (by simp [hC]; omega)
        simp only [hq, hk, hs, e6, ← e5]
      · intro d hd
        rw [if_neg (by omega), mul_zero]
    rw [hsc]
    unfold ew wt
    by_cases h : ∃ i, lv i
    · rw [if_neg (not_not.mpr h), if_pos h, if_pos h, one_mul]
      simp only [and_true]; rfl
    · rw [if_pos h, if_neg h, if_neg h, mul_one]; simp
  have hE0 : ∀ k' : Fin 160, ¬ (40 * (c.val / 32) + 20 * (r.val / 20) ≤ k'.val ∧ k'.val < 40 * (c.val / 32) + 20 * (r.val / 20) + 20) → k'.val / 40 = c.val / 32 → E r k' = 0 := by
    intro k' h1 h2
    have h3 : ¬ r.val / 20 = k'.val % 40 / 20 := by omega
    rw [hE]; unfold ew; simp [h3]
  have hden : (∑ k : Fin 160, E r k * (if k.val / 40 = c.val / 32 then 1 else 0)) = (if ∃ i, lv i then 1 else uni) * ∑ j, wt lv q k s j (hd C) := by
    rw [sum_block (m := 20) (40 * (c.val / 32) + 20 * (r.val / 20)) (by omega), Finset.mul_sum]
    · refine Finset.sum_congr rfl fun j _ => ?_
      rw [if_pos (by show (40 * (c.val / 32) + 20 * (r.val / 20) + j.val) / 40 = _; omega), hEo, mul_one]
    · intro k' h
      by_cases h2 : k'.val / 40 = c.val / 32
      · rw [hE0 k' h h2, zero_mul]
      · rw [if_neg h2, mul_zero]
  have hnum : (∑ k : Fin 160, E r k * (if k.val / 40 = c.val / 32 then V ⟨k.val % 40, by omega⟩ C else 0)) = (if ∃ i, lv i then 1 else uni) * ∑ j, wt lv q k s j (hd C) * v j C := by
    rw [sum_block (m := 20) (40 * (c.val / 32) + 20 * (r.val / 20)) (by omega), Finset.mul_sum]
    · refine Finset.sum_congr rfl fun j _ => ?_
      have e1 : (40 * (c.val / 32) + 20 * (r.val / 20) + j.val) % 40 = 20 * (r.val / 20) + j.val := by omega
      rw [if_pos (by show (40 * (c.val / 32) + 20 * (r.val / 20) + j.val) / 40 = _; omega), hEo, mul_assoc]
      simp only [e1, hv]
    · intro k' h
      by_cases h2 : k'.val / 40 = c.val / 32
      · rw [hE0 k' h h2, zero_mul]
      · rw [if_neg h2, mul_zero]
  have hp : (if ∃ i, lv i then 1 else uni) ≠ 0 := by
    split_ifs
    · exact one_ne_zero
    · exact uni_pos.ne'
  rw [hden, hnum]
  refine ⟨mul_ne_zero hp (wt_sum_pos lv q k s (hd C)).ne', ?_⟩
  rw [mul_div_mul_left _ _ hp]
  rfl

end Reals
end Cert.KernelIdeal.Body
end
-- ==== Proof.KRun.lean ====
/-
  What the kernel's body leaves, at real contents: one group of queries after another.
-/
module

public import proofs.«01_k».proof.Proof.Kern

@[expose] public section

set_option maxRecDepth 65536
set_option pp.maxSteps 3000

noncomputable section

namespace Cert.KernelIdeal.Body

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open BodyRun
open Cert.KernelIdeal.Gen Cert.KernelIdeal.Run
open Cert.Model

/-! ## Rectangles of a matrix, at coordinates -/

theorem uval {s : Shape} (off size : Fin s.rank → ℕ) (inb) (x : (Rect.unit (s := s) off size inb).shape.Idx) (a : Fin s.rank) :
    ((Rect.unit off size inb).idx x a : ℕ) = off a + x a := by
  show off a + 1 * (x a : ℕ) = _; omega

theorem idx2 {n m a b p q : ℕ} (hb : ∀ i, (![a, b] : Fin 2 → ℕ) i + (![p, q] : Fin 2 → ℕ) i ≤ (⟨2, ![n, m]⟩ : Shape).size i)
    (i : Fin p) (j : Fin q) (hi : a + i.val < n) (hj : b + j.val < m) :
    (Rect.unit (s := ⟨2, ![n, m]⟩) ![a, b] ![p, q] hb).idx (ix2 i j) = ix2 ⟨a + i.val, hi⟩ ⟨b + j.val, hj⟩ := by
  funext k
  refine Fin.ext ?_
  rw [uval]
  revert k
  refine Fin.forall_fin_two.mpr ⟨?_, ?_⟩ <;> rfl

theorem idx3 {l n m a b c p q r : ℕ} (hb : ∀ i, (![a, b, c] : Fin 3 → ℕ) i + (![p, q, r] : Fin 3 → ℕ) i ≤ (⟨3, ![l, n, m]⟩ : Shape).size i)
    (i : Fin p) (j : Fin q) (k : Fin r) (hi : a + i.val < l) (hj : b + j.val < n) (hk : c + k.val < m) :
    (Rect.unit (s := ⟨3, ![l, n, m]⟩) ![a, b, c] ![p, q, r] hb).idx (ix3 i j k) = ix3 ⟨a + i.val, hi⟩ ⟨b + j.val, hj⟩ ⟨c + k.val, hk⟩ := by
  funext t
  refine Fin.ext ?_
  rw [uval]
  revert t
  rw [Fin.forall_fin_succ, Fin.forall_fin_two]
  refine ⟨?_, ?_, ?_⟩ <;> rfl

theorem ov_in {α : Type} {n m a b p q : ℕ} (hb : ∀ i, (![a, b] : Fin 2 → ℕ) i + (![p, q] : Fin 2 → ℕ) i ≤ (⟨2, ![n, m]⟩ : Shape).size i)
    (X : (⟨2, ![n, m]⟩ : Shape).Idx → α) (G : (⟨2, ![p, q]⟩ : Shape).Idx → α) (r : Fin n) (c : Fin m) (i : Fin p) (j : Fin q)
    (hi : r.val = a + i.val) (hj : c.val = b + j.val) :
    (Rect.unit (s := ⟨2, ![n, m]⟩) ![a, b] ![p, q] hb).overlay X G (ix2 r c) = G (ix2 i j) := by
  have e : (ix2 r c : (⟨2, ![n, m]⟩ : Shape).Idx) = (Rect.unit (s := ⟨2, ![n, m]⟩) ![a, b] ![p, q] hb).emb (ix2 i j) := by
    refine Eq.trans ?_ (idx2 hb i j (hi ▸ r.isLt) (hj ▸ c.isLt)).symm
    exact congrArg₂ ix2 (Fin.ext hi) (Fin.ext hj)
  rw [e]; exact Rect.overlay_emb _ _ _ _

theorem ov_out {α : Type} {n m a b p q : ℕ} (hb : ∀ i, (![a, b] : Fin 2 → ℕ) i + (![p, q] : Fin 2 → ℕ) i ≤ (⟨2, ![n, m]⟩ : Shape).size i)
    (X : (⟨2, ![n, m]⟩ : Shape).Idx → α) (G : (⟨2, ![p, q]⟩ : Shape).Idx → α) (r : Fin n) (c : Fin m)
    (h : ¬ (a ≤ r.val ∧ r.val < a + p ∧ b ≤ c.val ∧ c.val < b + q)) :
    (Rect.unit (s := ⟨2, ![n, m]⟩) ![a, b] ![p, q] hb).overlay X G (ix2 r c) = X (ix2 r c) := by
  refine Rect.overlay_of_not_mem _ _ _ fun hm => h ?_
  rw [← Rect.map_emb_univ] at hm
  simp only [Finset.mem_map, Finset.mem_univ, true_and] at hm
  obtain ⟨x, hx⟩ := hm
  have h0 := congrArg (fun f : (⟨2, ![n, m]⟩ : Shape).Idx => (f 0).val) hx
  have h1 := congrArg (fun f : (⟨2, ![n, m]⟩ : Shape).Idx => (f 1).val) hx
  have e0 : ((Rect.unit (s := ⟨2, ![n, m]⟩) ![a, b] ![p, q] hb).idx x 0 : ℕ) = a + x 0 := uval _ _ _ _ _
  have e1 : ((Rect.unit (s := ⟨2, ![n, m]⟩) ![a, b] ![p, q] hb).idx x 1 : ℕ) = b + x 1 := uval _ _ _ _ _
  have l0 : (x 0).val < p := (x 0).isLt
  have l1 : (x 1).val < q := (x 1).isLt
  have h0' : a + (x 0).val = r.val := e0.symm.trans h0
  have h1' : b + (x 1).val = c.val := e1.symm.trans h1
  omega

/-! ## One block's point -/

/-- The attention of a block's rows. -/
def att2 (Q K V : ℕ → Fin 256 → ℝ) (tok : ℕ → Fin 24) (r : ℕ) (c : Fin 256) : ℝ :=
  attn (fun j => (tok (20 * (r / 20) + j.val)).val ≠ 0) (fun j => Q (20 * (r / 20) + j.val)) (fun j => K (20 * (r / 20) + j.val)) (fun j => V (20 * (r / 20) + j.val))
    ⟨r % 20, Nat.mod_lt _ (by norm_num)⟩ c

/-- What holds before group `g`'s stores of keys, values and attention reach `nk`, `nv`, `nh`. -/
structure Inv (Q K V : ℕ → Fin 256 → ℝ) (tok : ℕ → Fin 24) (H : S20480x256.Idx → Elt Ideal .f32) (g nk nv nh : ℕ) (σ : St Ideal) : Prop where
  hh : σ.h = H
  hq : ∀ (r : Fin 2560) c, σ.q (ix2 r c) = ((Q r.val c : ℝ) : EReal)
  hk : ∀ (r : Fin 2560) c, σ.k (ix2 r c) = ((K r.val c : ℝ) : EReal)
  hv : ∀ (r : Fin 2560) c, σ.v (ix2 r c) = ((V r.val c : ℝ) : EReal)
  kx0 : ∀ (r : Fin 160) (c : Fin 256), r.val / 40 ≠ (c.val / 32) % 4 → σ.kx (ix2 r c) = (0 : EReal)
  vx0 : ∀ (r : Fin 160) (c : Fin 256), r.val / 40 ≠ (c.val / 32) % 4 → σ.vx (ix2 r c) = (0 : EReal)
  kx1 : ∀ (r : Fin 160) (c : Fin 256), r.val / 40 = (c.val / 32) % 4 → c.val / 32 < nk → σ.kx (ix2 r c) = ((K (40 * g + r.val % 40) c : ℝ) : EReal)
  vx1 : ∀ (r : Fin 160) (c : Fin 256), r.val / 40 = (c.val / 32) % 4 → c.val / 32 < nv → σ.vx (ix2 r c) = ((V (40 * g + r.val % 40) c : ℝ) : EReal)
  ha : ∀ (r : Fin 2560) (c : Fin 256), r.val < 40 * g ∨ (r.val < 40 * g + 40 ∧ c.val < 128 * nh) → σ.a (ix2 r c) = ((att2 Q K V tok r.val c : ℝ) : EReal)

variable {Q K V : ℕ → Fin 256 → ℝ} {tok : ℕ → Fin 24} {H : S20480x256.Idx → Elt Ideal .f32}

theorem Inv.kx {g n : ℕ} {σ : St Ideal} (I : Inv Q K V tok H g n n 0 σ) (hg : g < 64) (hn : n < 8)
    {hb : ∀ a, (![40 * (n % 4), 32 * n] : Fin 2 → ℕ) a + S40x32.size a ≤ S160x256.size a} {hb' : ∀ a, (![40 * g, 32 * n] : Fin 2 → ℕ) a + S40x32.size a ≤ S2560x256.size a}
    {hc : S40x32.ShapeCasts S40x32} {w : S40x32.Idx → Elt Ideal .f32}
    (hw : w = shapeCast S40x32 (fun j => σ.k ((Rect.unit (s := S2560x256) ![40 * g, 32 * n] S40x32.size hb').toLoadRect.idx j)) hc) :
    Inv Q K V tok H g (n + 1) n 0 { σ with kx := (Rect.unit (s := S160x256) ![40 * (n % 4), 32 * n] S40x32.size hb).overlay σ.kx w } := by
  have hw' : ∀ (i : Fin 40) (j : Fin 32), w (ix2 i j) = ((K (40 * g + i.val) ⟨32 * n + j.val, by omega⟩ : ℝ) : EReal) := by
    intro i j
    rw [hw]
    refine (congrFun (shapeCast_id _ hc) (ix2 i j)).trans ?_
    have e := idx2 (n := 2560) (m := 256) hb' i j (by omega) (by omega)
    exact (congrArg σ.k e).trans (I.hk _ _)
  refine { I with kx0 := ?_, kx1 := ?_ }
  · intro r c h
    refine (ov_out hb σ.kx w r c ?_).trans (I.kx0 r c h)
    rintro ⟨h1, h2, h3, h4⟩
    have : c.val / 32 = n := by omega
    have : r.val / 40 = n % 4 := by omega
    omega
  · intro r c h h'
    by_cases hin : c.val / 32 = n
    · refine (ov_in hb σ.kx w r c ⟨r.val % 40, by omega⟩ ⟨c.val % 32, by omega⟩ (by show r.val = 40 * (n % 4) + r.val % 40; omega) (by show c.val = 32 * n + c.val % 32; omega)).trans ?_
      rw [hw']
      have e2 : (⟨32 * n + c.val % 32, by omega⟩ : Fin 256) = c := Fin.ext (by show 32 * n + c.val % 32 = c.val; omega)
      simp only [e2]
    · refine (ov_out hb σ.kx w r c ?_).trans (I.kx1 r c h (by omega))
      rintro ⟨h1, h2, h3, h4⟩
      omega

theorem Inv.vx {g n : ℕ} {σ : St Ideal} (I : Inv Q K V tok H g (n + 1) n 0 σ) (hg : g < 64) (hn : n < 8)
    {hb : ∀ a, (![40 * (n % 4), 32 * n] : Fin 2 → ℕ) a + S40x32.size a ≤ S160x256.size a} {hb' : ∀ a, (![40 * g, 32 * n] : Fin 2 → ℕ) a + S40x32.size a ≤ S2560x256.size a}
    {hc : S40x32.ShapeCasts S40x32} {w : S40x32.Idx → Elt Ideal .f32}
    (hw : w = shapeCast S40x32 (fun j => σ.v ((Rect.unit (s := S2560x256) ![40 * g, 32 * n] S40x32.size hb').toLoadRect.idx j)) hc) :
    Inv Q K V tok H g (n + 1) (n + 1) 0 { σ with vx := (Rect.unit (s := S160x256) ![40 * (n % 4), 32 * n] S40x32.size hb).overlay σ.vx w } := by
  have hw' : ∀ (i : Fin 40) (j : Fin 32), w (ix2 i j) = ((V (40 * g + i.val) ⟨32 * n + j.val, by omega⟩ : ℝ) : EReal) := by
    intro i j
    rw [hw]
    refine (congrFun (shapeCast_id _ hc) (ix2 i j)).trans ?_
    have e := idx2 (n := 2560) (m := 256) hb' i j (by omega) (by omega)
    exact (congrArg σ.v e).trans (I.hv _ _)
  refine { I with vx0 := ?_, vx1 := ?_ }
  · intro r c h
    refine (ov_out hb σ.vx w r c ?_).trans (I.vx0 r c h)
    rintro ⟨h1, h2, h3, h4⟩
    have : c.val / 32 = n := by omega
    have : r.val / 40 = n % 4 := by omega
    omega
  · intro r c h h'
    by_cases hin : c.val / 32 = n
    · refine (ov_in hb σ.vx w r c ⟨r.val % 40, by omega⟩ ⟨c.val % 32, by omega⟩ (by show r.val = 40 * (n % 4) + r.val % 40; omega) (by show c.val = 32 * n + c.val % 32; omega)).trans ?_
      rw [hw']
      have e2 : (⟨32 * n + c.val % 32, by omega⟩ : Fin 256) = c := Fin.ext (by show 32 * n + c.val % 32 = c.val; omega)
      simp only [e2]
    · refine (ov_out hb σ.vx w r c ?_).trans (I.vx1 r c h (by omega))
      rintro ⟨h1, h2, h3, h4⟩
      omega

/-- What the point's staged inputs hold: the tokens, and the parameters of layer `l`. -/
structure InsAt (P : Par) (l : ℕ) (tok : ℕ → Fin 24) (X : Ins Ideal) : Prop where
  x2 : ∀ r : Fin 2560, X.x2 (ix2 r 0) = BitVec.ofNat 32 (tok r.val).val
  x3 : ∀ (g : Fin 64) (k : Fin 160), X.x3 (ix3 g 0 k) = (if (tok (40 * g.val + k.val % 40)).val ≠ 0 then 0 else ⊥ : EReal)
  x4 : ∀ r : Fin 2560, X.x4 (ix2 r 0) = (((open Classical in if ¬ ∃ i : Fin 20, (tok (20 * (r.val / 20) + i.val)).val ≠ 0 then 1 else 0 : ℝ) : ℝ) : EReal)
  x5a : ∀ (k : Fin 24) c, X.x5 (ix2 ⟨k.val, by omega⟩ c) = ((P.emb k c : ℝ) : EReal)
  x5b : ∀ (k : Fin 20) c, X.x5 (ix2 ⟨24 + k.val, by omega⟩ c) = ((P.pos k c : ℝ) : EReal)
  x6 : ∀ c, X.x6 (ix3 0 0 c) = ((P.g1 l c : ℝ) : EReal)
  x7 : ∀ c, X.x7 (ix3 0 0 c) = ((P.e1 l c : ℝ) : EReal)
  x8 : ∀ a c, X.x8 (ix3 0 a c) = ((P.wq l a c * scl : ℝ) : EReal)
  x9 : ∀ a c, X.x9 (ix3 0 a c) = ((P.wk l a c : ℝ) : EReal)
  x10 : ∀ a c, X.x10 (ix3 0 a c) = ((P.wv l a c : ℝ) : EReal)
  x11 : ∀ a c, X.x11 (ix3 0 a c) = ((P.wo l a c : ℝ) : EReal)
  x12 : ∀ c, X.x12 (ix3 0 0 c) = ((P.g2 l c : ℝ) : EReal)
  x13 : ∀ c, X.x13 (ix3 0 0 c) = ((P.e2 l c : ℝ) : EReal)
  x14 : ∀ a c, X.x14 (ix3 0 a c) = ((P.w1 l a c : ℝ) : EReal)
  x15 : ∀ c, X.x15 (ix3 0 0 c) = ((P.b1 l c : ℝ) : EReal)
  x16 : ∀ a c, X.x16 (ix3 0 a c) = ((P.w2 l a c : ℝ) : EReal)
  x17 : ∀ c, X.x17 (ix3 0 0 c) = ((P.b2 l c : ℝ) : EReal)
  x18 : ∀ c, X.x18 (ix2 0 c) = ((P.gf c : ℝ) : EReal)
  x19 : ∀ c, X.x19 (ix2 0 c) = ((P.ef c : ℝ) : EReal)

theorem Inv.att {P : Par} {l : ℕ} {X : Ins Ideal} (hX : InsAt P l tok X) {g nh : ℕ} {σ : St Ideal} (I : Inv Q K V tok H g 8 8 nh σ) (hg : g < 64) (hn : nh < 2)
    {hb : ∀ a, (![40 * g, 128 * nh] : Fin 2 → ℕ) a + S40x128.size a ≤ S2560x256.size a}
    {hb4 : ∀ a, (![40 * g, 0] : Fin 2 → ℕ) a + S40x1.size a ≤ S2560x1.size a}
    {hb3 : ∀ a, (![g, 0, 0] : Fin 3 → ℕ) a + S1x1x160.size a ≤ S64x1x160.size a}
    {hbx : ∀ a, (![0, 128 * nh] : Fin 2 → ℕ) a + S160x128.size a ≤ S160x256.size a}
    {hc : S40x128.ShapeCasts S40x128} {w : S40x128.Idx → Elt Ideal .f32}
    (hw : w = shapeCast S40x128 (halfV (F := Ideal) (expV sameV (fun j => X.x4 ((Rect.unit (s := S2560x1) ![40 * g, 0] S40x1.size hb4).toLoadRect.idx j))
        (fun j => X.x3 ((Rect.unit (s := S64x1x160) ![g, 0, 0] S1x1x160.size hb3).toLoadRect.idx j))
        (fun j => σ.q ((Rect.unit (s := S2560x256) ![40 * g, 128 * nh] S40x128.size hb).toLoadRect.idx j))
        (fun j => σ.kx ((Rect.unit (s := S160x256) ![0, 128 * nh] S160x128.size hbx).toLoadRect.idx j))) spreadV
        (fun j => σ.vx ((Rect.unit (s := S160x256) ![0, 128 * nh] S160x128.size hbx).toLoadRect.idx j))) hc) :
    Inv Q K V tok H g 8 8 (nh + 1) { σ with a := (Rect.unit (s := S2560x256) ![40 * g, 128 * nh] S40x128.size hb).overlay σ.a w } := by
  classical
  let Qg : Fin 40 → Fin 256 → ℝ := fun i => Q (40 * g + i.val)
  let Kg : Fin 40 → Fin 256 → ℝ := fun i => K (40 * g + i.val)
  let Vg : Fin 40 → Fin 256 → ℝ := fun i => V (40 * g + i.val)
  let lg : Fin 40 → Prop := fun i => (tok (40 * g + i.val)).val ≠ 0
  have hw' : ∀ (i : Fin 40) (j : Fin 128), w (ix2 i j) = ((att2 Q K V tok (40 * g + i.val) ⟨128 * nh + j.val, by omega⟩ : ℝ) : EReal) := by
    intro i j
    rw [hw]
    refine (congrFun (shapeCast_id _ hc) (ix2 i j)).trans ?_
    have he := expV_val (sm := fun (r : Fin 40) (k : Fin 160) => r.val / 20 = k.val % 40 / 20) sameV_val
      (d := fun j => X.x4 ((Rect.unit (s := S2560x1) ![40 * g, 0] S40x1.size hb4).toLoadRect.idx j))
      (D := fun r => ¬ ∃ i : Fin 20, lg ⟨20 * (r.val / 20) + i.val, by omega⟩)
      (by
        intro r
        have e := idx2 (n := 2560) (m := 1) hb4 r 0 (by omega) (by simp)
        refine (congrArg X.x4 e).trans ((hX.x4 _).trans ?_)
        have e2 : 20 * ((40 * g + r.val) / 20) = 40 * g + 20 * (r.val / 20) := by omega
        simp only [e2, lg, Nat.add_assoc])
      (m := fun j => X.x3 ((Rect.unit (s := S64x1x160) ![g, 0, 0] S1x1x160.size hb3).toLoadRect.idx j))
      (L := fun k => lg ⟨k.val % 40, by omega⟩)
      (by
        intro k
        have e := idx3 (l := 64) (n := 1) (m := 160) hb3 0 0 k (by simpa using hg) (by simp) (by omega)
        refine (congrArg X.x3 e).trans ?_
        have e2 : (ix3 ⟨g + (0 : Fin 1).val, by simpa using hg⟩ ⟨0 + (0 : Fin 1).val, by simp⟩ ⟨0 + k.val, by omega⟩ : S64x1x160.Idx) = ix3 ⟨g, hg⟩ 0 k := by
          congr 1; exact Fin.ext (by simp)
        rw [e2, hX.x3])
      (q := fun j => σ.q ((Rect.unit (s := S2560x256) ![40 * g, 128 * nh] S40x128.size hb).toLoadRect.idx j))
      (Q := fun r c => Qg r ⟨128 * nh + c.val, by omega⟩)
      (by
        intro r c
        have e := idx2 (n := 2560) (m := 256) hb r c (by omega) (by omega)
        exact (congrArg σ.q e).trans (I.hq _ _))
      (x := fun j => σ.kx ((Rect.unit (s := S160x256) ![0, 128 * nh] S160x128.size hbx).toLoadRect.idx j))
      (K := fun k d => if k.val / 40 = d.val / 32 then Kg ⟨k.val % 40, by omega⟩ ⟨128 * nh + d.val, by omega⟩ else 0)
      (by
        intro r c
        have e := idx2 (n := 160) (m := 256) hbx r c (by omega) (by omega)
        refine (congrArg σ.kx e).trans ?_
        by_cases h : r.val / 40 = c.val / 32
        · simp only [if_pos h]
          refine (I.kx1 _ _ (by show (0 + r.val) / 40 = (128 * nh + c.val) / 32 % 4; omega) (by show (128 * nh + c.val) / 32 < 8; omega)).trans ?_
          simp only [Kg, Nat.zero_add]
        · simp only [if_neg h]
          exact (I.kx0 _ _ (by show (0 + r.val) / 40 ≠ (128 * nh + c.val) / 32 % 4; omega)))
    have hv : Is2 (fun j => σ.vx ((Rect.unit (s := S160x256) ![0, 128 * nh] S160x128.size hbx).toLoadRect.idx j))
        (fun (k : Fin 160) (d : Fin 128) => if k.val / 40 = d.val / 32 then Vg ⟨k.val % 40, by omega⟩ ⟨128 * nh + d.val, by omega⟩ else 0) := by
        intro r c
        have e := idx2 (n := 160) (m := 256) hbx r c (by omega) (by omega)
        refine (congrArg σ.vx e).trans ?_
        by_cases h : r.val / 40 = c.val / 32
        · simp only [if_pos h]
          refine (I.vx1 _ _ (by show (0 + r.val) / 40 = (128 * nh + c.val) / 32 % 4; omega) (by show (128 * nh + c.val) / 32 < 8; omega)).trans ?_
          simp only [Vg, Nat.zero_add]
        · simp only [if_neg h]
          exact (I.vx0 _ _ (by show (0 + r.val) / 40 ≠ (128 * nh + c.val) / 32 % 4; omega))
    obtain ⟨h0, h1⟩ := attn_half Qg Kg Vg lg nh hn _ (fun r k => rfl) i j
    refine (halfV_val he hv i j h0).trans ?_
    rw [h1]
    unfold att2
    have e2 : 20 * ((40 * g + i.val) / 20) = 40 * g + 20 * (i.val / 20) := by omega
    have e3 : (40 * g + i.val) % 20 = i.val % 20 := by omega
    simp only [e2, e3, lg, Qg, Kg, Vg, Nat.add_assoc]
  refine { I with ha := ?_ }
  intro r c h
  by_cases hin : 40 * g ≤ r.val ∧ r.val < 40 * g + 40 ∧ 128 * nh ≤ c.val ∧ c.val < 128 * nh + 128
  · refine (ov_in hb σ.a w r c ⟨r.val - 40 * g, by omega⟩ ⟨c.val - 128 * nh, by omega⟩ (by show r.val = 40 * g + (r.val - 40 * g); omega) (by show c.val = 128 * nh + (c.val - 128 * nh); omega)).trans ?_
    rw [hw']
    have e1 : 40 * g + (r.val - 40 * g) = r.val := by omega
    have e2 : (⟨128 * nh + (c.val - 128 * nh), by omega⟩ : Fin 256) = c := Fin.ext (by show 128 * nh + (c.val - 128 * nh) = c.val; omega)
    simp only [e1, e2]
  · exact (ov_out hb σ.a w r c hin).trans (I.ha r c (by omega))

theorem Inv.next {g : ℕ} {σ : St Ideal} (I : Inv Q K V tok H g 8 8 2 σ) : Inv Q K V tok H (g + 1) 0 0 0 σ :=
  { I with
    kx1 := fun r c _ h => absurd h (by omega)
    vx1 := fun r c _ h => absurd h (by omega)
    ha := fun r c h => I.ha r c (by omega) }

end Cert.KernelIdeal.Body
end
-- ==== Proof.KWalk.lean ====
/-
  The whole body at real contents: one layer of one block.
-/
module

public import proofs.«01_k».proof.Proof.KRun

@[expose] public section

set_option maxRecDepth 65536
set_option pp.maxSteps 3000

noncomputable section

namespace Cert.KernelIdeal.Body

open Idealize.ShloMosaic Idealize.ShloMosaic.TcCoe Idealize.ShloMosaic.Tactic
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open BodyRun
open Cert.KernelIdeal.Gen Cert.KernelIdeal.Run
open Cert.Model

/-! ## Whole accesses, and accesses at named offsets -/

theorem idx_whole {s : Shape} {off : Fin s.rank → ℕ} (h0 : ∀ a, off a = 0) (hb) (j : s.Idx) :
    (Rect.unit (s := s) off s.size hb).idx j = j :=
  funext fun a => Fin.ext ((uval off s.size hb j a).trans (by rw [h0]; exact Nat.zero_add _))

theorem ld_whole {s : Shape} {α : Type} {off : Fin s.rank → ℕ} (h0 : ∀ a, off a = 0) (hb) (x : s.Idx → α) :
    (fun j => x ((Rect.unit (s := s) off s.size hb).toLoadRect.idx j)) = x :=
  funext fun j => congrArg x (idx_whole h0 hb j)

theorem ov_whole {s : Shape} {α : Type} {off : Fin s.rank → ℕ} (h0 : ∀ a, off a = 0) (hb) (x : s.Idx → α) (G : s.Idx → α) :
    (Rect.unit (s := s) off s.size hb).overlay x G = G := by
  funext j
  have := Rect.overlay_emb (Rect.unit (s := s) off s.size hb) x G j
  have e : (Rect.unit (s := s) off s.size hb).emb j = j := idx_whole h0 hb j
  rw [e] at this
  exact this

theorem z2 : ∀ a, (![0, 0] : Fin 2 → ℕ) a = 0 := by decide
theorem z3 : ∀ a, (![0, 0, 0] : Fin 3 → ℕ) a = 0 := by decide

theorem off1_eq (i : grid0.Coords) : k0_off1 i = ![2560 * (i 1).val, 0] := by
  have h : (i 1).val < 8 := (i 1).isLt
  have key : ∀ b : Fin 8, (Scalar.indexCast (Scalar.muli (BitVec.ofNat 32 b.val) 2560#32)).toNat = 2560 * b.val := by decide
  show ![(Scalar.indexCast (Scalar.muli (BitVec.ofNat 32 (i 1).val) 2560#32)).toNat, 0] = _
  rw [key ⟨(i 1).val, h⟩]
theorem off2_eq (i : grid0.Coords) : k0_off2 i = ![2560 * (i 1).val, 0] := off1_eq i
theorem off3_eq (i : grid0.Coords) : k0_off3 i = ![2560 * (i 1).val, 0] := off1_eq i

theorem cond2_iff (i : grid0.Coords) : k0_cond2 i = 1#1 ↔ (i 0).val = 0 := by
  have h : (i 0).val < 12 := (i 0).isLt
  have key : ∀ d : Fin 12, (Scalar.cmpi .ne (Scalar.extui (Scalar.cmpi .eq (BitVec.ofNat 32 d.val) 0#32) : BitVec 32) 0#32 = 1#1 ↔ d.val = 0) := by decide
  exact key ⟨(i 0).val, h⟩
theorem cond3_iff (i : grid0.Coords) : k0_cond3 i = 1#1 ↔ (i 0).val = 11 := by
  have h : (i 0).val < 12 := (i 0).isLt
  have key : ∀ d : Fin 12, (Scalar.cmpi .ne (Scalar.extui (Scalar.cmpi .eq (BitVec.ofNat 32 d.val) 11#32) : BitVec 32) 0#32 = 1#1 ↔ d.val = 11) := by decide
  exact key ⟨(i 0).val, h⟩
theorem cond1_of (i : grid0.Coords) (h0 : (i 0).val = 0) (h1 : (i 1).val = 0) :
    Scalar.cmpi .ne (Scalar.extui (Scalar.andi (Scalar.cmpi .eq (BitVec.ofNat 32 (i 0).val) 0#32) (Scalar.cmpi .eq (BitVec.ofNat 32 (i 1).val) 0#32)) : BitVec 32) 0#32 = 1#1 := by
  simp only [h0, h1]
  decide

variable {c : Dev nD} {B : Bufs} {X : Ins Ideal} {𝒱 : Variants} {i : grid0.Coords}
variable {P : Par} {l : ℕ} {tok : ℕ → Fin 24}

/-- A block's rows in the array of every block's rows. -/
def Rows (b : ℕ) (h : S20480x256.Idx → Elt Ideal .f32) (Hr : ℕ → Fin 256 → ℝ) : Prop :=
  ∀ (r : Fin 20480) (q : Fin 256), 2560 * b ≤ r.val → r.val < 2560 * b + 2560 → h (ix2 r q) = ((Hr (r.val - 2560 * b) q : ℝ) : EReal)

/-- The rows of every other block are kept. -/
def Kept (b : ℕ) (h h' : S20480x256.Idx → Elt Ideal .f32) : Prop :=
  ∀ (r : Fin 20480) (q : Fin 256), ¬ (2560 * b ≤ r.val ∧ r.val < 2560 * b + 2560) → h' (ix2 r q) = h (ix2 r q)

/-- The scratch of keys or values is zero off its diagonal. -/
def Off (x : S160x256.Idx → Elt Ideal .f32) : Prop :=
  ∀ (r : Fin 160) (c : Fin 256), r.val / 40 ≠ (c.val / 32) % 4 → x (ix2 r c) = (0 : EReal)

theorem Rows.load {b : ℕ} (hb8 : b < 8) {h : S20480x256.Idx → Elt Ideal .f32} {Hr : ℕ → Fin 256 → ℝ} (R : Rows b h Hr) {off : Fin 2 → ℕ} (ho : off = ![2560 * b, 0])
    (hb : ∀ a, off a + S2560x256.size a ≤ S20480x256.size a) :
    Is2 (fun j : S2560x256.Idx => h ((Rect.unit (s := S20480x256) off S2560x256.size hb).toLoadRect.idx j)) (fun r : Fin 2560 => Hr r.val) := by
  subst ho
  intro r q
  have e := idx2 (n := 20480) (m := 256) hb r q (by omega) (by omega)
  refine (congrArg h e).trans ((R _ _ (by show 2560 * b ≤ 2560 * b + r.val; omega) (by show 2560 * b + r.val < _; omega)).trans ?_)
  have e1 : 2560 * b + r.val - 2560 * b = r.val := by omega
  have e2 : (⟨0 + q.val, by omega⟩ : Fin 256) = q := Fin.ext (Nat.zero_add _)
  simp only [e1, e2]

theorem Rows.store {b : ℕ} {h : S20480x256.Idx → Elt Ideal .f32} {Hr : ℕ → Fin 256 → ℝ} {off : Fin 2 → ℕ} (ho : off = ![2560 * b, 0])
    (hb : ∀ a, off a + S2560x256.size a ≤ S20480x256.size a) {w : S2560x256.Idx → Elt Ideal .f32} (hw : Is2 w (fun r : Fin 2560 => Hr r.val)) :
    Rows b ((Rect.unit (s := S20480x256) off S2560x256.size hb).overlay h w) Hr ∧ Kept b h ((Rect.unit (s := S20480x256) off S2560x256.size hb).overlay h w) := by
  subst ho
  constructor
  · intro r q h1 h2
    refine (ov_in hb h w r q ⟨r.val - 2560 * b, by omega⟩ q (by show r.val = 2560 * b + (r.val - 2560 * b); omega) (Nat.zero_add _).symm).trans ?_
    rw [hw]
  · intro r q hn
    exact ov_out hb h w r q (fun h => hn ⟨h.1, h.2.1⟩)

theorem sc_zero {s s' : Shape} (h : s.ShapeCasts s') : shapeCast s' (broadcast s (Scalar.ofBits (F := Ideal) .f32 0x00000000#32)) h = fun _ => (0 : EReal) := by
  funext j
  show Ideal.ofBits .f32 0x00000000#32 = 0
  first
  | rfl
  | simp

set_option maxHeartbeats 0 in
theorem part1_val (hX : InsAt P l tok X) (hl : (i 0).val = l) {Hr : ℕ → Fin 256 → ℝ} {σ : St Ideal}
    (hrow : l ≠ 0 → Rows (i 1).val σ.h Hr)
    (hemb : l = 0 → ∀ (r : ℕ) c, Hr r c = P.emb (tok r) c + P.pos ⟨r % 20, Nat.mod_lt _ (by norm_num)⟩ c)
    (hoff : ¬ (l = 0 ∧ (i 1).val = 0) → Off σ.kx ∧ Off σ.vx) :
    Runs c B X 𝒱 σ (k0_part1 i B.m2 B.w2 B.m3 B.w3 B.m4 B.w4 B.m5 B.w5 B.m6 B.w6 B.m7 B.w7 B.m8 B.w8 B.m9 B.w9 B.m10 B.w10 B.m11 B.w11 B.m12 B.w12 B.m13 B.w13 B.m14 B.w14 B.m15 B.w15 B.m16 B.w16 B.m17 B.w17 B.m18 B.w18 B.m19 B.w19 B.m20 B.w20 B.m21 B.w21 B.m22 B.w22 B.m23 B.w23 B.m24 B.w24 B.m25 B.w25 B.m26 B.w26 B.m27 B.w27 B.m28 B.w28)
      fun a σ' => Is2 a.2.2.1 (fun r : Fin 2560 => Hr r.val) ∧ Is2 a.2.2.2 (fun r : Fin 2560 => ln (P.g1 l) (P.e1 l) (Hr r.val)) ∧ Rows (i 1).val σ'.h Hr ∧ Kept (i 1).val σ.h σ'.h ∧ Off σ'.kx ∧ Off σ'.vx := by
  have hb8 : (i 1).val < 8 := (i 1).isLt
  -- the last three loads
  have fin : ∀ (σ' : St Ideal), Rows (i 1).val σ'.h Hr → ∀ hb h6 h7,
      Is2 (fun j => σ'.h ((Rect.unit (s := S20480x256) (k0_off2 i) S2560x256.size hb).toLoadRect.idx j)) (fun r : Fin 2560 => Hr r.val) ∧
      Is2 (lnV (F := Ideal) (fun j => σ'.h ((Rect.unit (s := S20480x256) (k0_off2 i) S2560x256.size hb).toLoadRect.idx j))
        (fun j => X.x6 ((Rect.unit (s := S1x1x256) ![0, 0, 0] S1x1x256.size h6).toLoadRect.idx j))
        (fun j => X.x7 ((Rect.unit (s := S1x1x256) ![0, 0, 0] S1x1x256.size h7).toLoadRect.idx j))) (fun r : Fin 2560 => ln (P.g1 l) (P.e1 l) (Hr r.val)) := by
    intro σ' R hb h6 h7
    have h1 := R.load hb8 (off2_eq i) hb
    refine ⟨h1, ?_⟩
    exact lnV_val h1 (fun c => (congrArg X.x6 (idx_whole (s := S1x1x256) z3 h6 _)).trans (hX.x6 c)) (fun c => (congrArg X.x7 (idx_whole (s := S1x1x256) z3 h7 _)).trans (hX.x7 c))
  have emb : ∀ (σ' : St Ideal) (h0 : l = 0) hb h2 h5 (hc : S2560x256.ShapeCasts S2560x256),
      Rows (i 1).val ((Rect.unit (s := S20480x256) (k0_off1 i) S2560x256.size hb).overlay σ'.h (shapeCast S2560x256 (embV (F := Ideal)
        (fun j => X.x2 ((Rect.unit (s := S2560x1) ![0, 0] S2560x1.size h2).toLoadRect.idx j))
        (fun j => X.x5 ((Rect.unit (s := S44x256) ![0, 0] S44x256.size h5).toLoadRect.idx j))) hc)) Hr ∧
      Kept (i 1).val σ'.h ((Rect.unit (s := S20480x256) (k0_off1 i) S2560x256.size hb).overlay σ'.h (shapeCast S2560x256 (embV (F := Ideal)
        (fun j => X.x2 ((Rect.unit (s := S2560x1) ![0, 0] S2560x1.size h2).toLoadRect.idx j))
        (fun j => X.x5 ((Rect.unit (s := S44x256) ![0, 0] S44x256.size h5).toLoadRect.idx j))) hc)) := by
    intro σ' h0 hb h2 h5 hc
    refine Rows.store (off1_eq i) hb ?_
    intro r q
    refine (congrFun (shapeCast_id _ hc) (ix2 r q)).trans ?_
    refine (embV_val (X := fun r => tok r.val) (fun r => (congrArg X.x2 (idx_whole (s := S2560x1) z2 h2 _)).trans (hX.x2 r)) (T := fun k c => (X.x5 (ix2 k c)).toReal) ?_ r q).trans ?_
    · intro k c
      refine (congrArg X.x5 (idx_whole (s := S44x256) z2 h5 _)).trans ?_
      by_cases hk : k.val < 24
      · have := hX.x5a ⟨k.val, hk⟩ c
        have e : (⟨k.val, by omega⟩ : Fin 44) = k := rfl
        rw [e] at this
        show X.x5 (ix2 k c) = (((X.x5 (ix2 k c)).toReal : ℝ) : EReal)
        rw [this, EReal.toReal_coe]
      · have := hX.x5b ⟨k.val - 24, by omega⟩ c
        have e : (⟨24 + (k.val - 24), by omega⟩ : Fin 44) = k := Fin.ext (by show 24 + (k.val - 24) = k.val; omega)
        simp only [e] at this
        show X.x5 (ix2 k c) = (((X.x5 (ix2 k c)).toReal : ℝ) : EReal)
        rw [this, EReal.toReal_coe]
    · have ha := hX.x5a (tok r.val) q
      have hb := hX.x5b ⟨r.val % 20, by omega⟩ q
      simp only at ha hb
      simp only [ha, hb, hemb h0, EReal.toReal_coe]
  have zero : ∀ (x : S160x256.Idx → Elt Ideal .f32) hb (hc : S160x256.ShapeCasts S160x256), Off ((Rect.unit (s := S160x256) ![0, 0] S160x256.size hb).overlay x
      (shapeCast S160x256 (broadcast S160x256 (Scalar.ofBits (F := Ideal) .f32 0x00000000#32)) hc)) := by
    intro x hb hc r q _
    rw [ov_whole (s := S160x256) z2 hb, sc_zero]
  unfold k0_part1
  refine Runs.cond (fun h => ?_) (fun h => ?_)
  · refine Runs.load (r27 c B X) ?_
    refine Runs.store (s27 c B X) ?_
    refine Runs.load (r28 c B X) ?_
    refine Runs.store (s28 c B X) ?_
    refine EvQ.cut (I := fun τ => τ.h = σ.h ∧ Off τ.kx ∧ Off τ.vx) ⟨rfl, ?_, ?_⟩ ?_
    · dsimp only
      exact zero _ _ _
    · dsimp only
      exact zero _ _ _
    rintro τ ⟨eh, ho⟩
    refine Runs.cond (fun h2 => ?_) (fun h2 => ?_)
    · refine Runs.load (r2 c B X) ?_
      refine Runs.load (r5 c B X) ?_
      refine Runs.load (r21 c B X) ?_
      refine Runs.store (s21 c B X) ?_
      refine EvQ.cut (I := fun τ' => Rows (i 1).val τ'.h Hr ∧ Kept (i 1).val τ.h τ'.h ∧ τ'.kx = τ.kx ∧ τ'.vx = τ.vx)
        ⟨?_, ?_, rfl, rfl⟩ ?_
      · dsimp only
        exact (emb τ (hl ▸ (cond2_iff i).mp h2) (k0_off1_inb i h2) inb_S2560x1_S2560x1_0_0 inb_S44x256_S44x256_0_0 shapeCasts_S2560x256_S2560x256).1
      · dsimp only
        exact (emb τ (hl ▸ (cond2_iff i).mp h2) (k0_off1_inb i h2) inb_S2560x1_S2560x1_0_0 inb_S44x256_S44x256_0_0 shapeCasts_S2560x256_S2560x256).2
      rintro τ' ⟨R, Kp, ek, ev⟩
      refine Runs.load (r21 c B X) ?_
      refine Runs.load (r6 c B X) ?_
      refine Runs.load (r7 c B X) ?_
      exact Runs.ret ⟨(fin τ' R _ inb_S1x1x256_S1x1x256_0_0_0 inb_S1x1x256_S1x1x256_0_0_0).1, (fin τ' R _ _ _).2, R, eh ▸ Kp, ek ▸ ho.1, ev ▸ ho.2⟩
    refine Runs.load (r21 c B X) ?_
    refine Runs.load (r6 c B X) ?_
    refine Runs.load (r7 c B X) ?_
    have R : Rows (i 1).val τ.h Hr := eh ▸ hrow (fun h0 => h2 ((cond2_iff i).mpr (hl.trans h0)))
    exact Runs.ret ⟨(fin τ R _ inb_S1x1x256_S1x1x256_0_0_0 inb_S1x1x256_S1x1x256_0_0_0).1, (fin τ R _ _ _).2, R, fun _ _ _ => congrFun eh _, ho.1, ho.2⟩
  · have ho := hoff (fun h0 => h (cond1_of i (hl.trans h0.1) h0.2))
    refine Runs.cond (fun h2 => ?_) (fun h2 => ?_)
    · refine Runs.load (r2 c B X) ?_
      refine Runs.load (r5 c B X) ?_
      refine Runs.load (r21 c B X) ?_
      refine Runs.store (s21 c B X) ?_
      refine EvQ.cut (I := fun τ' => Rows (i 1).val τ'.h Hr ∧ Kept (i 1).val σ.h τ'.h ∧ τ'.kx = σ.kx ∧ τ'.vx = σ.vx)
        ⟨?_, ?_, rfl, rfl⟩ ?_
      · dsimp only
        exact (emb σ (hl ▸ (cond2_iff i).mp h2) (k0_off1_inb i h2) inb_S2560x1_S2560x1_0_0 inb_S44x256_S44x256_0_0 shapeCasts_S2560x256_S2560x256).1
      · dsimp only
        exact (emb σ (hl ▸ (cond2_iff i).mp h2) (k0_off1_inb i h2) inb_S2560x1_S2560x1_0_0 inb_S44x256_S44x256_0_0 shapeCasts_S2560x256_S2560x256).2
      rintro τ' ⟨R, Kp, ek, ev⟩
      refine Runs.load (r21 c B X) ?_
      refine Runs.load (r6 c B X) ?_
      refine Runs.load (r7 c B X) ?_
      exact Runs.ret ⟨(fin τ' R _ inb_S1x1x256_S1x1x256_0_0_0 inb_S1x1x256_S1x1x256_0_0_0).1, (fin τ' R _ _ _).2, R, Kp, ek ▸ ho.1, ev ▸ ho.2⟩
    refine Runs.load (r21 c B X) ?_
    refine Runs.load (r6 c B X) ?_
    refine Runs.load (r7 c B X) ?_
    have R := hrow (fun h0 => h2 ((cond2_iff i).mpr (hl.trans h0)))
    exact Runs.ret ⟨(fin σ R _ inb_S1x1x256_S1x1x256_0_0_0 inb_S1x1x256_S1x1x256_0_0_0).1, (fin σ R _ _ _).2, R, fun _ _ _ => rfl, ho.1, ho.2⟩

/-! ## The tail -/

theorem mm_store {v : FVec Ideal S2560x256 .f32} {Y : Fin 2560 → Fin 256 → ℝ} (hv : Is2 v Y) {w : S1x256x256.Idx → Elt Ideal .f32} {W : Fin 256 → Fin 256 → ℝ}
    (hw : ∀ a c, w (ix3 0 a c) = ((W a c : ℝ) : EReal)) (x : S2560x256.Idx → Elt Ideal .f32) (hb hbw) (hc : S2560x256.ShapeCasts S2560x256) (r : Fin 2560) (q : Fin 256) :
    (Rect.unit (s := S2560x256) ![0, 0] S2560x256.size hb).overlay x
      (shapeCast S2560x256 (mmV (F := Ideal) v (fun j => w ((Rect.unit (s := S1x256x256) ![0, 0, 0] S1x256x256.size hbw).toLoadRect.idx j))) hc) (ix2 r q)
      = ((lin (Y r) W q : ℝ) : EReal) := by
  refine (congrFun (ov_whole (s := S2560x256) z2 hb x _) _).trans ?_
  refine (congrFun (shapeCast_id _ hc) (ix2 r q)).trans ?_
  exact mmV_val hv (fun a c => (congrArg w (idx_whole (s := S1x256x256) z3 hbw _)).trans (hw a c)) r q

/-- The rows after attention. -/
def resV (v11 : FVec Ideal S2560x256 .f32) (a : Vec Ideal S2560x256 .f32) (w : Vec Ideal S1x256x256 .f32) : FVec Ideal S2560x256 .f32 := addf v11 (mmV a w)

theorem resV_val {v11 : FVec Ideal S2560x256 .f32} {Y A : Fin 2560 → Fin 256 → ℝ} (hv : Is2 v11 Y) {a : Vec Ideal S2560x256 .f32} (ha : Is2 a A)
    {w : Vec Ideal S1x256x256 .f32} {W : Fin 256 → Fin 256 → ℝ} (hw : ∀ a c, w (ix3 0 a c) = ((W a c : ℝ) : EReal)) :
    Is2 (resV v11 a w) (fun r c => Y r c + lin (A r) W c) := by
  intro r c
  show v11 (ix2 r c) + mmV a w (ix2 r c) = _
  rw [hv r c, mmV_val ha hw r c, ← EReal.coe_add]

/-- A block's rows after the layer. -/
def nextRows (P : Par) (l : ℕ) (tok : ℕ → Fin 24) (Hr : ℕ → Fin 256 → ℝ) (r : ℕ) : Fin 256 → ℝ :=
  layer P l (fun j => (tok (20 * (r / 20) + j.val)).val ≠ 0) (fun j => Hr (20 * (r / 20) + j.val)) ⟨r % 20, Nat.mod_lt _ (by norm_num)⟩

/-- The rows of the model before the feed-forward layer. -/
def midRows (P : Par) (l : ℕ) (tok : ℕ → Fin 24) (Hr : ℕ → Fin 256 → ℝ) (r : ℕ) (q : Fin 256) : ℝ :=
  Hr r q + lin (att2 (fun r => qm P l (Hr r)) (fun r => km P l (Hr r)) (fun r => vm P l (Hr r)) tok r) (P.wo l) q

theorem nextRows_eq (P : Par) (l : ℕ) (tok : ℕ → Fin 24) (Hr : ℕ → Fin 256 → ℝ) (r : ℕ) (q : Fin 256) :
    nextRows P l tok Hr r q = midRows P l tok Hr r q + lin (fun k => gelu (lin (ln (P.g2 l) (P.e2 l) (midRows P l tok Hr r)) (P.w1 l) k + P.b1 l k)) (P.w2 l) q + P.b2 l q := by
  have e : 20 * (r / 20) + r % 20 = r := Nat.div_add_mod r 20
  have h : (fun c => Hr (20 * (r / 20) + r % 20) c + lin (att P l (fun j : Fin 20 => (tok (20 * (r / 20) + j.val)).val ≠ 0) (fun j => Hr (20 * (r / 20) + j.val)) ⟨r % 20, Nat.mod_lt _ (by norm_num)⟩) (P.wo l) c)
      = midRows P l tok Hr r := by
    funext c
    rw [e]; rfl
  unfold nextRows layer
  simp only [h]
  rfl

theorem f_store {v11 : FVec Ideal S2560x256 .f32} {Y : Fin 2560 → Fin 256 → ℝ} (hX : InsAt P l tok X) (hv : Is2 v11 Y) {a : S2560x256.Idx → Elt Ideal .f32} {A : Fin 2560 → Fin 256 → ℝ}
    (ha : ∀ r q, a (ix2 r q) = ((A r q : ℝ) : EReal)) (x : S2560x1024.Idx → Elt Ideal .f32) {hb hba hbw h12 h13 h14 h15} {hc : S2560x1024.ShapeCasts S2560x1024} {w : S2560x1024.Idx → Elt Ideal .f32}
    (hw : w = shapeCast S2560x1024 (geluV (F := Ideal) (lnV (F := Ideal) (resV v11 (fun j => a ((Rect.unit (s := S2560x256) ![0, 0] S2560x256.size hba).toLoadRect.idx j))
      (fun j => X.x11 ((Rect.unit (s := S1x256x256) ![0, 0, 0] S1x256x256.size hbw).toLoadRect.idx j)))
      (fun j => X.x12 ((Rect.unit (s := S1x1x256) ![0, 0, 0] S1x1x256.size h12).toLoadRect.idx j)) (fun j => X.x13 ((Rect.unit (s := S1x1x256) ![0, 0, 0] S1x1x256.size h13).toLoadRect.idx j)))
      (fun j => X.x14 ((Rect.unit (s := S1x256x1024) ![0, 0, 0] S1x256x1024.size h14).toLoadRect.idx j)) (fun j => X.x15 ((Rect.unit (s := S1x1x1024) ![0, 0, 0] S1x1x1024.size h15).toLoadRect.idx j))) hc) :
    Is2 ((Rect.unit (s := S2560x1024) ![0, 0] S2560x1024.size hb).overlay x w)
      (fun (r : Fin 2560) k => gelu (lin (ln (P.g2 l) (P.e2 l) (fun c => Y r c + lin (A r) (P.wo l) c)) (P.w1 l) k + P.b1 l k)) := by
  intro r q
  refine (congrFun (ov_whole (s := S2560x1024) z2 hb x w) _).trans ?_
  rw [hw]
  refine (congrFun (shapeCast_id _ _) (ix2 r q)).trans ?_
  exact geluV_val (lnV_val (resV_val hv (fun r q => (congrArg a (idx_whole (s := S2560x256) z2 hba _)).trans (ha r q))
        (fun a q => (congrArg X.x11 (idx_whole (s := S1x256x256) z3 hbw _)).trans (hX.x11 a q)))
      (fun c => (congrArg X.x12 (idx_whole (s := S1x1x256) z3 h12 _)).trans (hX.x12 c))
      (fun c => (congrArg X.x13 (idx_whole (s := S1x1x256) z3 h13 _)).trans (hX.x13 c)))
    (fun a c => (congrArg X.x14 (idx_whole (s := S1x256x1024) z3 h14 _)).trans (hX.x14 a c))
    (fun c => (congrArg X.x15 (idx_whole (s := S1x1x1024) z3 h15 _)).trans (hX.x15 c)) r q

theorem h_store {v11 : FVec Ideal S2560x256 .f32} {Hr : ℕ → Fin 256 → ℝ} (hX : InsAt P l tok X) (hv : Is2 v11 (fun r : Fin 2560 => Hr r.val)) {a : S2560x256.Idx → Elt Ideal .f32}
    (ha : ∀ (r : Fin 2560) q, a (ix2 r q) = ((att2 (fun r => qm P l (Hr r)) (fun r => km P l (Hr r)) (fun r => vm P l (Hr r)) tok r.val q : ℝ) : EReal))
    {f : S2560x1024.Idx → Elt Ideal .f32} (hf : Is2 f (fun (r : Fin 2560) k => gelu (lin (ln (P.g2 l) (P.e2 l) (midRows P l tok Hr r.val)) (P.w1 l) k + P.b1 l k)))
    {h : S20480x256.Idx → Elt Ideal .f32} {off : Fin 2 → ℕ} (ho : off = ![2560 * (i 1).val, 0])
    {hb hba hbw hbf h16 h17} {hc : S2560x256.ShapeCasts S2560x256} {w : S2560x256.Idx → Elt Ideal .f32}
    (hw : w = shapeCast S2560x256 (ffV (F := Ideal) (resV v11 (fun j => a ((Rect.unit (s := S2560x256) ![0, 0] S2560x256.size hba).toLoadRect.idx j))
      (fun j => X.x11 ((Rect.unit (s := S1x256x256) ![0, 0, 0] S1x256x256.size hbw).toLoadRect.idx j)))
      (fun j => f ((Rect.unit (s := S2560x1024) ![0, 0] S2560x1024.size hbf).toLoadRect.idx j))
      (fun j => X.x16 ((Rect.unit (s := S1x1024x256) ![0, 0, 0] S1x1024x256.size h16).toLoadRect.idx j)) (fun j => X.x17 ((Rect.unit (s := S1x1x256) ![0, 0, 0] S1x1x256.size h17).toLoadRect.idx j))) hc) :
    Rows (i 1).val ((Rect.unit (s := S20480x256) off S2560x256.size hb).overlay h w) (nextRows P l tok Hr) ∧ Kept (i 1).val h ((Rect.unit (s := S20480x256) off S2560x256.size hb).overlay h w) := by
  refine Rows.store ho hb ?_
  intro r q
  rw [hw]
  refine (congrFun (shapeCast_id _ _) (ix2 r q)).trans ?_
  simp only [nextRows_eq]
  exact ffV_val (X := fun r : Fin 2560 => midRows P l tok Hr r.val) (H := fun (r : Fin 2560) k => gelu (lin (ln (P.g2 l) (P.e2 l) (midRows P l tok Hr r.val)) (P.w1 l) k + P.b1 l k)) (W := P.w2 l) (C := P.b2 l) (resV_val hv (fun r q => (congrArg a (idx_whole (s := S2560x256) z2 hba _)).trans (ha r q))
        (fun a q => (congrArg X.x11 (idx_whole (s := S1x256x256) z3 hbw _)).trans (hX.x11 a q)))
      (fun r k => (congrArg f (idx_whole (s := S2560x1024) z2 hbf _)).trans (hf r k))
      (fun a c => (congrArg X.x16 (idx_whole (s := S1x1024x256) z3 h16 _)).trans (hX.x16 a c))
      (fun c => (congrArg X.x17 (idx_whole (s := S1x1x256) z3 h17 _)).trans (hX.x17 c)) r q

theorem o_store {Hn : ℕ → Fin 256 → ℝ} (hX : InsAt P l tok X) {h : S20480x256.Idx → Elt Ideal .f32} (R : Rows (i 1).val h Hn) {off : Fin 2 → ℕ} (ho : off = ![2560 * (i 1).val, 0])
    {x : S128x256.Idx → Elt Ideal .f32} {hb hbo h18 h19} {w : S128x256.Idx → Elt Ideal .f32}
    (hw : w = finV (F := Ideal) (fun j => h ((Rect.unit (s := S20480x256) off S2560x256.size hb).toLoadRect.idx j))
      (fun j => X.x18 ((Rect.unit (s := S1x256) ![0, 0] S1x256.size h18).toLoadRect.idx j)) (fun j => X.x19 ((Rect.unit (s := S1x256) ![0, 0] S1x256.size h19).toLoadRect.idx j)))
    (r : Fin 128) (q : Fin 256) : (Rect.unit (s := S128x256) ![0, 0] S128x256.size hbo).overlay x w (ix2 r q) = ((ln P.gf P.ef (Hn (20 * r.val)) q : ℝ) : EReal) := by
  refine (congrFun (ov_whole (s := S128x256) z2 hbo x w) _).trans ?_
  rw [hw]
  exact finV_val (R.load (i 1).isLt ho hb)
      (fun c => (congrArg X.x18 (idx_whole (s := S1x256) z2 h18 _)).trans (hX.x18 c))
      (fun c => (congrArg X.x19 (idx_whole (s := S1x256) z2 h19 _)).trans (hX.x19 c)) r q

theorem Inv.cut {Q K V : ℕ → Fin 256 → ℝ} {H : S20480x256.Idx → Elt Ideal .f32} {g a b d : ℕ} {σ : St Ideal} (h : Inv Q K V tok H g a b d σ)
    {α : Type} {p : KProg Ideal α} {Q' : α → St Ideal → Prop} (rest : ∀ σ', Inv Q K V tok H g a b d σ' → Runs c B X 𝒱 σ' p Q') : Runs c B X 𝒱 σ p Q' := rest σ h

set_option maxHeartbeats 0 in
theorem body_val (hX : InsAt P l tok X) (hl : (i 0).val = l) {Hr : ℕ → Fin 256 → ℝ} {σ0 : St Ideal}
    (hrow : l ≠ 0 → Rows (i 1).val σ0.h Hr)
    (hemb : l = 0 → ∀ (r : ℕ) c, Hr r c = P.emb (tok r) c + P.pos ⟨r % 20, Nat.mod_lt _ (by norm_num)⟩ c)
    (hoff : ¬ (l = 0 ∧ (i 1).val = 0) → Off σ0.kx ∧ Off σ0.vx) :
    Runs c B X 𝒱 σ0 (bodyOn i B) fun _ σ' => Rows (i 1).val σ'.h (nextRows P l tok Hr) ∧ Kept (i 1).val σ0.h σ'.h ∧ Off σ'.kx ∧ Off σ'.vx ∧
      (l = 11 → ∀ (r : Fin 128) (q : Fin 256), σ'.o (ix2 r q) = ((ln P.gf P.ef (nextRows P l tok Hr (20 * r.val)) q : ℝ) : EReal)) := by
  have hb8 : (i 1).val < 8 := (i 1).isLt
  unfold bodyOn cc0__encoder_body k0_part233
  refine Runs.assoc ?_
  refine Runs.bind (part1_val hX hl hrow hemb hoff) ?_
  rintro ⟨arg0, v1, v11, v35⟩ σ1 ⟨h11, h35, R, Kp, hkx, hvx⟩
  dsimp only at h11 h35
  refine Runs.load (r8 c B X) ?_
  refine Runs.load (r22 c B X) ?_
  refine Runs.store (s22 c B X) ?_
  refine Runs.load (r9 c B X) ?_
  refine Runs.load (r23 c B X) ?_
  refine Runs.store (s23 c B X) ?_
  refine Runs.load (r10 c B X) ?_
  refine Runs.load (r24 c B X) ?_
  refine Runs.store (s24 c B X) ?_
  refine Inv.cut (Q := fun r => qm P l (Hr r)) (K := fun r => km P l (Hr r)) (V := fun r => vm P l (Hr r)) (tok := tok) (H := σ1.h) (g := 0) (a := 0) (b := 0) (d := 0) ?_ ?_
  · exact {
      hh := rfl
      hq := fun r q => mm_store h35 hX.x8 _ _ _ _ r q
      hk := fun r q => mm_store h35 hX.x9 _ _ _ _ r q
      hv := fun r q => mm_store h35 hX.x10 _ _ _ _ r q
      kx0 := hkx
      vx0 := hvx
      kx1 := fun r q _ h => absurd h (by omega)
      vx1 := fun r q _ h => absurd h (by omega)
      ha := fun r q h => absurd h (by omega) }
  intro σ I
  iterate 64
    refine Runs.load (r4 c B X) ?_
    iterate 8
      refine Runs.load (r23 c B X) ?_
      refine Runs.load (r27 c B X) ?_
      refine Runs.store (s27 c B X) ?_
      refine Inv.cut (Inv.kx I (by decide) (by decide) rfl) ?_
      intro σ I
      refine Runs.load (r24 c B X) ?_
      refine Runs.load (r28 c B X) ?_
      refine Runs.store (s28 c B X) ?_
      refine Inv.cut (Inv.vx I (by decide) (by decide) rfl) ?_
      intro σ I
    refine Runs.load (r3 c B X) ?_
    iterate 2
      refine Runs.load (r22 c B X) ?_
      refine Runs.load (r27 c B X) ?_
      refine Runs.load (r28 c B X) ?_
      refine Runs.load (r25 c B X) ?_
      refine Runs.store (s25 c B X) ?_
      refine Inv.cut (Inv.att hX I (by decide) (by decide) rfl) ?_
      intro σ I
    refine Inv.cut I.next ?_
    clear * - hX hl Kp R h11 hb8
    intro σ I
  refine Runs.load (r25 c B X) ?_
  refine Runs.load (r11 c B X) ?_
  refine Runs.load (r12 c B X) ?_
  refine Runs.load (r13 c B X) ?_
  refine Runs.load (r14 c B X) ?_
  refine Runs.load (r15 c B X) ?_
  refine Runs.load (r26 c B X) ?_
  refine Runs.store (s26 c B X) ?_
  have hrows : Rows (i 1).val σ.h Hr := I.hh ▸ R
  have hkept : Kept (i 1).val σ0.h σ.h := I.hh ▸ Kp
  refine EvQ.cut (I := fun τ => τ.h = σ.h ∧ τ.kx = σ.kx ∧ τ.vx = σ.vx ∧ Is2 τ.f (fun (r : Fin 2560) k => gelu (lin (ln (P.g2 l) (P.e2 l) (midRows P l tok Hr r.val)) (P.w1 l) k + P.b1 l k)))
    ⟨rfl, rfl, rfl, ?_⟩ ?_
  · dsimp only
    exact f_store hX h11 (fun r q => I.ha r q (Or.inl r.isLt)) σ.f rfl
  intro τ ⟨e1, e2, e3, hf⟩
  refine Runs.load (r26 c B X) ?_
  refine Runs.load (r16 c B X) ?_
  refine Runs.load (r17 c B X) ?_
  refine Runs.load (r21 c B X) ?_
  refine Runs.store (s21 c B X) ?_
  refine EvQ.cut (I := fun τ' => (Rows (i 1).val τ'.h (nextRows P l tok Hr) ∧ Kept (i 1).val τ.h τ'.h) ∧ τ'.kx = σ.kx ∧ τ'.vx = σ.vx)
    ⟨?_, e2, e3⟩ ?_
  · dsimp only
    exact h_store hX h11 (fun r q => I.ha r q (Or.inl r.isLt)) hf (off2_eq i) rfl
  intro τ' ⟨⟨R', K'⟩, f2, f3⟩
  have hK : Kept (i 1).val σ0.h τ'.h := fun r q hn => (K' r q hn).trans ((congrFun e1 _).trans (hkept r q hn))
  have hx' : Off τ'.kx := by rw [f2]; exact I.kx0
  have hv' : Off τ'.vx := by rw [f3]; exact I.vx0
  refine Runs.cond (fun h => ?_) (fun h => ?_)
  · refine Runs.load (r21 c B X) ?_
    refine Runs.load (r18 c B X) ?_
    refine Runs.load (r19 c B X) ?_
    refine Runs.load (r20 c B X) ?_
    refine Runs.store (s20 c B X) ?_
    refine Runs.ret ⟨R', hK, hx', hv', fun _ r q => ?_⟩
    dsimp only
    exact o_store hX R' (off3_eq i) rfl r q
  · exact Runs.ret ⟨R', hK, hx', hv', fun h11 => absurd ((cond3_iff i).mpr (hl.trans h11)) h⟩

end Cert.KernelIdeal.Body
end
-- ==== Proof.KVal.lean ====
module

public import proofs.«01_k».proof.Proof.KWalk
public import proofs.«01_k».proof.Proof.Region
public import proofs.«01_k».proof.Proof.Gen.KernelIdeal.Points
public import Idealize.ShloMosaic.Lib.Pipeline.ValueKit
public import Idealize.ShloMosaic.Lib.StableHlo.ReadAt
public import Idealize.ShloMosaic.Lib.IndicatorCount

@[expose] public section

set_option maxRecDepth 65536

namespace Cert.KernelIdeal.Val
open Idealize.ShloMosaic Idealize.ShloMosaic.TcCoe Idealize.ShloMosaic.Tactic
open Idealize.SL Idealize.SL.RA Idealize.SL.BI Idealize.SL.Sem Idealize.ShloMosaic.StableHlo
open Cert.KernelIdeal Cert.KernelIdeal.Gen Cert.KernelIdeal.Run Cert.KernelIdeal.Body Cert.Model

/-- The parameters and the tokens, as the program's arguments hold them. -/
structure Args (P : Par) (tok : Fin 1024 → Fin 20 → Fin 24) (m : (ℓ : Loc nD τ sig) → Buf (Elt Ideal) ℓ) (c : Dev nD) : Prop where
  x : ∀ b s, (m ((c.tc : Thread nD τ).loc main_arg0) : S1024x20.Idx → BitVec 32) (ix2 b s) = BitVec.ofNat 32 (tok b s).val
  emb : ∀ k q, (m ((c.tc : Thread nD τ).loc main_arg1) : S24x256.Idx → EReal) (ix2 k q) = ((P.emb k q : ℝ) : EReal)
  pos : ∀ k q, (m ((c.tc : Thread nD τ).loc main_arg2) : S20x256.Idx → EReal) (ix2 k q) = ((P.pos k q : ℝ) : EReal)
  g1 : ∀ (k : Fin 12) q, (m ((c.tc : Thread nD τ).loc main_arg3) : S12x256.Idx → EReal) (ix2 k q) = ((P.g1 k.val q : ℝ) : EReal)
  e1 : ∀ (k : Fin 12) q, (m ((c.tc : Thread nD τ).loc main_arg4) : S12x256.Idx → EReal) (ix2 k q) = ((P.e1 k.val q : ℝ) : EReal)
  wq : ∀ (k : Fin 12) a q, (m ((c.tc : Thread nD τ).loc main_arg5) : S12x256x256.Idx → EReal) (ix3 k a q) = ((P.wq k.val a q : ℝ) : EReal)
  wk : ∀ (k : Fin 12) a q, (m ((c.tc : Thread nD τ).loc main_arg6) : S12x256x256.Idx → EReal) (ix3 k a q) = ((P.wk k.val a q : ℝ) : EReal)
  wv : ∀ (k : Fin 12) a q, (m ((c.tc : Thread nD τ).loc main_arg7) : S12x256x256.Idx → EReal) (ix3 k a q) = ((P.wv k.val a q : ℝ) : EReal)
  wo : ∀ (k : Fin 12) a q, (m ((c.tc : Thread nD τ).loc main_arg8) : S12x256x256.Idx → EReal) (ix3 k a q) = ((P.wo k.val a q : ℝ) : EReal)
  g2 : ∀ (k : Fin 12) q, (m ((c.tc : Thread nD τ).loc main_arg9) : S12x256.Idx → EReal) (ix2 k q) = ((P.g2 k.val q : ℝ) : EReal)
  e2 : ∀ (k : Fin 12) q, (m ((c.tc : Thread nD τ).loc main_arg10) : S12x256.Idx → EReal) (ix2 k q) = ((P.e2 k.val q : ℝ) : EReal)
  w1 : ∀ (k : Fin 12) a q, (m ((c.tc : Thread nD τ).loc main_arg11) : S12x256x1024.Idx → EReal) (ix3 k a q) = ((P.w1 k.val a q : ℝ) : EReal)
  b1 : ∀ (k : Fin 12) q, (m ((c.tc : Thread nD τ).loc main_arg12) : S12x1024.Idx → EReal) (ix2 k q) = ((P.b1 k.val q : ℝ) : EReal)
  w2 : ∀ (k : Fin 12) a q, (m ((c.tc : Thread nD τ).loc main_arg13) : S12x1024x256.Idx → EReal) (ix3 k a q) = ((P.w2 k.val a q : ℝ) : EReal)
  b2 : ∀ (k : Fin 12) q, (m ((c.tc : Thread nD τ).loc main_arg14) : S12x256.Idx → EReal) (ix2 k q) = ((P.b2 k.val q : ℝ) : EReal)
  gf : ∀ q, (m ((c.tc : Thread nD τ).loc main_arg15) : S256.Idx → EReal) (ix1 q) = ((P.gf q : ℝ) : EReal)
  ef : ∀ q, (m ((c.tc : Thread nD τ).loc main_arg16) : S256.Idx → EReal) (ix1 q) = ((P.ef q : ℝ) : EReal)

variable {P : Par} {tok : Fin 1024 → Fin 20 → Fin 24} {m : (ℓ : Loc nD τ sig) → Buf (Elt Ideal) ℓ} {c : Dev nD}

/-- The token of a block's row. -/
def tokB (tok : Fin 1024 → Fin 20 → Fin 24) (b r : ℕ) : Fin 24 := tok ⟨(128 * b + r / 20) % 1024, Nat.mod_lt _ (by norm_num)⟩ ⟨r % 20, Nat.mod_lt _ (by norm_num)⟩

theorem sel_tok (k : Fin 24) : (Scalar.select (IntOp.cmpi CmpIPredicate.ne (BitVec.ofNat 32 k.val) 0#32) (Ideal.ofBits .f32 0#32) (Ideal.ofBits .f32 4286578688#32) : EReal) = if k.val ≠ 0 then 0 else ⊥ := by
  have e : Ideal.ofBits .f32 0#32 = 0 := by first | rfl | simp
  rw [e, c_bot]
  by_cases h : k.val ≠ 0
  · have h1 : IntOp.cmpi CmpIPredicate.ne (BitVec.ofNat 32 k.val) 0#32 = 1#1 := by revert h; revert k; decide
    rw [h1, if_pos h]; rfl
  · have h1 : IntOp.cmpi CmpIPredicate.ne (BitVec.ofNat 32 k.val) 0#32 = 0#1 := by revert h; revert k; decide
    rw [h1, if_neg h]; rfl

section
variable (A : Args P tok m c)
include A

/-! ## The arrays the region is given -/

theorem v0_at (r : Fin 20480) : (V m c main_v0 : S20480x1.Idx → BitVec 32) (ix2 r 0) = BitVec.ofNat 32 (tok ⟨r.val / 20, by omega⟩ ⟨r.val % 20, by omega⟩).val := by
  unfold V
  after_reads_at
  exact A.x _ _

theorem v8_at (g : Fin 512) (k : Fin 160) : (V m c main_v8 : S512x1x160.Idx → EReal) (ix3 g 0 k) = if (tok ⟨g.val * 2 + k.val % 40 / 20, by omega⟩ ⟨k.val % 40 % 20, by omega⟩).val ≠ 0 then (0 : EReal) else ⊥ := by
  unfold V
  after_reads_at
  show Scalar.select (IntOp.cmpi CmpIPredicate.ne ((m ((c.tc : Thread nD τ).loc main_arg0) : S1024x20.Idx → BitVec 32) (ix2 ⟨g.val * 2 + k.val % 40 / 20, by omega⟩ ⟨k.val % 40 % 20, by omega⟩)) 0#32) (Ideal.ofBits .f32 0#32) (Ideal.ofBits .f32 4286578688#32) = _
  rw [A.x]
  exact sel_tok _

theorem v18_at (r : Fin 20480) : (V m c main_v18 : S20480x1.Idx → EReal) (ix2 r 0) = (((open Classical in if ¬ ∃ i : Fin 20, (tok ⟨r.val / 20, by omega⟩ i).val ≠ 0 then 1 else 0 : ℝ) : ℝ) : EReal) := by
  unfold V
  after_reads_at
  rw [IndicatorCount.fold_addi_setWidth_eq_card]
  have hx := fun i : Fin 20 => A.x ⟨r.val / 20, by omega⟩ i
  have e : ∀ i : Fin 20, (IntOp.cmpi CmpIPredicate.ne ((m ((c.tc : Thread nD τ).loc main_arg0) : S1024x20.Idx → BitVec 32) (ix2 ⟨r.val / 20, by omega⟩ i)) 0#32 = 1#1) ↔ (tok ⟨r.val / 20, by omega⟩ i).val ≠ 0 := fun i => by
    rw [hx]
    generalize tok _ i = k
    revert k; decide
  have e' : (Finset.univ.filter fun i : Fin 20 => IntOp.cmpi CmpIPredicate.ne ((m ((c.tc : Thread nD τ).loc main_arg0) : S1024x20.Idx → BitVec 32) (ix2 ⟨r.val / 20, by omega⟩ i)) 0#32 = 1#1) = Finset.univ.filter fun i : Fin 20 => (tok ⟨r.val / 20, by omega⟩ i).val ≠ 0 := Finset.filter_congr fun i _ => e i
  refine Eq.trans (congrArg (fun s : Finset (Fin 20) => (FloatOps.uitofp (F := Ideal) FTy.f32 (IntOp.cmpi CmpIPredicate.eq (BitVec.ofNat 32 s.card) 0#32) : EReal)) e') ?_
  generalize hs : (Finset.univ.filter fun i : Fin 20 => (tok ⟨r.val / 20, by omega⟩ i).val ≠ 0) = s
  have hc : s.card ≤ 20 := by simpa using Finset.card_le_univ s
  by_cases h : ∃ i : Fin 20, (tok ⟨r.val / 20, by omega⟩ i).val ≠ 0
  · rw [if_neg (not_not.mpr h)]
    have hne : s.card ≠ 0 := by
      obtain ⟨i, hi⟩ := h
      exact Finset.card_ne_zero_of_mem (a := i) (by rw [← hs]; simpa using hi)
    have : IntOp.cmpi CmpIPredicate.eq (BitVec.ofNat 32 s.card) 0#32 = 0#1 := by
      generalize s.card = n at hc hne ⊢
      interval_cases n <;> first | contradiction | rfl
    rw [this]
    show ((((0#1 : BitVec 1).toNat : ℝ)) : EReal) = _
    simp
  · rw [if_pos h]
    have hz : s.card = 0 := by
      rw [Finset.card_eq_zero, ← hs, Finset.filter_eq_empty_iff]
      exact fun i _ hi => h ⟨i, hi⟩
    rw [hz]
    show ((((1#1 : BitVec 1).toNat : ℝ)) : EReal) = _
    simp

theorem v20_at (k : Fin 12) (a q : Fin 256) : (V m c main_v20 : S12x256x256.Idx → EReal) (ix3 k a q) = ((P.wq k.val a q * scl : ℝ) : EReal) := by
  unfold V
  after_reads_at
  rw [c_scl, EReal.coe_mul]
  exact congrArg (· * (scl : EReal)) (A.wq k a q)

theorem v21_at (k : Fin 24) (q : Fin 256) : (V m c main_v21 : S44x256.Idx → EReal) (ix2 ⟨k.val, by omega⟩ q) = ((P.emb k q : ℝ) : EReal) := by
  unfold V
  after_reads_at
  exact A.emb k q

theorem v21_at' (k : Fin 20) (q : Fin 256) : (V m c main_v21 : S44x256.Idx → EReal) (ix2 ⟨24 + k.val, by omega⟩ q) = ((P.pos k q : ℝ) : EReal) := by
  unfold V
  after_reads_at
  exact A.pos k q

theorem v22_at (q : Fin 256) : (V m c main_v22 : S1x256.Idx → EReal) (ix2 0 q) = ((P.gf q : ℝ) : EReal) := by
  unfold V
  after_reads_at
  exact A.gf q

theorem v23_at (q : Fin 256) : (V m c main_v23 : S1x256.Idx → EReal) (ix2 0 q) = ((P.ef q : ℝ) : EReal) := by
  unfold V
  after_reads_at
  exact A.ef q

theorem v24_at (k : Fin 12) (q : Fin 256) : (V m c main_v24 : S12x1x256.Idx → EReal) (ix3 k 0 q) = ((P.g1 k.val q : ℝ) : EReal) := by
  unfold V
  after_reads_at
  exact A.g1 k q

theorem v25_at (k : Fin 12) (q : Fin 256) : (V m c main_v25 : S12x1x256.Idx → EReal) (ix3 k 0 q) = ((P.e1 k.val q : ℝ) : EReal) := by
  unfold V
  after_reads_at
  exact A.e1 k q

theorem v26_at (k : Fin 12) (q : Fin 256) : (V m c main_v26 : S12x1x256.Idx → EReal) (ix3 k 0 q) = ((P.g2 k.val q : ℝ) : EReal) := by
  unfold V
  after_reads_at
  exact A.g2 k q

theorem v27_at (k : Fin 12) (q : Fin 256) : (V m c main_v27 : S12x1x256.Idx → EReal) (ix3 k 0 q) = ((P.e2 k.val q : ℝ) : EReal) := by
  unfold V
  after_reads_at
  exact A.e2 k q

theorem v28_at (k : Fin 12) (q : Fin 1024) : (V m c main_v28 : S12x1x1024.Idx → EReal) (ix3 k 0 q) = ((P.b1 k.val q : ℝ) : EReal) := by
  unfold V
  after_reads_at
  exact A.b1 k q

theorem v29_at (k : Fin 12) (q : Fin 256) : (V m c main_v29 : S12x1x256.Idx → EReal) (ix3 k 0 q) = ((P.b2 k.val q : ℝ) : EReal) := by
  unfold V
  after_reads_at
  exact A.b2 k q
end

/-! ## Where the blocks lie -/

theorem dt_lt (t : Fin cfg0.N) : (grid0.coords t 0).val < 12 := (grid0.coords t 0).isLt
theorem bt_lt (t : Fin cfg0.N) : (grid0.coords t 1).val < 8 := (grid0.coords t 1).isLt
theorem wx0 : ∀ t : Fin cfg0.N, win0_0.index t 0 = (grid0.coords t 1).val ∧ win0_0.index t 1 = 0 := by decide +kernel
theorem em0 (t : Fin cfg0.N) (r : Fin 2560) : (win0_0.blk t).view.emb (ix2 r 0) = (ix2 ⟨(grid0.coords t 1).val * 2560 + r.val, by have := bt_lt t; omega⟩ 0 : S20480x1.Idx) := by
  have := bt_lt t
  blk_ext [(wx0 t).1, (wx0 t).2]
theorem wx2 : ∀ t : Fin cfg0.N, win0_2.index t 0 = (grid0.coords t 1).val ∧ win0_2.index t 1 = 0 := by decide +kernel
theorem em2 (t : Fin cfg0.N) (r : Fin 2560) : (win0_2.blk t).view.emb (ix2 r 0) = (ix2 ⟨(grid0.coords t 1).val * 2560 + r.val, by have := bt_lt t; omega⟩ 0 : S20480x1.Idx) := by
  have := bt_lt t
  blk_ext [(wx2 t).1, (wx2 t).2]
theorem wx1 : ∀ t : Fin cfg0.N, win0_1.index t 0 = (grid0.coords t 1).val ∧ win0_1.index t 1 = 0 ∧ win0_1.index t 2 = 0 := by decide +kernel
theorem em1 (t : Fin cfg0.N) (g : Fin 64) (k : Fin 160) : (win0_1.blk t).view.emb (ix3 g 0 k) = (ix3 ⟨(grid0.coords t 1).val * 64 + g.val, by have := bt_lt t; omega⟩ 0 k : S512x1x160.Idx) := by
  blk_ext [(wx1 t).1, (wx1 t).2.1, (wx1 t).2.2]
theorem wx3 : ∀ t : Fin cfg0.N, win0_3.index t 0 = 0 ∧ win0_3.index t 1 = 0 := by decide +kernel
theorem em3 (t : Fin cfg0.N) (a : Fin 44) (q : Fin 256) : (win0_3.blk t).view.emb (ix2 a q) = (ix2 a q : S44x256.Idx) := by
  blk_ext [(wx3 t).1, (wx3 t).2]
theorem wx16 : ∀ t : Fin cfg0.N, win0_16.index t 0 = 0 ∧ win0_16.index t 1 = 0 := by decide +kernel
theorem em16 (t : Fin cfg0.N) (q : Fin 256) : (win0_16.blk t).view.emb (ix2 0 q) = (ix2 0 q : S1x256.Idx) := by
  blk_ext [(wx16 t).1, (wx16 t).2]
theorem wx17 : ∀ t : Fin cfg0.N, win0_17.index t 0 = 0 ∧ win0_17.index t 1 = 0 := by decide +kernel
theorem em17 (t : Fin cfg0.N) (q : Fin 256) : (win0_17.blk t).view.emb (ix2 0 q) = (ix2 0 q : S1x256.Idx) := by
  blk_ext [(wx17 t).1, (wx17 t).2]
theorem wx4 : ∀ t : Fin cfg0.N, win0_4.index t 0 = (grid0.coords t 0).val ∧ win0_4.index t 1 = 0 ∧ win0_4.index t 2 = 0 := by decide +kernel
theorem em4 (t : Fin cfg0.N) (q : Fin 256) : (win0_4.blk t).view.emb (ix3 0 0 q) = (ix3 ⟨(grid0.coords t 0).val, dt_lt t⟩ 0 q : S12x1x256.Idx) := by
  blk_ext [(wx4 t).1, (wx4 t).2.1, (wx4 t).2.2]
theorem wx5 : ∀ t : Fin cfg0.N, win0_5.index t 0 = (grid0.coords t 0).val ∧ win0_5.index t 1 = 0 ∧ win0_5.index t 2 = 0 := by decide +kernel
theorem em5 (t : Fin cfg0.N) (q : Fin 256) : (win0_5.blk t).view.emb (ix3 0 0 q) = (ix3 ⟨(grid0.coords t 0).val, dt_lt t⟩ 0 q : S12x1x256.Idx) := by
  blk_ext [(wx5 t).1, (wx5 t).2.1, (wx5 t).2.2]
theorem wx10 : ∀ t : Fin cfg0.N, win0_10.index t 0 = (grid0.coords t 0).val ∧ win0_10.index t 1 = 0 ∧ win0_10.index t 2 = 0 := by decide +kernel
theorem em10 (t : Fin cfg0.N) (q : Fin 256) : (win0_10.blk t).view.emb (ix3 0 0 q) = (ix3 ⟨(grid0.coords t 0).val, dt_lt t⟩ 0 q : S12x1x256.Idx) := by
  blk_ext [(wx10 t).1, (wx10 t).2.1, (wx10 t).2.2]
theorem wx11 : ∀ t : Fin cfg0.N, win0_11.index t 0 = (grid0.coords t 0).val ∧ win0_11.index t 1 = 0 ∧ win0_11.index t 2 = 0 := by decide +kernel
theorem em11 (t : Fin cfg0.N) (q : Fin 256) : (win0_11.blk t).view.emb (ix3 0 0 q) = (ix3 ⟨(grid0.coords t 0).val, dt_lt t⟩ 0 q : S12x1x256.Idx) := by
  blk_ext [(wx11 t).1, (wx11 t).2.1, (wx11 t).2.2]
theorem wx13 : ∀ t : Fin cfg0.N, win0_13.index t 0 = (grid0.coords t 0).val ∧ win0_13.index t 1 = 0 ∧ win0_13.index t 2 = 0 := by decide +kernel
theorem em13 (t : Fin cfg0.N) (q : Fin 1024) : (win0_13.blk t).view.emb (ix3 0 0 q) = (ix3 ⟨(grid0.coords t 0).val, dt_lt t⟩ 0 q : S12x1x1024.Idx) := by
  blk_ext [(wx13 t).1, (wx13 t).2.1, (wx13 t).2.2]
theorem wx15 : ∀ t : Fin cfg0.N, win0_15.index t 0 = (grid0.coords t 0).val ∧ win0_15.index t 1 = 0 ∧ win0_15.index t 2 = 0 := by decide +kernel
theorem em15 (t : Fin cfg0.N) (q : Fin 256) : (win0_15.blk t).view.emb (ix3 0 0 q) = (ix3 ⟨(grid0.coords t 0).val, dt_lt t⟩ 0 q : S12x1x256.Idx) := by
  blk_ext [(wx15 t).1, (wx15 t).2.1, (wx15 t).2.2]
theorem wx6 : ∀ t : Fin cfg0.N, win0_6.index t 0 = (grid0.coords t 0).val ∧ win0_6.index t 1 = 0 ∧ win0_6.index t 2 = 0 := by decide +kernel
theorem em6 (t : Fin cfg0.N) (a : Fin 256) (q : Fin 256) : (win0_6.blk t).view.emb (ix3 0 a q) = (ix3 ⟨(grid0.coords t 0).val, dt_lt t⟩ a q : S12x256x256.Idx) := by
  blk_ext [(wx6 t).1, (wx6 t).2.1, (wx6 t).2.2]
theorem wx7 : ∀ t : Fin cfg0.N, win0_7.index t 0 = (grid0.coords t 0).val ∧ win0_7.index t 1 = 0 ∧ win0_7.index t 2 = 0 := by decide +kernel
theorem em7 (t : Fin cfg0.N) (a : Fin 256) (q : Fin 256) : (win0_7.blk t).view.emb (ix3 0 a q) = (ix3 ⟨(grid0.coords t 0).val, dt_lt t⟩ a q : S12x256x256.Idx) := by
  blk_ext [(wx7 t).1, (wx7 t).2.1, (wx7 t).2.2]
theorem wx8 : ∀ t : Fin cfg0.N, win0_8.index t 0 = (grid0.coords t 0).val ∧ win0_8.index t 1 = 0 ∧ win0_8.index t 2 = 0 := by decide +kernel
theorem em8 (t : Fin cfg0.N) (a : Fin 256) (q : Fin 256) : (win0_8.blk t).view.emb (ix3 0 a q) = (ix3 ⟨(grid0.coords t 0).val, dt_lt t⟩ a q : S12x256x256.Idx) := by
  blk_ext [(wx8 t).1, (wx8 t).2.1, (wx8 t).2.2]
theorem wx9 : ∀ t : Fin cfg0.N, win0_9.index t 0 = (grid0.coords t 0).val ∧ win0_9.index t 1 = 0 ∧ win0_9.index t 2 = 0 := by decide +kernel
theorem em9 (t : Fin cfg0.N) (a : Fin 256) (q : Fin 256) : (win0_9.blk t).view.emb (ix3 0 a q) = (ix3 ⟨(grid0.coords t 0).val, dt_lt t⟩ a q : S12x256x256.Idx) := by
  blk_ext [(wx9 t).1, (wx9 t).2.1, (wx9 t).2.2]
theorem wx12 : ∀ t : Fin cfg0.N, win0_12.index t 0 = (grid0.coords t 0).val ∧ win0_12.index t 1 = 0 ∧ win0_12.index t 2 = 0 := by decide +kernel
theorem em12 (t : Fin cfg0.N) (a : Fin 256) (q : Fin 1024) : (win0_12.blk t).view.emb (ix3 0 a q) = (ix3 ⟨(grid0.coords t 0).val, dt_lt t⟩ a q : S12x256x1024.Idx) := by
  blk_ext [(wx12 t).1, (wx12 t).2.1, (wx12 t).2.2]
theorem wx14 : ∀ t : Fin cfg0.N, win0_14.index t 0 = (grid0.coords t 0).val ∧ win0_14.index t 1 = 0 ∧ win0_14.index t 2 = 0 := by decide +kernel
theorem em14 (t : Fin cfg0.N) (a : Fin 1024) (q : Fin 256) : (win0_14.blk t).view.emb (ix3 0 a q) = (ix3 ⟨(grid0.coords t 0).val, dt_lt t⟩ a q : S12x1024x256.Idx) := by
  blk_ext [(wx14 t).1, (wx14 t).2.1, (wx14 t).2.2]

/-! ## What the body is given at a point -/

set_option maxHeartbeats 0 in
theorem ins_at (A : Args P tok m c) (t : Fin cfg0.N) : InsAt P (grid0.coords t 0).val (tokB tok (grid0.coords t 1).val) (ins m c t) where
  x2 r := by
    refine ((congrArg (V m c main_v0) (em0 t r)).trans (v0_at A _)).trans ?_
    have := bt_lt t
    unfold tokB
    refine congrArg (BitVec.ofNat 32) (congrArg Fin.val (congrArg₂ tok (Fin.ext ?_) (Fin.ext ?_))) <;> dsimp only <;> omega
  x3 g k := by
    refine ((congrArg (V m c main_v8) (em1 t g k)).trans (v8_at A _ _)).trans ?_
    have := bt_lt t
    have e : tok ⟨((grid0.coords t 1).val * 64 + g.val) * 2 + k.val % 40 / 20, by omega⟩ ⟨k.val % 40 % 20, by omega⟩ = tokB tok (grid0.coords t 1).val (40 * g.val + k.val % 40) := by
      unfold tokB
      refine congrArg₂ tok (Fin.ext ?_) (Fin.ext ?_) <;> dsimp only <;> omega
    dsimp only
    rw [e]
  x4 r := by
    refine ((congrArg (V m c main_v18) (em2 t r)).trans (v18_at A _)).trans ?_
    have := bt_lt t
    have e : ∀ i : Fin 20, tok ⟨((grid0.coords t 1).val * 2560 + r.val) / 20, by omega⟩ i = tokB tok (grid0.coords t 1).val (20 * (r.val / 20) + i.val) := fun i => by
      unfold tokB
      refine congrArg₂ tok (Fin.ext ?_) (Fin.ext ?_) <;> dsimp only <;> omega
    dsimp only
    simp only [e]
  x5a k q := (congrArg (V m c main_v21) (em3 t _ q)).trans (v21_at A k q)
  x5b k q := (congrArg (V m c main_v21) (em3 t _ q)).trans (v21_at' A k q)
  x6 q := (congrArg (V m c main_v24) (em4 t q)).trans (v24_at A _ q)
  x7 q := (congrArg (V m c main_v25) (em5 t q)).trans (v25_at A _ q)
  x12 q := (congrArg (V m c main_v26) (em10 t q)).trans (v26_at A _ q)
  x13 q := (congrArg (V m c main_v27) (em11 t q)).trans (v27_at A _ q)
  x15 q := (congrArg (V m c main_v28) (em13 t q)).trans (v28_at A _ q)
  x17 q := (congrArg (V m c main_v29) (em15 t q)).trans (v29_at A _ q)
  x8 a q := (congrArg (V m c main_v20) (em6 t a q)).trans (v20_at A _ a q)
  x9 a q := (congrArg (V m c main_arg6) (em7 t a q)).trans ((congrFun (V_main_arg6 m c) _).trans (A.wk _ a q))
  x10 a q := (congrArg (V m c main_arg7) (em8 t a q)).trans ((congrFun (V_main_arg7 m c) _).trans (A.wv _ a q))
  x11 a q := (congrArg (V m c main_arg8) (em9 t a q)).trans ((congrFun (V_main_arg8 m c) _).trans (A.wo _ a q))
  x14 a q := (congrArg (V m c main_arg11) (em12 t a q)).trans ((congrFun (V_main_arg11 m c) _).trans (A.w1 _ a q))
  x16 a q := (congrArg (V m c main_arg13) (em14 t a q)).trans ((congrFun (V_main_arg13 m c) _).trans (A.w2 _ a q))
  x18 q := (congrArg (V m c main_v22) (em16 t q)).trans (v22_at A q)
  x19 q := (congrArg (V m c main_v23) (em17 t q)).trans (v23_at A q)
end Cert.KernelIdeal.Val
end
-- ==== Proof.KRes.lean ====
/-
  The kernel's run at real arguments: what the region leaves of a block after each layer, and the array of results.
-/
module

public import proofs.«01_k».proof.Proof.KVal
public import Idealize.ShloMosaic.Lib.Pipeline.ArrRel

@[expose] public section

set_option maxRecDepth 65536

namespace Cert.KernelIdeal.Val
open Idealize.ShloMosaic Idealize.ShloMosaic.TcCoe Idealize.ShloMosaic.Tactic
open Idealize.SL Idealize.SL.RA Idealize.SL.BI Idealize.SL.Sem Idealize.ShloMosaic.StableHlo
open Cert.KernelIdeal Cert.KernelIdeal.Gen Cert.KernelIdeal.Run Cert.KernelIdeal.Body Cert.Model

/-- A block's rows after `l` layers. -/
noncomputable def hrow (P : Par) (tok : Fin 1024 → Fin 20 → Fin 24) (b l r : ℕ) : Fin 256 → ℝ :=
  hid P (fun s : Fin 20 => tokB tok b (20 * (r / 20) + s.val)) l ⟨r % 20, Nat.mod_lt _ (by norm_num)⟩

theorem hrow_zero (P : Par) (tok : Fin 1024 → Fin 20 → Fin 24) (b r : ℕ) (c : Fin 256) :
    hrow P tok b 0 r c = P.emb (tokB tok b r) c + P.pos ⟨r % 20, Nat.mod_lt _ (by norm_num)⟩ c := by
  show P.emb (tokB tok b (20 * (r / 20) + r % 20)) c + _ = _
  rw [Nat.div_add_mod]

theorem hrow_next (P : Par) (tok : Fin 1024 → Fin 20 → Fin 24) (b l : ℕ) : nextRows P l (tokB tok b) (hrow P tok b l) = hrow P tok b (l + 1) := by
  funext r
  have e : (fun j : Fin 20 => hrow P tok b l (20 * (r / 20) + j.val)) = hid P (fun s : Fin 20 => tokB tok b (20 * (r / 20) + s.val)) l := by
    funext j
    have h1 : (20 * (r / 20) + j.val) / 20 = r / 20 := by omega
    have h2 : (20 * (r / 20) + j.val) % 20 = j.val := by omega
    unfold hrow
    rw [h1]
    exact congrArg _ (Fin.ext h2)
  unfold nextRows
  rw [e]
  rfl

theorem hrow_out (P : Par) (tok : Fin 1024 → Fin 20 → Fin 24) (b : ℕ) (hb : b < 8) (r : Fin 128) :
    ln P.gf P.ef (hrow P tok b 12 (20 * r.val)) = out P (tok ⟨128 * b + r.val, by omega⟩) := by
  have e : (fun s : Fin 20 => tokB tok b (20 * (20 * r.val / 20) + s.val)) = tok ⟨128 * b + r.val, by omega⟩ := by
    funext s
    unfold tokB
    refine congrArg₂ tok (Fin.ext ?_) (Fin.ext ?_) <;> dsimp only <;> omega
  have e0 : (⟨20 * r.val % 20, Nat.mod_lt _ (by norm_num)⟩ : Fin 20) = 0 := Fin.ext (by simp)
  unfold hrow out
  rw [e, e0]

variable (P : Dev nD → Par) (tok : Dev nD → Fin 1024 → Fin 20 → Fin 24)

/-- How many layers block `b` has had before point `n`. -/
def done (n b : ℕ) : ℕ := (n + 7 - b) / 8

/-- What the scratch holds before point `n`. -/
def J (c : Dev nD) (n : ℕ) (σ : St Ideal) : Prop :=
  (∀ b, b < 8 → done n b ≠ 0 → Rows b σ.h (hrow (P c) (tok c) b (done n b))) ∧ (n ≠ 0 → Off σ.kx ∧ Off σ.vx)

/-- What the output window holds after a point of the last layer. -/
def R (c : Dev nD) (t : Fin cfg0.N) (o : S128x256.Idx → Elt Ideal .f32) : Prop :=
  88 ≤ t.val → ∀ (r : Fin 128) (q : Fin 256), o (ix2 r q) = ((out (P c) (tok c ⟨128 * (t.val % 8) + r.val, by omega⟩) q : ℝ) : EReal)

theorem co0 : ∀ t : Fin cfg0.N, (grid0.coords t 0).val = t.val / 8 ∧ (grid0.coords t 1).val = t.val % 8 := by decide +kernel

variable {P tok} {m : (ℓ : Loc nD τ sig) → Buf (Elt Ideal) ℓ}

theorem rows_kept {b b' : ℕ} (hne : b' ≠ b) {h h' : S20480x256.Idx → Elt Ideal .f32} {H : ℕ → Fin 256 → ℝ} (hR : Rows b' h H) (hk : Kept b h h') : Rows b' h' H :=
  fun r q h1 h2 => (hk r q (by omega)).trans (hR r q h1 h2)

theorem steps (A : ∀ c, Args (P c) (tok c) m c) : Steps m (J P tok) (R P tok) := by
  intro c t B 𝒱 σ hJ
  have hN : t.val < 96 := t.isLt
  obtain ⟨h0, h1⟩ := co0 t
  have hX := ins_at (A c) t
  have key := body_val (B := B) (c := c) (𝒱 := 𝒱) (i := grid0.coords t) (Hr := hrow (P c) (tok c) (grid0.coords t 1).val (grid0.coords t 0).val) (σ0 := σ) hX rfl ?_ ?_ ?_
  · refine BodyRun.EvQ.mono key ?_
    rintro x σ' ⟨hR, hK, hx, hv, ho⟩
    rw [hrow_next] at hR ho
    rw [h0, h1] at hR
    rw [h0, h1] at ho
    rw [h1] at hK
    refine ⟨⟨fun b hb hd => ?_, fun _ => ⟨hx, hv⟩⟩, fun ht r q => ?_⟩
    · by_cases e : b = t.val % 8
      · subst e
        have : done (t.val + 1) (t.val % 8) = t.val / 8 + 1 := by unfold done; omega
        rw [this]; exact hR
      · have : done (t.val + 1) b = done t.val b := by unfold done; omega
        rw [this] at hd ⊢
        exact rows_kept e (hJ.1 b hb hd) hK
    · have e11 : t.val / 8 = 11 := by omega
      rw [ho e11 r q, e11, hrow_out _ _ _ (by omega)]
  · intro hl
    have e : done t.val (t.val % 8) = t.val / 8 := by unfold done; omega
    have := hJ.1 (t.val % 8) (by omega) (by rw [e, ← h0]; exact hl)
    rw [h0, h1]
    rw [e] at this
    exact this
  · intro hl r q
    rw [hl]
    exact hrow_zero _ _ _ _ _
  · intro hn
    exact hJ.2 (by omega)

variable (P tok) in
/-- The array of results. -/
noncomputable def res (c : Dev nD) : S1024x256.Idx → EReal := fun j => ((out (P c) (tok c (show Fin 1024 from j 0)) (show Fin 256 from j 1) : ℝ) : EReal)

theorem wx18 : ∀ t : Fin cfg0.N, win0_18.index t 0 = (grid0.coords t 1).val ∧ win0_18.index t 1 = 0 := by decide +kernel
theorem em18 (t : Fin cfg0.N) (r : Fin 128) (q : Fin 256) : (win0_18.blk t).view.emb (ix2 r q) = (ix2 ⟨(grid0.coords t 1).val * 128 + r.val, by have := bt_lt t; omega⟩ q : S1024x256.Idx) := by
  have := bt_lt t
  blk_ext [(wx18 t).1, (wx18 t).2]

/-- The later write-backs decide what the array holds. -/
theorem arr_late {c : Dev nD} (dat : Pipeline.Dat τ (Elt Ideal) Unit ℕ (UR sig nD τ) ℕ cfg0 c) (w : Fin cfg0.W) (n0 : ℕ) (G : Buf (Elt Ideal) ((cfg0.win w).arr.view.loc (c.tc : Thread nD τ)))
    (hG : ∀ t : Fin cfg0.N, n0 ≤ t.val → (cfg0.win w).flush t = true → dat.flushed w t = ((cfg0.win w).blk t).view.read (Elt Ideal) G) :
    ∀ (n : Nat) (t : Fin cfg0.N) (i : ((cfg0.win w).arr.view.loc (c.tc : Thread nD τ)).2.ty.Idx),
      n0 ≤ t.val → t.val < n → (cfg0.win w).flush t = true → i ∈ ((cfg0.win w).blk t).view.set → dat.arrAt w n i = G i
  | 0, _, _, _, ht, _, _ => absurd ht (Nat.not_lt_zero _)
  | n + 1, t, i, h0, ht, hf, hi => by
    rw [dat.arrAt_succ_apply]
    by_cases hn : n < cfg0.N
    swap
    · rw [dif_neg hn]
      exact arr_late dat w n0 G hG n t i h0 (by have := t.isLt; omega) hf hi
    rw [dif_pos hn]
    by_cases hfn : (cfg0.win w).flush ⟨n, hn⟩ = true
    · rw [if_pos hfn, hG ⟨n, hn⟩ (by show n0 ≤ n; omega) hfn, View.write_read_eq_piecewise]
      by_cases hin : i ∈ ((cfg0.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact arr_late dat w n0 G hG n t i h0 (by omega) hf hi
    · rw [if_neg hfn]
      have htn : t.val ≠ n := fun e => hfn (by have : t = ⟨n, hn⟩ := Fin.ext e; exact this ▸ hf)
      exact arr_late dat w n0 G hG n t i h0 (by omega) hf hi

theorem res_of {r : PUnit × MemSt nD τ sig (Elt Ideal)} (h : Pipeline.RDat.FramePost cfg0 (rdat m (J P tok) (R P tok)) (V m) r) (c : Dev nD) :
    r.2.mem ((c.tc : Thread nD τ).loc main_v30) = res P tok c := by
  obtain ⟨after, hL, hA⟩ := h.exists_exact c
  refine (hA 18).trans ?_
  have hR : ∀ t : Fin cfg0.N, R P tok c t (after 18 t) := fun t => by
    exact Pipeline.Dat.toRRel_leaves (dat m (J P tok) c) (fgt := fgt) (Rl := rel (R P tok) c) (w := 18) rfl (hL 18 t (flush0_18 t))
  have hG : ∀ t : Fin cfg0.N, 88 ≤ t.val → (cfg0.win 18).flush t = true →
      ((rdat m (J P tok) (R P tok) c).withAfter after).flushed 18 t = ((cfg0.win 18).blk t).view.read (Elt Ideal) (res P tok c) := by
    intro t ht _
    funext j
    obtain ⟨r, q, rfl⟩ : ∃ (r : Fin 128) (q : Fin 256), j = ix2 r q := ⟨j 0, j 1, eq_ix2 j⟩
    show after 18 t (ix2 r q) = res P tok c ((win0_18.blk t).view.emb (ix2 r q))
    rw [em18, hR t ht r q]
    show _ = ((out (P c) (tok c ⟨(grid0.coords t 1).val * 128 + r.val, _⟩) q : ℝ) : EReal)
    have e : (⟨(grid0.coords t 1).val * 128 + r.val, by have := bt_lt t; omega⟩ : Fin 1024) = ⟨128 * (t.val % 8) + r.val, by omega⟩ := Fin.ext (by
      show (grid0.coords t 1).val * 128 + r.val = 128 * (t.val % 8) + r.val
      rw [(co0 t).2]; omega)
    rw [e]
  funext i
  obtain ⟨r, q, rfl⟩ : ∃ (r : Fin 1024) (q : Fin 256), i = ix2 r q := ⟨i 0, i 1, eq_ix2 i⟩
  have hr := r.isLt
  let t : Fin cfg0.N := ⟨88 + r.val / 128, by show _ < 96; omega⟩
  refine arr_late _ 18 88 (res P tok c) hG cfg0.N t _ (Nat.le_add_right _ _) t.isLt (flush0_18 t) ?_
  have e : (ix2 r q : S1024x256.Idx) = (win0_18.blk t).view.emb (ix2 ⟨r.val % 128, Nat.mod_lt _ (by norm_num)⟩ q) := by
    rw [em18]
    refine congrArg (fun a : Fin 1024 => (ix2 a q : S1024x256.Idx)) (Fin.ext ?_)
    show r.val = (grid0.coords t 1).val * 128 + r.val % 128
    rw [(co0 t).2]
    show r.val = (88 + r.val / 128) % 8 * 128 + r.val % 128
    omega
  rw [e]
  exact View.emb_mem_set _ _

theorem run_val (A : ∀ c, Args (P c) (tok c) m c) (ρ : Dev nD → PrngReg) :
    θ_run (defs (F := Ideal)) (onTc (τ := τ) (main (F := Ideal))) (s₀ m ρ) fun r =>
      Pipeline.RDat.FramePost cfg0 (rdat m (J P tok) (R P tok)) (V m) r ∧ r.2.sem = fun _ => 0 :=
  region_run (F := Ideal) (m := m) (J := J P tok) (R := R P tok) ρ (fun c n σ x h => h)
    (fun c σ => ⟨fun b hb hd => absurd (by unfold done; omega) hd, fun h => absurd rfl h⟩) (steps A)

end Cert.KernelIdeal.Val
end
-- ==== Proof.RefVal.lean ====
module

public import proofs.«01_k».proof.Proof.Model
public import proofs.«01_k».proof.Proof.Gen.ReferenceIdeal.Run
public import Idealize.ShloMosaic.Lib.Pointwise
public import Idealize.ShloMosaic.Lib.Tactic
public import Idealize.ShloMosaic.Lib.Routing.OpsOrder
public import Idealize.ShloMosaic.Lib.StableHlo.ReadAt

@[expose] public section

set_option maxRecDepth 65536

namespace Cert.ReferenceIdeal.Val
open Idealize.ShloMosaic Idealize.ShloMosaic.TcCoe Idealize.ShloMosaic.Tactic
open Cert.ReferenceIdeal Cert.ReferenceIdeal.Gen Cert.ReferenceIdeal.Value Cert.Model
open Idealize.SL Idealize.SL.RA Idealize.SL.BI Idealize.SL.Sem Idealize.ShloMosaic.StableHlo

/-! ## The layer's operations, of the arrays they read -/

section
variable {F : FTy → Type} [FloatOps F]

abbrev sel (n : Vec F S_ .i32) (k : BitVec 32) : Vec F S_ .i32 := select (cmpi .slt n (constantI S_ 32 0#32)) (addi n (constantI S_ 32 k)) n
abbrev zero32 : Vec F S_ .i32 := constantI S_ 32 0#32

/-- A layer's row of a table. -/
def rowS (w : Vec F S12x256 .f32) (n : Vec F S_ .i32) : Vec F S256 .f32 :=
  shapeCast S256 (Host.dynamicSlice S1x256 w (fun k => (((![select (cmpi .slt n (constantI S_ 32 0#32)) (addi n (constantI S_ 32 12#32)) n, select (cmpi .slt (constantI S_ 32 0#32) (constantI S_ 32 0#32)) (addi (constantI S_ 32 0#32) (constantI S_ 32 256#32)) (constantI S_ 32 0#32)] : Fin 2 → (⟨S_, .i32⟩ : BufTy).Contents (Elt F))) k (Shape.Idx.first h_S_)).toInt) sliceFits_S12x256_S1x256) shapeCasts_S1x256_S256

def rowL (w : Vec F S12x1024 .f32) (n : Vec F S_ .i32) : Vec F S1024 .f32 :=
  shapeCast S1024 (Host.dynamicSlice S1x1024 w (fun k => (((![select (cmpi .slt n (constantI S_ 32 0#32)) (addi n (constantI S_ 32 12#32)) n, select (cmpi .slt (constantI S_ 32 0#32) (constantI S_ 32 0#32)) (addi (constantI S_ 32 0#32) (constantI S_ 32 1024#32)) (constantI S_ 32 0#32)] : Fin 2 → (⟨S_, .i32⟩ : BufTy).Contents (Elt F))) k (Shape.Idx.first h_S_)).toInt) sliceFits_S12x1024_S1x1024) shapeCasts_S1x1024_S1024

/-- A layer's matrix. -/
def matS (w : Vec F S12x256x256 .f32) (n : Vec F S_ .i32) : Vec F S256x256 .f32 :=
  shapeCast S256x256 (Host.dynamicSlice S1x256x256 w (fun k => (((![select (cmpi .slt n (constantI S_ 32 0#32)) (addi n (constantI S_ 32 12#32)) n, select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 256#32)) (constantI S_ 32 0#32)] : Fin 3 → (⟨S_, .i32⟩ : BufTy).Contents (Elt F))) k (Shape.Idx.first h_S_)).toInt) sliceFits_S12x256x256_S1x256x256) shapeCasts_S1x256x256_S256x256

def matL (w : Vec F S12x256x1024 .f32) (n : Vec F S_ .i32) : Vec F S256x1024 .f32 :=
  shapeCast S256x1024 (Host.dynamicSlice S1x256x1024 w (fun k => (((![select (cmpi .slt n (constantI S_ 32 0#32)) (addi n (constantI S_ 32 12#32)) n, select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 1024#32)) (constantI S_ 32 0#32)] : Fin 3 → (⟨S_, .i32⟩ : BufTy).Contents (Elt F))) k (Shape.Idx.first h_S_)).toInt) sliceFits_S12x256x1024_S1x256x1024) shapeCasts_S1x256x1024_S256x1024

def matT (w : Vec F S12x1024x256 .f32) (n : Vec F S_ .i32) : Vec F S1024x256 .f32 :=
  shapeCast S1024x256 (Host.dynamicSlice S1x1024x256 w (fun k => (((![select (cmpi .slt n (constantI S_ 32 0#32)) (addi n (constantI S_ 32 12#32)) n, select (cmpi .slt (constantI S_ 32 0#32) (constantI S_ 32 0#32)) (addi (constantI S_ 32 0#32) (constantI S_ 32 1024#32)) (constantI S_ 32 0#32), select (cmpi .slt (constantI S_ 32 0#32) (constantI S_ 32 0#32)) (addi (constantI S_ 32 0#32) (constantI S_ 32 256#32)) (constantI S_ 32 0#32)] : Fin 3 → (⟨S_, .i32⟩ : BufTy).Contents (Elt F))) k (Shape.Idx.first h_S_)).toInt) sliceFits_S12x1024x256_S1x1024x256) shapeCasts_S1x1024x256_S1024x256

def mnR (h : Vec F S1024x20x256 .f32) : Vec F S1024x20x1 .f32 :=
  Host.divf (broadcastInDim S1024x20x1 ![0, 1] bcast_S1024x20_S1024x20x1_0_1 (Host.reduceAdd h (constant S_ .f32 0x00000000#32) reducesTo_S1024x20x256_S1024x20_d2 h_S_)) (broadcastInDim S1024x20x1 ![] bcast_S_S1024x20x1 (constant S_ .f32 0x43800000#32))

def devR (h : Vec F S1024x20x256 .f32) : Vec F S1024x20x256 .f32 :=
  subf h (broadcastInDim S1024x20x256 ![0, 1, 2] bcast_S1024x20x1_S1024x20x256_0_1_2 (mnR h))

def lnR (h : Vec F S1024x20x256 .f32) (g b : Vec F S256 .f32) : Vec F S1024x20x256 .f32 :=
  addf (mulf (Host.divf (devR h) (broadcastInDim S1024x20x256 ![0, 1, 2] bcast_S1024x20x1_S1024x20x256_0_1_2 (Host.sqrt (addf (Host.divf (broadcastInDim S1024x20x1 ![0, 1] bcast_S1024x20_S1024x20x1_0_1 (Host.reduceAdd (mulf (devR h) (devR h)) (constant S_ .f32 0x00000000#32) reducesTo_S1024x20x256_S1024x20_d2 h_S_)) (broadcastInDim S1024x20x1 ![] bcast_S_S1024x20x1 (constant S_ .f32 0x43800000#32))) (broadcastInDim S1024x20x1 ![] bcast_S_S1024x20x1 (constant S_ .f32 0x3727C5AC#32)))))) (broadcastInDim S1024x20x256 ![0, 1, 2] bcast_S1x1x256_S1024x20x256_0_1_2 (broadcastInDim S1x1x256 ![2] bcast_S256_S1x1x256_2 g))) (broadcastInDim S1024x20x256 ![0, 1, 2] bcast_S1x1x256_S1024x20x256_0_1_2 (broadcastInDim S1x1x256 ![2] bcast_S256_S1x1x256_2 b))

/-- The projected rows, by head. -/
def prR (y : Vec F S1024x20x256 .f32) (w : Vec F S256x256 .f32) : Vec F S1024x8x20x32 .f32 :=
  transpose S1024x8x20x32 [0, 2, 1, 3] (shapeCast S1024x20x8x32 (Host.dotGeneral dot_S1024x20x256_S256x256_S1024x20x256_2_0_01_1_n_n none y w) shapeCasts_S1024x20x256_S1024x20x8x32) transposes_S1024x20x8x32_S1024x8x20x32_0_2_1_3

def scR (so : Vec F S1024 .i1) (li : Vec F S1024x20 .i1) (q k : Vec F S1024x8x20x32 .f32) : Vec F S1024x8x20x20 .f32 :=
  select (broadcastInDim S1024x8x20x20 ![0, 1, 2, 3] bcast_S1024x1x1x1_S1024x8x20x20_0_1_2_3 (broadcastInDim S1024x1x1x1 ![0] bcast_S1024_S1024x1x1x1_0 so)) (select (broadcastInDim S1024x8x20x20 ![0, 1, 2, 3] bcast_S1024x1x1x20_S1024x8x20x20_0_1_2_3 (broadcastInDim S1024x1x1x20 ![0, 3] bcast_S1024x20_S1024x1x1x20_0_3 li)) (mulf (Host.dotGeneral dot_S1024x8x20x32_S1024x8x20x32_S1024x8x20x20_3_3_2_2_01_01 none q k) (broadcastInDim S1024x8x20x20 ![] bcast_S_S1024x8x20x20 (constant S_ .f32 0x3E3504F3#32))) (broadcastInDim S1024x8x20x20 ![] bcast_S_S1024x8x20x20 (constant S_ .f32 0xFF800000#32))) (broadcastInDim S1024x8x20x20 ![] bcast_S_S1024x8x20x20 (constant S_ .f32 0x00000000#32))

def exR (x : Vec F S1024x8x20x20 .f32) : Vec F S1024x8x20x20 .f32 :=
  Host.exp (subf x (broadcastInDim S1024x8x20x20 ![0, 1, 2, 3] bcast_S1024x8x20x1_S1024x8x20x20_0_1_2_3 (broadcastInDim S1024x8x20x1 ![0, 1, 2] bcast_S1024x8x20_S1024x8x20x1_0_1_2 (maximumf (broadcastInDim S1024x8x20 ![] bcast_S_S1024x8x20 (constant S_ .f32 0xFF800000#32)) (Host.reduce FloatOps.maximumf x (constant S_ .f32 0xFF800000#32) reducesTo_S1024x8x20x20_S1024x8x20_d3 h_S_)))))

def avR (h : Vec F S1024x20x256 .f32) (e : Vec F S1024x8x20x20 .f32) (v : Vec F S1024x8x20x32 .f32) (w : Vec F S256x256 .f32) : Vec F S1024x20x256 .f32 :=
  addf h (Host.dotGeneral dot_S1024x20x256_S256x256_S1024x20x256_2_0_01_1_n_n none (shapeCast S1024x20x256 (transpose S1024x20x8x32 [0, 2, 1, 3] (Host.dotGeneral dot_S1024x8x20x20_S1024x8x20x32_S1024x8x20x32_3_2_2_3_01_01 none (Host.divf e (broadcastInDim S1024x8x20x20 ![0, 1, 2, 3] bcast_S1024x8x20x1_S1024x8x20x20_0_1_2_3 (broadcastInDim S1024x8x20x1 ![0, 1, 2] bcast_S1024x8x20_S1024x8x20x1_0_1_2 (Host.reduceAdd e (constant S_ .f32 0x00000000#32) reducesTo_S1024x8x20x20_S1024x8x20_d3 h_S_)))) v) transposes_S1024x8x20x32_S1024x20x8x32_0_2_1_3) shapeCasts_S1024x20x8x32_S1024x20x256) w)

def upR (y : Vec F S1024x20x256 .f32) (w : Vec F S256x1024 .f32) (b : Vec F S1024 .f32) : Vec F S1024x20x1024 .f32 :=
  addf (Host.dotGeneral dot_S1024x20x256_S256x1024_S1024x20x1024_2_0_01_1_n_n none y w) (broadcastInDim S1024x20x1024 ![0, 1, 2] bcast_S1x1x1024_S1024x20x1024_0_1_2 (broadcastInDim S1x1x1024 ![2] bcast_S1024_S1x1x1024_2 b))

def dnR (h : Vec F S1024x20x256 .f32) (u : Vec F S1024x20x1024 .f32) (w : Vec F S1024x256 .f32) (b : Vec F S256 .f32) : Vec F S1024x20x256 .f32 :=
  addf h (addf (Host.dotGeneral dot_S1024x20x1024_S1024x256_S1024x20x256_2_0_01_1_n_n none (mulf u (mulf (broadcastInDim S1024x20x1024 ![] bcast_S_S1024x20x1024 (constant S_ .f32 0x3F000000#32)) (addf (broadcastInDim S1024x20x1024 ![] bcast_S_S1024x20x1024 (constant S_ .f32 0x3F800000#32)) (Host.tanh (mulf (broadcastInDim S1024x20x1024 ![] bcast_S_S1024x20x1024 (constant S_ .f32 0x3F4C422A#32)) (addf u (mulf (broadcastInDim S1024x20x1024 ![] bcast_S_S1024x20x1024 (constant S_ .f32 0x3D372713#32)) (mulf (mulf u u) u)))))))) w) (broadcastInDim S1024x20x256 ![0, 1, 2] bcast_S1x1x256_S1024x20x256_0_1_2 (broadcastInDim S1x1x256 ![2] bcast_S256_S1x1x256_2 b)))

variable (V0 : Valuation τ sig (Elt F))

abbrev hV : Vec F S1024x20x256 .f32 := V0 (Proc.devRef .tc main_v7_16)
abbrev nV : Vec F S_ .i32 := V0 (Proc.devRef .tc main_v7_15)
abbrev y1V : Vec F S1024x20x256 .f32 := lnR (hV V0) (rowS (V0 (Proc.devRef .tc main_v7_0)) (nV V0)) (rowS (V0 (Proc.devRef .tc main_v7_1)) (nV V0))
abbrev qV := prR (y1V V0) (matS (V0 (Proc.devRef .tc main_v7_2)) (nV V0))
abbrev kV := prR (y1V V0) (matS (V0 (Proc.devRef .tc main_v7_3)) (nV V0))
abbrev vV := prR (y1V V0) (matS (V0 (Proc.devRef .tc main_v7_4)) (nV V0))
abbrev eV := exR (scR (V0 (Proc.devRef .tc main_v7_6)) (V0 (Proc.devRef .tc main_v7_5)) (qV V0) (kV V0))
abbrev h2V := avR (hV V0) (eV V0) (vV V0) (matS (V0 (Proc.devRef .tc main_v7_7)) (nV V0))
abbrev y2V : Vec F S1024x20x256 .f32 := lnR (h2V V0) (rowS (V0 (Proc.devRef .tc main_v7_8)) (nV V0)) (rowS (V0 (Proc.devRef .tc main_v7_9)) (nV V0))
abbrev uV := upR (y2V V0) (matL (V0 (Proc.devRef .tc main_v7_10)) (nV V0)) (rowL (V0 (Proc.devRef .tc main_v7_11)) (nV V0))

theorem v56_eq : (res_main_while0b_v56 V0 : Vec F S1024x20x1 .f32) = mnR (hV V0) := rfl
theorem v76_eq : (res_main_while0b_v76 V0 : Vec F S1024x20x256 .f32) = y1V V0 := rfl
theorem v128_eq : (res_main_while0b_v128 V0 : Vec F S1024x8x20x20 .f32) = scR (V0 (Proc.devRef .tc main_v7_6)) (V0 (Proc.devRef .tc main_v7_5)) (qV V0) (kV V0) := by
  unfold res_main_while0b_v128; rw [v76_eq]; rfl
theorem v135_eq : (res_main_while0b_v135 V0 : Vec F S1024x8x20x20 .f32) = eV V0 := by
  unfold res_main_while0b_v135; rw [v128_eq]; rfl
theorem v156_eq : (res_main_while0b_v156 V0 : Vec F S1024x20x256 .f32) = h2V V0 := by
  unfold res_main_while0b_v156; rw [v135_eq, v76_eq]; rfl
theorem v223_eq : (res_main_while0b_v223 V0 : Vec F S1024x20x1024 .f32) = uV V0 := by
  unfold res_main_while0b_v223 res_main_while0b_v180 res_main_while0b_v178; rw [v156_eq]; rfl
theorem step_eq : (step_main_v7_16 V0 : Vec F S1024x20x256 .f32) = dnR (h2V V0) (uV V0) (matT (V0 (Proc.devRef .tc main_v7_12)) (nV V0)) (rowS (V0 (Proc.devRef .tc main_v7_13)) (nV V0)) := by
  unfold step_main_v7_16; rw [v156_eq, v223_eq]; rfl
end

/-! ## Their values -/

section
variable {n : Vec Ideal S_ .i32} {l : ℕ} (hn : ∀ j, n j = BitVec.ofNat 32 l) (hl : l < 12)
include hn hl

theorem rowS_val (w : Vec Ideal S12x256 .f32) (q : Fin 256) : rowS (F := Ideal) w n (ix1 q) = w (ix2 ⟨l, hl⟩ q) := by
  obtain rfl : n = fun _ => BitVec.ofNat 32 l := funext hn
  unfold rowS
  pointwise
  congr 1
  refine congrArg₂ (ix2 (n0 := 12) (n1 := 256)) (Fin.ext ?_) (Fin.ext ?_)
  · clear hn w; interval_cases l <;> rfl
  · exact Nat.zero_add _
theorem rowL_val (w : Vec Ideal S12x1024 .f32) (q : Fin 1024) : rowL (F := Ideal) w n (ix1 q) = w (ix2 ⟨l, hl⟩ q) := by
  obtain rfl : n = fun _ => BitVec.ofNat 32 l := funext hn
  unfold rowL
  pointwise
  congr 1
  refine congrArg₂ (ix2 (n0 := 12) (n1 := 1024)) (Fin.ext ?_) (Fin.ext ?_)
  · clear hn w; interval_cases l <;> rfl
  · exact Nat.zero_add _
theorem matS_val (w : Vec Ideal S12x256x256 .f32) (a q : Fin 256) : matS (F := Ideal) w n (ix2 a q) = w (ix3 ⟨l, hl⟩ a q) := by
  obtain rfl : n = fun _ => BitVec.ofNat 32 l := funext hn
  unfold matS
  pointwise
  congr 1
  refine congr (congrArg₂ (ix3 (n0 := 12) (n1 := 256) (n2 := 256)) (Fin.ext ?_) (Fin.ext ?_)) (Fin.ext ?_)
  · clear hn w; interval_cases l <;> rfl
  · exact Nat.zero_add _
  · exact Nat.zero_add _
theorem matL_val (w : Vec Ideal S12x256x1024 .f32) (a : Fin 256) (q : Fin 1024) : matL (F := Ideal) w n (ix2 a q) = w (ix3 ⟨l, hl⟩ a q) := by
  obtain rfl : n = fun _ => BitVec.ofNat 32 l := funext hn
  unfold matL
  pointwise
  congr 1
  refine congr (congrArg₂ (ix3 (n0 := 12) (n1 := 256) (n2 := 1024)) (Fin.ext ?_) (Fin.ext ?_)) (Fin.ext ?_)
  · clear hn w; interval_cases l <;> rfl
  · exact Nat.zero_add _
  · exact Nat.zero_add _
theorem matT_val (w : Vec Ideal S12x1024x256 .f32) (a : Fin 1024) (q : Fin 256) : matT (F := Ideal) w n (ix2 a q) = w (ix3 ⟨l, hl⟩ a q) := by
  obtain rfl : n = fun _ => BitVec.ofNat 32 l := funext hn
  unfold matT
  pointwise
  congr 1
  refine congr (congrArg₂ (ix3 (n0 := 12) (n1 := 1024) (n2 := 256)) (Fin.ext ?_) (Fin.ext ?_)) (Fin.ext ?_)
  · clear hn w; interval_cases l <;> rfl
  · exact Nat.zero_add _
  · exact Nat.zero_add _
end
section
variable {H : Fin 1024 → Fin 20 → Fin 256 → ℝ} {h : Vec Ideal S1024x20x256 .f32}

theorem ln_expr (X G E : Fin 256 → ℝ) (c : Fin 256) :
    Ideal.div ((X c : EReal) - Ideal.div (∑ x, (X x : EReal)) (Ideal.ofBits FTy.f32 0x43800000#32))
          (Ideal.sqrt
            (Ideal.div
                (∑ x, ((X x : EReal) - Ideal.div (∑ x, (X x : EReal)) (Ideal.ofBits FTy.f32 0x43800000#32)) *
                    ((X x : EReal) - Ideal.div (∑ x, (X x : EReal)) (Ideal.ofBits FTy.f32 0x43800000#32)))
                (Ideal.ofBits FTy.f32 0x43800000#32) + Ideal.ofBits FTy.f32 0x3727C5AC#32)) * (G c : EReal) + (E c : EReal) = ((ln G E X c : ℝ) : EReal) := by
  rw [c256, c_eps, ← coe_sum, div_coe _ _ (by norm_num)]
  simp only [← EReal.coe_sub, ← EReal.coe_mul]
  have hp := var_eps_pos X
  have hr := sqrt_coe _ hp.le
  have hd : Real.sqrt (var X + eps) ≠ 0 := (Real.sqrt_pos.mpr hp).ne'
  simp only [var, mean] at hr hd
  rw [← coe_sum, div_coe _ _ (by norm_num), ← EReal.coe_add, hr, div_coe _ _ hd, div_eq_mul_inv]
  simp only [← EReal.coe_mul, ← EReal.coe_add]
  rfl

theorem lin_expr {n m : ℕ} (x : Fin n → ℝ) (w : Fin n → Fin m → ℝ) (c : Fin m) : ∑ k, (x k : EReal) * (w k c : EReal) = ((lin x w c : ℝ) : EReal) := by
  simp only [← EReal.coe_mul]
  rw [← coe_sum]; rfl

theorem lnR_val (hh : ∀ b s q, h (ix3 b s q) = ((H b s q : ℝ) : EReal)) {g e : Vec Ideal S256 .f32} {G E : Fin 256 → ℝ} (hg : ∀ q, g (ix1 q) = ((G q : ℝ) : EReal)) (he : ∀ q, e (ix1 q) = ((E q : ℝ) : EReal))
    (b : Fin 1024) (s : Fin 20) (q : Fin 256) : lnR (F := Ideal) h g e (ix3 b s q) = ((ln G E (H b s) q : ℝ) : EReal) := by
  unfold lnR devR mnR
  pointwise
  simp only [hh, hg, he]
  exact ln_expr (H b s) G E q

theorem prR_val (hh : ∀ b s q, h (ix3 b s q) = ((H b s q : ℝ) : EReal)) {w : Vec Ideal S256x256 .f32} {W : Fin 256 → Fin 256 → ℝ} (hw : ∀ a q, w (ix2 a q) = ((W a q : ℝ) : EReal))
    (b : Fin 1024) (n : Fin 8) (s : Fin 20) (q : Fin 32) : prR (F := Ideal) h w (ix4 b n s q) = ((lin (H b s) W (hcol n q) : ℝ) : EReal) := by
  unfold prR
  pointwise
  simp only [hh, hw]
  refine Eq.trans (Finset.sum_congr rfl fun k _ => ?_) (lin_expr (H b s) W (hcol n q))
  have e : n.val * 32 + q.val = 32 * n.val + q.val := by omega
  simp only [e]

variable {live : Fin 1024 → Fin 20 → Prop} {so : Vec Ideal S1024 .i1} {li : Vec Ideal S1024x20 .i1}

theorem scR_val (hli : ∀ b s, li (ix2 b s) = 1#1 ↔ live b s) (hso : ∀ b, so (ix1 b) = 1#1 ↔ ∃ s, live b s)
    {q k : Vec Ideal S1024x8x20x32 .f32} {Q K : Fin 1024 → Fin 20 → Fin 256 → ℝ}
    (hq : ∀ b n s d, q (ix4 b n s d) = ((Q b s (hcol n d) : ℝ) : EReal)) (hk : ∀ b n s d, k (ix4 b n s d) = ((K b s (hcol n d) : ℝ) : EReal))
    (b : Fin 1024) (n : Fin 8) (s t : Fin 20) : scR (F := Ideal) so li q k (ix4 b n s t)
      = (open Classical in if ∃ i, live b i then (if live b t then ((score (Q b) (K b) s t n * scl : ℝ) : EReal) else ⊥) else (0 : EReal)) := by
  unfold scR
  pointwise
  have e : (∑ x, q (ix4 b n s x) * k (ix4 b n t x) : EReal) = ((score (Q b) (K b) s t n : ℝ) : EReal) := by
    simp only [hq, hk, ← EReal.coe_mul]
    rw [← coe_sum]; rfl
  rw [c_bot, c_scl, e, ← EReal.coe_mul]
  unfold Scalar.select
  by_cases h1 : ∃ i, live b i
  · have h1' := (hso b).mpr h1
    by_cases h2 : live b t
    · have h2' := (hli b t).mpr h2
      simp [h1, h2, h1', h2']
    · have h2' : ¬ li (ix2 b t) = 1#1 := fun h => h2 ((hli b t).mp h)
      simp [h1, h2, h1', h2']
  · have h1' : ¬ so (ix1 b) = 1#1 := fun h => h1 ((hso b).mp h)
    rw [if_neg h1]; exact if_neg h1'

theorem red_val (x : Vec Ideal S1024x8x20x20 .f32) (b : Fin 1024) (n : Fin 8) (s : Fin 20) :
    Host.reduce FloatOps.maximumf x (constant (F := Ideal) S_ .f32 0xFF800000#32) reducesTo_S1024x8x20x20_S1024x8x20_d3 h_S_ (ix3 b n s) = (Finset.fold max (Ideal.ofBits FTy.f32 4286578688#32) (fun t => x (ix4 b n s t)) Finset.univ : EReal) := by
  pointwise

theorem ex_sub (x : Vec Ideal S1024x8x20x20 .f32) (M : Vec Ideal S1024x8x20 .f32) (b : Fin 1024) (n : Fin 8) (s t : Fin 20) :
    Host.exp (F := Ideal) (subf x (broadcastInDim S1024x8x20x20 ![0, 1, 2, 3] bcast_S1024x8x20x1_S1024x8x20x20_0_1_2_3 (broadcastInDim S1024x8x20x1 ![0, 1, 2] bcast_S1024x8x20_S1024x8x20x1_0_1_2 (maximumf (broadcastInDim S1024x8x20 ![] bcast_S_S1024x8x20 (constant S_ .f32 0xFF800000#32)) M)))) (ix4 b n s t)
      = Ideal.exp (x (ix4 b n s t) - max (Ideal.ofBits FTy.f32 4286578688#32) (M (ix3 b n s))) := by
  pointwise

theorem exR_eq (x : Vec Ideal S1024x8x20x20 .f32) (b : Fin 1024) (n : Fin 8) (s t : Fin 20) :
    exR (F := Ideal) x (ix4 b n s t) = Ideal.exp (x (ix4 b n s t) - max ⊥ (Finset.fold max ⊥ (fun t => x (ix4 b n s t)) Finset.univ : EReal)) := by
  rw [← c_bot, ← red_val]
  exact ex_sub x _ b n s t

theorem fold_real (S : Fin 20 → EReal) (h1 : ∀ t, S t ≠ ⊤) (h2 : ∃ t, S t ≠ ⊥) : ∃ M : ℝ, max ⊥ (Finset.fold max ⊥ S Finset.univ) = (M : EReal) := by
  have e : max ⊥ (Finset.fold max ⊥ S Finset.univ) = Finset.univ.sup S := by rw [max_eq_right bot_le]; rfl
  rw [e]
  obtain ⟨t, ht⟩ := h2
  have a1 : Finset.univ.sup S ≠ ⊥ := fun h => ht (le_bot_iff.mp (h ▸ Finset.le_sup (f := S) (Finset.mem_univ t)))
  obtain ⟨u, -, hu⟩ := Finset.exists_mem_eq_sup Finset.univ ⟨t, Finset.mem_univ t⟩ S
  have a2 : Finset.univ.sup S ≠ ⊤ := fun h => h1 u (hu ▸ h)
  exact ⟨_, (EReal.coe_toReal a2 a1).symm⟩

/-- The exponentials are the weights up to a factor of the row. -/
theorem exR_val {x : Vec Ideal S1024x8x20x20 .f32} {Q K : Fin 1024 → Fin 20 → Fin 256 → ℝ} {Q' : Fin 1024 → Fin 20 → Fin 256 → ℝ}
    (hx : ∀ b n s t, x (ix4 b n s t) = (open Classical in if ∃ i, live b i then (if live b t then ((score (Q b) (K b) s t n * scl : ℝ) : EReal) else ⊥) else (0 : EReal)))
    (hQ : ∀ b s c, Q' b s c = Q b s c * scl) (b : Fin 1024) (n : Fin 8) (s : Fin 20) :
    ∃ C : ℝ, 0 < C ∧ ∀ t, exR (F := Ideal) x (ix4 b n s t) = ((wt (live b) (Q' b) (K b) s t n * C : ℝ) : EReal) := by
  classical
  have hs : ∀ t, score (Q b) (K b) s t n * scl = score (Q' b) (K b) s t n := fun t => by
    unfold score
    rw [Finset.sum_mul]
    exact Finset.sum_congr rfl fun d _ => by rw [hQ]; ring
  obtain ⟨M, hM⟩ := fold_real (fun t => x (ix4 b n s t))
    (fun t => by rw [hx]; split_ifs; exacts [EReal.coe_ne_top _, bot_ne_top, EReal.zero_ne_top])
    (by
      by_cases h : ∃ i, live b i
      · obtain ⟨i, hi⟩ := h
        exact ⟨i, by rw [hx, if_pos ⟨i, hi⟩, if_pos hi]; exact EReal.coe_ne_bot _⟩
      · exact ⟨0, by rw [hx, if_neg h]; simp⟩)
  refine ⟨Real.exp (-M), Real.exp_pos _, fun t => ?_⟩
  rw [exR_eq, hM, hx]
  unfold wt
  by_cases h : ∃ i, live b i
  · rw [if_pos h, if_pos h]
    by_cases h2 : live b t
    · rw [if_pos h2, if_pos h2, hs, ← EReal.coe_sub, exp_coe, ← Real.exp_add, sub_eq_add_neg]
    · rw [if_neg h2, if_neg h2, zero_mul, EReal.bot_sub, exp_bot, EReal.coe_zero]
  · rw [if_neg h, if_neg h, one_mul, zero_sub, ← EReal.coe_neg, exp_coe]

theorem avR_val {live : Fin 20 → Prop} {q k vv : Fin 20 → Fin 256 → ℝ} {e : Vec Ideal S1024x8x20x20 .f32} {v : Vec Ideal S1024x8x20x32 .f32} {w : Vec Ideal S256x256 .f32} {W : Fin 256 → Fin 256 → ℝ}
    (b : Fin 1024) (s : Fin 20) (hh : ∀ q, h (ix3 b s q) = ((H b s q : ℝ) : EReal))
    (he : ∀ n, ∃ C : ℝ, 0 < C ∧ ∀ t, e (ix4 b n s t) = ((wt live q k s t n * C : ℝ) : EReal))
    (hv : ∀ n t d, v (ix4 b n t d) = ((vv t (hcol n d) : ℝ) : EReal)) (hw : ∀ a q, w (ix2 a q) = ((W a q : ℝ) : EReal))
    (c : Fin 256) : avR (F := Ideal) h e v w (ix3 b s c) = ((H b s c + lin (attn live q k vv s) W c : ℝ) : EReal) := by
  unfold avR
  pointwise
  rw [EReal.coe_add, ← lin_expr, hh]
  refine congrArg _ (Finset.sum_congr rfl fun x _ => ?_)
  rw [hw]
  refine congrArg (· * ((W x c : ℝ) : EReal)) ?_
  obtain ⟨C, hC, hE⟩ := he (hd x)
  have hS := wt_sum_pos live q k s (hd x)
  have hS' : (∑ t, wt live q k s t (hd x) * C) ≠ 0 := by rw [← Finset.sum_mul]; exact (mul_pos hS hC).ne'
  have hxx : hcol (hd x) ⟨x.val % 32, Nat.mod_lt _ (by norm_num)⟩ = x := Fin.ext (by show 32 * (x.val / 32) + x.val % 32 = x.val; omega)
  have key : ∀ t, Ideal.div (e (ix4 b (hd x) s t)) (∑ u, e (ix4 b (hd x) s u)) * v (ix4 b (hd x) t ⟨x.val % 32, Nat.mod_lt _ (by norm_num)⟩)
      = ((wt live q k s t (hd x) / (∑ u, wt live q k s u (hd x)) * vv t x : ℝ) : EReal) := fun t => by
    simp only [hE, hv, hxx]
    rw [← coe_sum, div_coe _ _ hS', ← EReal.coe_mul, ← Finset.sum_mul, mul_div_mul_right _ _ hC.ne']
  refine (Finset.sum_congr rfl fun t _ => key t).trans ?_
  rw [← coe_sum]
  unfold attn
  rw [Finset.sum_div]
  exact congrArg _ (Finset.sum_congr rfl fun t _ => by ring)

theorem upR_val {y : Vec Ideal S1024x20x256 .f32} {Y : Fin 256 → ℝ} (b : Fin 1024) (s : Fin 20) (hy : ∀ q, y (ix3 b s q) = ((Y q : ℝ) : EReal)) {w : Vec Ideal S256x1024 .f32} {W : Fin 256 → Fin 1024 → ℝ} (hw : ∀ a q, w (ix2 a q) = ((W a q : ℝ) : EReal)) {c : Vec Ideal S1024 .f32} {C : Fin 1024 → ℝ} (hc : ∀ q, c (ix1 q) = ((C q : ℝ) : EReal))
    (q : Fin 1024) : upR (F := Ideal) y w c (ix3 b s q) = ((lin Y W q + C q : ℝ) : EReal) := by
  unfold upR
  pointwise
  simp only [hy, hw, hc]
  rw [lin_expr, ← EReal.coe_add]

theorem dnR_val {Y : Fin 256 → ℝ} {U : Fin 1024 → ℝ} {u : Vec Ideal S1024x20x1024 .f32} (b : Fin 1024) (s : Fin 20) (hh : ∀ q, h (ix3 b s q) = ((Y q : ℝ) : EReal)) (hu : ∀ q, u (ix3 b s q) = ((U q : ℝ) : EReal)) {w : Vec Ideal S1024x256 .f32} {W : Fin 1024 → Fin 256 → ℝ} (hw : ∀ a q, w (ix2 a q) = ((W a q : ℝ) : EReal)) {c : Vec Ideal S256 .f32} {C : Fin 256 → ℝ} (hc : ∀ q, c (ix1 q) = ((C q : ℝ) : EReal))
    (q : Fin 256) : dnR (F := Ideal) h u w c (ix3 b s q) = ((Y q + lin (fun k => gelu (U k)) W q + C q : ℝ) : EReal) := by
  unfold dnR
  pointwise
  simp only [hh, hu, hw, hc]
  rw [c_half, c_gl1, c_gl2]
  have g : ∀ x : Fin 1024, (U x : EReal) * (((1 / 2 : ℝ) : EReal) * (1 + Ideal.tanh ((gl2 : EReal) * ((U x : EReal) + (gl1 : EReal) * ((U x : EReal) * (U x : EReal) * (U x : EReal)))))) = ((gelu (U x) : ℝ) : EReal) := fun x => by
    rw [← EReal.coe_one]
    simp only [← EReal.coe_mul, ← EReal.coe_add, tanh_coe]
    unfold gelu
    rw [mul_assoc (U x) (U x) (U x)]
  simp only [g]
  rw [lin_expr (fun k => gelu (U k)), ← EReal.coe_add, ← EReal.coe_add, add_assoc]
end

/-! ## A trip of the loop -/

/-- What the loop's buffers hold after `l` layers. -/
structure At (P : Par) (tok : Fin 1024 → Fin 20 → Fin 24) (l : ℕ) (V0 : Valuation τ sig (Elt Ideal)) : Prop where
  n : ∀ j, (V0 (Proc.devRef .tc main_v7_15) : S_.Idx → BitVec 32) j = BitVec.ofNat 32 l
  h : ∀ b s q, (V0 (Proc.devRef .tc main_v7_16) : S1024x20x256.Idx → EReal) (ix3 b s q) = ((hid P (tok b) l s q : ℝ) : EReal)
  g1 : ∀ (k : Fin 12) q, (V0 (Proc.devRef .tc main_v7_0) : S12x256.Idx → EReal) (ix2 k q) = ((P.g1 k.val q : ℝ) : EReal)
  e1 : ∀ (k : Fin 12) q, (V0 (Proc.devRef .tc main_v7_1) : S12x256.Idx → EReal) (ix2 k q) = ((P.e1 k.val q : ℝ) : EReal)
  wq : ∀ (k : Fin 12) a q, (V0 (Proc.devRef .tc main_v7_2) : S12x256x256.Idx → EReal) (ix3 k a q) = ((P.wq k.val a q : ℝ) : EReal)
  wk : ∀ (k : Fin 12) a q, (V0 (Proc.devRef .tc main_v7_3) : S12x256x256.Idx → EReal) (ix3 k a q) = ((P.wk k.val a q : ℝ) : EReal)
  wv : ∀ (k : Fin 12) a q, (V0 (Proc.devRef .tc main_v7_4) : S12x256x256.Idx → EReal) (ix3 k a q) = ((P.wv k.val a q : ℝ) : EReal)
  live : ∀ b s, (V0 (Proc.devRef .tc main_v7_5) : S1024x20.Idx → BitVec 1) (ix2 b s) = 1#1 ↔ (tok b s).val ≠ 0
  some : ∀ b, (V0 (Proc.devRef .tc main_v7_6) : S1024.Idx → BitVec 1) (ix1 b) = 1#1 ↔ ∃ s, (tok b s).val ≠ 0
  wo : ∀ (k : Fin 12) a q, (V0 (Proc.devRef .tc main_v7_7) : S12x256x256.Idx → EReal) (ix3 k a q) = ((P.wo k.val a q : ℝ) : EReal)
  g2 : ∀ (k : Fin 12) q, (V0 (Proc.devRef .tc main_v7_8) : S12x256.Idx → EReal) (ix2 k q) = ((P.g2 k.val q : ℝ) : EReal)
  e2 : ∀ (k : Fin 12) q, (V0 (Proc.devRef .tc main_v7_9) : S12x256.Idx → EReal) (ix2 k q) = ((P.e2 k.val q : ℝ) : EReal)
  w1 : ∀ (k : Fin 12) a q, (V0 (Proc.devRef .tc main_v7_10) : S12x256x1024.Idx → EReal) (ix3 k a q) = ((P.w1 k.val a q : ℝ) : EReal)
  b1 : ∀ (k : Fin 12) q, (V0 (Proc.devRef .tc main_v7_11) : S12x1024.Idx → EReal) (ix2 k q) = ((P.b1 k.val q : ℝ) : EReal)
  w2 : ∀ (k : Fin 12) a q, (V0 (Proc.devRef .tc main_v7_12) : S12x1024x256.Idx → EReal) (ix3 k a q) = ((P.w2 k.val a q : ℝ) : EReal)
  b2 : ∀ (k : Fin 12) q, (V0 (Proc.devRef .tc main_v7_13) : S12x256.Idx → EReal) (ix2 k q) = ((P.b2 k.val q : ℝ) : EReal)

variable {P : Par} {tok : Fin 1024 → Fin 20 → Fin 24} {l : ℕ} {V0 : Valuation τ sig (Elt Ideal)}

theorem At.layer (A : At P tok l V0) (hl : l < 12) (b : Fin 1024) (s : Fin 20) (q : Fin 256) :
    (step_main_v7_16 V0 : S1024x20x256.Idx → EReal) (ix3 b s q) = ((hid P (tok b) (l + 1) s q : ℝ) : EReal) := by
  refine (congrFun (step_eq V0) (ix3 b s q)).trans ?_
  have hn : ∀ j, nV V0 j = BitVec.ofNat 32 l := A.n
  have y1 : ∀ b s q, y1V V0 (ix3 b s q) = ((ln (P.g1 l) (P.e1 l) (hid P (tok b) l s) q : ℝ) : EReal) := fun b s q =>
    lnR_val (H := fun b s => hid P (tok b) l s) A.h (fun q => (rowS_val hn hl _ q).trans (A.g1 _ q)) (fun q => (rowS_val hn hl _ q).trans (A.e1 _ q)) b s q
  have hq : ∀ b n s d, qV V0 (ix4 b n s d) = ((lin (ln (P.g1 l) (P.e1 l) (hid P (tok b) l s)) (P.wq l) (hcol n d) : ℝ) : EReal) := fun b n s d =>
    prR_val (H := fun b s => ln (P.g1 l) (P.e1 l) (hid P (tok b) l s)) y1 (fun a q => (matS_val hn hl _ a q).trans (A.wq _ a q)) b n s d
  have hk : ∀ b n s d, kV V0 (ix4 b n s d) = ((Cert.Model.km P l (hid P (tok b) l s) (hcol n d) : ℝ) : EReal) := fun b n s d =>
    prR_val (H := fun b s => ln (P.g1 l) (P.e1 l) (hid P (tok b) l s)) y1 (fun a q => (matS_val hn hl _ a q).trans (A.wk _ a q)) b n s d
  have hv : ∀ b n s d, vV V0 (ix4 b n s d) = ((Cert.Model.vm P l (hid P (tok b) l s) (hcol n d) : ℝ) : EReal) := fun b n s d =>
    prR_val (H := fun b s => ln (P.g1 l) (P.e1 l) (hid P (tok b) l s)) y1 (fun a q => (matS_val hn hl _ a q).trans (A.wv _ a q)) b n s d
  have hx := scR_val (live := fun b s => (tok b s).val ≠ 0) A.live A.some (Q := fun b s => lin (ln (P.g1 l) (P.e1 l) (hid P (tok b) l s)) (P.wq l)) (K := fun b s => Cert.Model.km P l (hid P (tok b) l s)) hq hk
  have he := exR_val (Q' := fun b s => qm P l (hid P (tok b) l s)) hx (fun b s c => by
    unfold qm lin
    rw [Finset.sum_mul]
    exact Finset.sum_congr rfl fun k _ => by ring)
  have h2 : ∀ b s q, h2V V0 (ix3 b s q) = ((hid P (tok b) l s q + lin (att P l (fun s => (tok b s).val ≠ 0) (hid P (tok b) l) s) (P.wo l) q : ℝ) : EReal) := fun b s q =>
    avR_val (H := fun b s => hid P (tok b) l s) (live := fun s => (tok b s).val ≠ 0) (q := fun s => qm P l (hid P (tok b) l s)) (k := fun s => Cert.Model.km P l (hid P (tok b) l s))
      (vv := fun s => Cert.Model.vm P l (hid P (tok b) l s)) b s (A.h b s) (fun n => he b n s) (hv b) (fun a q => (matS_val hn hl _ a q).trans (A.wo _ a q)) q
  have y2 : ∀ b s q, y2V V0 (ix3 b s q) = ((ln (P.g2 l) (P.e2 l) (fun c => hid P (tok b) l s c + lin (att P l (fun s => (tok b s).val ≠ 0) (hid P (tok b) l) s) (P.wo l) c) q : ℝ) : EReal) := fun b s q =>
    lnR_val (H := fun b s c => hid P (tok b) l s c + lin (att P l (fun s => (tok b s).val ≠ 0) (hid P (tok b) l) s) (P.wo l) c) h2 (fun q => (rowS_val hn hl _ q).trans (A.g2 _ q)) (fun q => (rowS_val hn hl _ q).trans (A.e2 _ q)) b s q
  exact dnR_val b s (h2 b s) (upR_val b s (y2 b s) (fun a q => (matL_val hn hl _ a q).trans (A.w1 _ a q)) (fun q => (rowL_val hn hl _ q).trans (A.b1 _ q)))
    (fun a q => (matT_val hn hl _ a q).trans (A.w2 _ a q)) (fun q => (rowS_val hn hl _ q).trans (A.b2 _ q)) q

theorem At.step (A : At P tok l V0) (hl : l < 12) : At P tok (l + 1) (STEP V0) where
  n j := by
    rw [STEP_main_v7_15]
    refine (congrArg (fun x : BitVec 32 => x + 1#32) (A.n j)).trans ?_
    rw [BitVec.ofNat_add]
  h b s q := by rw [STEP_main_v7_16]; exact A.layer hl b s q
  g1 := by rw [STEP_main_v7_0]; exact A.g1
  e1 := by rw [STEP_main_v7_1]; exact A.e1
  wq := by rw [STEP_main_v7_2]; exact A.wq
  wk := by rw [STEP_main_v7_3]; exact A.wk
  wv := by rw [STEP_main_v7_4]; exact A.wv
  live := by rw [STEP_main_v7_5]; exact A.live
  some := by rw [STEP_main_v7_6]; exact A.some
  wo := by rw [STEP_main_v7_7]; exact A.wo
  g2 := by rw [STEP_main_v7_8]; exact A.g2
  e2 := by rw [STEP_main_v7_9]; exact A.e2
  w1 := by rw [STEP_main_v7_10]; exact A.w1
  b1 := by rw [STEP_main_v7_11]; exact A.b1
  w2 := by rw [STEP_main_v7_12]; exact A.w2
  b2 := by rw [STEP_main_v7_13]; exact A.b2

theorem At.iter (A : At P tok 0 V0) : ∀ k, k ≤ 12 → At P tok k (STEP^[k] V0)
  | 0, _ => A
  | k + 1, h => by rw [Function.iterate_succ_apply']; exact (At.iter A k (by omega)).step (by omega)

/-! ## The result -/

theorem out_val (A : At P tok 12 V0)
    (hg : ∀ q, (V0 (Proc.devRef .tc main_arg15) : S256.Idx → EReal) (ix1 q) = ((P.gf q : ℝ) : EReal)) (he : ∀ q, (V0 (Proc.devRef .tc main_arg16) : S256.Idx → EReal) (ix1 q) = ((P.ef q : ℝ) : EReal))
    (b : Fin 1024) (q : Fin 256) : (out_main_v33 V0 : S1024x256.Idx → EReal) (ix2 b q) = ((out P (tok b) q : ℝ) : EReal) := by
  have e : (out_main_v33 V0 : Vec Ideal S1024x256 .f32) = shapeCast S1024x256 (extractStridedSlice S1024x1x256 ![0, 0, 0] (lnR (F := Ideal) (hV V0) (V0 (Proc.devRef .tc main_arg15)) (V0 (Proc.devRef .tc main_arg16))) slices_S1024x20x256_S1024x1x256_0_0_0) shapeCasts_S1024x1x256_S1024x256 := rfl
  refine (congrFun e (ix2 b q)).trans ?_
  generalize hL : lnR (F := Ideal) (hV V0) (V0 (Proc.devRef .tc main_arg15)) (V0 (Proc.devRef .tc main_arg16)) = L
  pointwise
  rw [← hL]
  exact lnR_val (H := fun b s => hid P (tok b) 12 s) A.h hg he b 0 q

/-- The parameters and the tokens, as the program's arguments hold them. -/
structure Args (P : Par) (tok : Fin 1024 → Fin 20 → Fin 24) (m : (ℓ : Loc nD τ sig) → Buf (Elt Ideal) ℓ) (c : Dev nD) : Prop where
  x : ∀ b s, (m ((c.tc : Thread nD τ).loc main_arg0) : S1024x20.Idx → BitVec 32) (ix2 b s) = BitVec.ofNat 32 (tok b s).val
  emb : ∀ k q, (m ((c.tc : Thread nD τ).loc main_arg1) : S24x256.Idx → EReal) (ix2 k q) = ((P.emb k q : ℝ) : EReal)
  pos : ∀ k q, (m ((c.tc : Thread nD τ).loc main_arg2) : S20x256.Idx → EReal) (ix2 k q) = ((P.pos k q : ℝ) : EReal)
  g1 : ∀ (k : Fin 12) q, (m ((c.tc : Thread nD τ).loc main_arg3) : S12x256.Idx → EReal) (ix2 k q) = ((P.g1 k.val q : ℝ) : EReal)
  e1 : ∀ (k : Fin 12) q, (m ((c.tc : Thread nD τ).loc main_arg4) : S12x256.Idx → EReal) (ix2 k q) = ((P.e1 k.val q : ℝ) : EReal)
  wq : ∀ (k : Fin 12) a q, (m ((c.tc : Thread nD τ).loc main_arg5) : S12x256x256.Idx → EReal) (ix3 k a q) = ((P.wq k.val a q : ℝ) : EReal)
  wk : ∀ (k : Fin 12) a q, (m ((c.tc : Thread nD τ).loc main_arg6) : S12x256x256.Idx → EReal) (ix3 k a q) = ((P.wk k.val a q : ℝ) : EReal)
  wv : ∀ (k : Fin 12) a q, (m ((c.tc : Thread nD τ).loc main_arg7) : S12x256x256.Idx → EReal) (ix3 k a q) = ((P.wv k.val a q : ℝ) : EReal)
  wo : ∀ (k : Fin 12) a q, (m ((c.tc : Thread nD τ).loc main_arg8) : S12x256x256.Idx → EReal) (ix3 k a q) = ((P.wo k.val a q : ℝ) : EReal)
  g2 : ∀ (k : Fin 12) q, (m ((c.tc : Thread nD τ).loc main_arg9) : S12x256.Idx → EReal) (ix2 k q) = ((P.g2 k.val q : ℝ) : EReal)
  e2 : ∀ (k : Fin 12) q, (m ((c.tc : Thread nD τ).loc main_arg10) : S12x256.Idx → EReal) (ix2 k q) = ((P.e2 k.val q : ℝ) : EReal)
  w1 : ∀ (k : Fin 12) a q, (m ((c.tc : Thread nD τ).loc main_arg11) : S12x256x1024.Idx → EReal) (ix3 k a q) = ((P.w1 k.val a q : ℝ) : EReal)
  b1 : ∀ (k : Fin 12) q, (m ((c.tc : Thread nD τ).loc main_arg12) : S12x1024.Idx → EReal) (ix2 k q) = ((P.b1 k.val q : ℝ) : EReal)
  w2 : ∀ (k : Fin 12) a q, (m ((c.tc : Thread nD τ).loc main_arg13) : S12x1024x256.Idx → EReal) (ix3 k a q) = ((P.w2 k.val a q : ℝ) : EReal)
  b2 : ∀ (k : Fin 12) q, (m ((c.tc : Thread nD τ).loc main_arg14) : S12x256.Idx → EReal) (ix2 k q) = ((P.b2 k.val q : ℝ) : EReal)
  gf : ∀ q, (m ((c.tc : Thread nD τ).loc main_arg15) : S256.Idx → EReal) (ix1 q) = ((P.gf q : ℝ) : EReal)
  ef : ∀ q, (m ((c.tc : Thread nD τ).loc main_arg16) : S256.Idx → EReal) (ix1 q) = ((P.ef q : ℝ) : EReal)

/-! ## The entry of the loop -/

section
variable {F : FTy → Type} [FloatOps F]

/-- The token, wrapped where it is negative. -/
def tkR (x : Vec F S1024x20 .i32) : Vec F S1024x20x1 .i32 :=
  broadcastInDim S1024x20x1 ![0, 1] bcast_S1024x20_S1024x20x1_0_1
    (select (cmpi CmpIPredicate.slt x (broadcastInDim S1024x20 ![] bcast_S_S1024x20 (constantI S_ 32 0#32)))
      (addi x (broadcastInDim S1024x20 ![] bcast_S_S1024x20 (constantI S_ 32 24#32))) x)

/-- Whether the token is a row of the table. -/
def okR (x : Vec F S1024x20 .i32) : Vec F S1024x20 .i1 :=
  Host.reduce IntOp.andi
    (andi (cmpi CmpIPredicate.sge (tkR x) (broadcastInDim S1024x20x1 ![] bcast_S_S1024x20x1 (constantI S_ 32 0#32)))
      (cmpi CmpIPredicate.sle (tkR x) (broadcastInDim S1024x20x1 ![0, 1, 2] bcast_S1x1x1_S1024x20x1_0_1_2
        (broadcastInDim S1x1x1 ![2] bcast_S1_S1x1x1_2 (constantI S1 32 23#32)))))
    (constantI S_ 1 1#1) reducesTo_S1024x20x1_S1024x20_d2 h_S_

def emR (x : Vec F S1024x20 .i32) (e : Vec F S24x256 .f32) (p : Vec F S20x256 .f32) : Vec F S1024x20x256 .f32 :=
  addf (select (broadcastInDim S1024x20x256 ![0, 1] bcast_S1024x20_S1024x20x256_0_1 (okR x))
      (Host.gather gather_S24x256_S1024x20x1_S1024x20x256_2_0_n_n_0_2_1256 e (tkR x))
      (broadcastInDim S1024x20x256 ![] bcast_S_S1024x20x256 (constant S_ FTy.f32 2143289344#32)))
    (broadcastInDim S1024x20x256 ![0, 1, 2] bcast_S1x20x256_S1024x20x256_0_1_2 (broadcastInDim S1x20x256 ![1, 2] bcast_S20x256_S1x20x256_1_2 p))
end

theorem gat_val {α : Type} (e : S24x256.Idx → α) (t : S1024x20x1.Idx → BitVec 32) (k : Fin 24) (b : Fin 1024) (s : Fin 20) (q : Fin 256) (ht : t (ix3 b s 0) = BitVec.ofNat 32 k.val) :
    Host.gather gather_S24x256_S1024x20x1_S1024x20x256_2_0_n_n_0_2_1256 e t (ix3 b s q) = e (ix2 k q) := by
  unfold Host.gather
  congr 1
  funext a
  refine Fin.ext ?_
  show GatherDims.start _ (ix3 b s q) t a + GatherDims.batchCoord _ (ix3 b s q) a + GatherDims.offCoord _ (ix3 b s q) a = _
  rw [GatherDims.batchCoord_eq_zero _ _ _ (fun h => by simp [gather_S24x256_S1024x20x1_S1024x20x256_2_0_n_n_0_2_1256] at h), Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S24x256_S1024x20x1_S1024x20x256_2_0_n_n_0_2_1256.startIndexMap from List.mem_singleton.mpr rfl)]
    have hsi : gather_S24x256_S1024x20x1_S1024x20x256_2_0_n_n_0_2_1256.siIdx (ix3 b s q) ⟨List.idxOf (0 : Fin 2) gather_S24x256_S1024x20x1_S1024x20x256_2_0_n_n_0_2_1256.startIndexMap,
        List.idxOf_lt_length_iff.2 (List.mem_singleton.mpr rfl)⟩ = ix3 b s 0 := by
      funext d; refine Fin.ext ?_
      match d with
      | ⟨0, _⟩ => rfl
      | ⟨1, _⟩ => rfl
      | ⟨2, _⟩ => rfl
    rw [hsi, ht]
    show min (BitVec.ofNat 32 k.val).toInt.toNat 23 + 0 = k.val
    clear ht hsi
    revert k; decide
  · unfold GatherDims.start
    rw [dif_neg (fun h => by simp [gather_S24x256_S1024x20x1_S1024x20x256_2_0_n_n_0_2_1256] at h), Nat.zero_add]
    rfl

section
variable {tok : Fin 1024 → Fin 20 → Fin 24} {x : Vec Ideal S1024x20 .i32} (hx : ∀ b s, x (ix2 b s) = BitVec.ofNat 32 (tok b s).val)
include hx

theorem tkR_val (b : Fin 1024) (s : Fin 20) : tkR (F := Ideal) x (ix3 b s 0) = BitVec.ofNat 32 (tok b s).val := by
  unfold tkR
  pointwise
  rw [hx]
  generalize tok b s = k
  revert k; decide

theorem okR_val (b : Fin 1024) (s : Fin 20) : okR (F := Ideal) x (ix2 b s) = 1#1 := by
  have ht := tkR_val hx b s
  unfold okR
  generalize tkR (F := Ideal) x = t at ht ⊢
  pointwise
  rw [Finset.univ_unique, Finset.fold_singleton]
  refine Eq.trans (congrArg (fun w => IntOp.andi (IntOp.andi (IntOp.cmpi CmpIPredicate.sge w 0#32) (IntOp.cmpi CmpIPredicate.sle w 23#32)) 1#1) ht) ?_
  generalize tok b s = k
  revert k; decide

theorem emR_val {P : Par} {e : Vec Ideal S24x256 .f32} {p : Vec Ideal S20x256 .f32} (he : ∀ k q, e (ix2 k q) = ((P.emb k q : ℝ) : EReal)) (hp : ∀ k q, p (ix2 k q) = ((P.pos k q : ℝ) : EReal))
    (b : Fin 1024) (s : Fin 20) (q : Fin 256) : emR (F := Ideal) x e p (ix3 b s q) = ((hid P (tok b) 0 s q : ℝ) : EReal) := by
  have ht := tkR_val hx b s
  have ho := okR_val hx b s
  unfold emR
  generalize tkR (F := Ideal) x = t at ht ⊢
  generalize okR (F := Ideal) x = o at ho ⊢
  pointwise
  rw [ho, gat_val e t (tok b s) b s q ht, he, hp]
  exact (EReal.coe_add _ _).symm

def liR {F : FTy → Type} [FloatOps F] (x : Vec F S1024x20 .i32) : Vec F S1024x20 .i1 := cmpi CmpIPredicate.ne x (broadcastInDim S1024x20 ![] bcast_S_S1024x20 (constantI S_ 32 0#32))
theorem liR_val (b : Fin 1024) (s : Fin 20) : liR (F := Ideal) x (ix2 b s) = 1#1 ↔ (tok b s).val ≠ 0 := by
  unfold liR
  pointwise
  rw [hx]
  generalize tok b s = k
  revert k; decide
end
theorem soR_val {live : Fin 1024 → Fin 20 → Prop} {li : Vec Ideal S1024x20 .i1} (hli : ∀ b s, li (ix2 b s) = 1#1 ↔ live b s) (b : Fin 1024) :
    Host.reduce IntOp.ori li (constantI S_ 1 0#1) reducesTo_S1024x20_S1024_d1 h_S_ (ix1 b) = 1#1 ↔ ∃ s, live b s := by
  pointwise
  rw [Routing.fold_ori]
  simp only [Finset.mem_univ, true_and, hli]

section
variable {m : (ℓ : Loc nD τ sig) → Buf (Elt Ideal) ℓ} {c : Dev nD} (A : Args P tok m c)
include A

theorem entry_at : At P tok 0 (entryContents preI m c) where
  n j := by
    simp only [entryContents, afterL_cons, afterL_nil]
    after_reads_simp
    rfl
  h b s q := by
    refine (congrFun (?_ : _ = emR (F := Ideal) (m ((c.tc : Thread nD τ).loc main_arg0)) (m ((c.tc : Thread nD τ).loc main_arg1)) (m ((c.tc : Thread nD τ).loc main_arg2))) (ix3 b s q)).trans (emR_val A.x A.emb A.pos b s q)
    simp only [entryContents, afterL_cons, afterL_nil]
    after_reads_simp
    rfl
  live b s := by
    rw [show entryContents preI m c (Proc.devRef .tc main_v7_5) = liR (F := Ideal) (m ((c.tc : Thread nD τ).loc main_arg0)) by
      simp only [entryContents, afterL_cons, afterL_nil]
      after_reads_simp
      rfl]
    exact liR_val A.x b s
  some b := by
    rw [show entryContents preI m c (Proc.devRef .tc main_v7_6) = Host.reduce IntOp.ori (liR (F := Ideal) (m ((c.tc : Thread nD τ).loc main_arg0))) (constantI S_ 1 0#1) reducesTo_S1024x20_S1024_d1 h_S_ by
      simp only [entryContents, afterL_cons, afterL_nil]
      after_reads_simp
      rfl]
    exact soR_val (liR_val A.x) b
  g1 k q := by
    refine (congrFun (?_ : _ = m ((c.tc : Thread nD τ).loc main_arg3)) _).trans (A.g1 k q)
    simp only [entryContents, afterL_cons, afterL_nil]
    after_reads_simp
    rfl
  e1 k q := by
    refine (congrFun (?_ : _ = m ((c.tc : Thread nD τ).loc main_arg4)) _).trans (A.e1 k q)
    simp only [entryContents, afterL_cons, afterL_nil]
    after_reads_simp
    rfl
  wq k a q := by
    refine (congrFun (?_ : _ = m ((c.tc : Thread nD τ).loc main_arg5)) _).trans (A.wq k a q)
    simp only [entryContents, afterL_cons, afterL_nil]
    after_reads_simp
    rfl
  wk k a q := by
    refine (congrFun (?_ : _ = m ((c.tc : Thread nD τ).loc main_arg6)) _).trans (A.wk k a q)
    simp only [entryContents, afterL_cons, afterL_nil]
    after_reads_simp
    rfl
  wv k a q := by
    refine (congrFun (?_ : _ = m ((c.tc : Thread nD τ).loc main_arg7)) _).trans (A.wv k a q)
    simp only [entryContents, afterL_cons, afterL_nil]
    after_reads_simp
    rfl
  wo k a q := by
    refine (congrFun (?_ : _ = m ((c.tc : Thread nD τ).loc main_arg8)) _).trans (A.wo k a q)
    simp only [entryContents, afterL_cons, afterL_nil]
    after_reads_simp
    rfl
  g2 k q := by
    refine (congrFun (?_ : _ = m ((c.tc : Thread nD τ).loc main_arg9)) _).trans (A.g2 k q)
    simp only [entryContents, afterL_cons, afterL_nil]
    after_reads_simp
    rfl
  e2 k q := by
    refine (congrFun (?_ : _ = m ((c.tc : Thread nD τ).loc main_arg10)) _).trans (A.e2 k q)
    simp only [entryContents, afterL_cons, afterL_nil]
    after_reads_simp
    rfl
  w1 k a q := by
    refine (congrFun (?_ : _ = m ((c.tc : Thread nD τ).loc main_arg11)) _).trans (A.w1 k a q)
    simp only [entryContents, afterL_cons, afterL_nil]
    after_reads_simp
    rfl
  b1 k q := by
    refine (congrFun (?_ : _ = m ((c.tc : Thread nD τ).loc main_arg12)) _).trans (A.b1 k q)
    simp only [entryContents, afterL_cons, afterL_nil]
    after_reads_simp
    rfl
  w2 k a q := by
    refine (congrFun (?_ : _ = m ((c.tc : Thread nD τ).loc main_arg13)) _).trans (A.w2 k a q)
    simp only [entryContents, afterL_cons, afterL_nil]
    after_reads_simp
    rfl
  b2 k q := by
    refine (congrFun (?_ : _ = m ((c.tc : Thread nD τ).loc main_arg14)) _).trans (A.b2 k q)
    simp only [entryContents, afterL_cons, afterL_nil]
    after_reads_simp
    rfl
end
end Cert.ReferenceIdeal.Val
end
-- ==== Proof.Algebraic.lean ====
/-
  The kernel and the reference hold the same array at their ends.
-/
module

public import proofs.«01_k».proof.Defs
public import proofs.«01_k».proof.Proof.Frames
public import proofs.«01_k».proof.Proof.KRes
public import proofs.«01_k».proof.Proof.RefVal
public import proofs.«01_k».proof.Proof.PreVal

@[expose] public section

set_option maxRecDepth 65536

noncomputable section

namespace Cert.Algebraic
open Idealize.ShloMosaic Idealize.ShloMosaic.TcCoe Idealize.SL.Sem Cert.Model

/-- A table's rows as real numbers, zero past its end. -/
def row2 {n : ℕ} (x : (⟨2, ![12, n]⟩ : Shape).Idx → EReal) (k : ℕ) (q : Fin n) : ℝ := if h : k < 12 then (x (ix2 ⟨k, h⟩ q)).toReal else 0

/-- A stack of matrices as real numbers, zero past its end. -/
def row3 {a n : ℕ} (x : (⟨3, ![12, a, n]⟩ : Shape).Idx → EReal) (k : ℕ) (p : Fin a) (q : Fin n) : ℝ := if h : k < 12 then (x (ix3 ⟨k, h⟩ p q)).toReal else 0

theorem row2_at {n : ℕ} {x : (⟨2, ![12, n]⟩ : Shape).Idx → EReal} (h : ∀ i, x i = ((x i).toReal : ℝ)) (k : Fin 12) (q : Fin n) : x (ix2 k q) = ((row2 x k.val q : ℝ) : EReal) := by
  unfold row2
  rw [dif_pos k.isLt]
  exact h _

theorem row3_at {a n : ℕ} {x : (⟨3, ![12, a, n]⟩ : Shape).Idx → EReal} (h : ∀ i, x i = ((x i).toReal : ℝ)) (k : Fin 12) (p : Fin a) (q : Fin n) :
    x (ix3 k p q) = ((row3 x k.val p q : ℝ) : EReal) := by
  unfold row3
  rw [dif_pos k.isLt]
  exact h _

section
open Cert.KernelIdeal
variable (m : (ℓ : Loc nD τ sig) → Buf (Elt Ideal) ℓ) (c : Dev nD)

/-- The parameters the arguments hold. -/
def par : Par where
  emb k q := ((m ((c.tc : Thread nD τ).loc main_arg1) : S24x256.Idx → EReal) (ix2 k q)).toReal
  pos k q := ((m ((c.tc : Thread nD τ).loc main_arg2) : S20x256.Idx → EReal) (ix2 k q)).toReal
  g1 := row2 (m ((c.tc : Thread nD τ).loc main_arg3) : S12x256.Idx → EReal)
  e1 := row2 (m ((c.tc : Thread nD τ).loc main_arg4) : S12x256.Idx → EReal)
  wq := row3 (m ((c.tc : Thread nD τ).loc main_arg5) : S12x256x256.Idx → EReal)
  wk := row3 (m ((c.tc : Thread nD τ).loc main_arg6) : S12x256x256.Idx → EReal)
  wv := row3 (m ((c.tc : Thread nD τ).loc main_arg7) : S12x256x256.Idx → EReal)
  wo := row3 (m ((c.tc : Thread nD τ).loc main_arg8) : S12x256x256.Idx → EReal)
  g2 := row2 (m ((c.tc : Thread nD τ).loc main_arg9) : S12x256.Idx → EReal)
  e2 := row2 (m ((c.tc : Thread nD τ).loc main_arg10) : S12x256.Idx → EReal)
  w1 := row3 (m ((c.tc : Thread nD τ).loc main_arg11) : S12x256x1024.Idx → EReal)
  b1 := row2 (m ((c.tc : Thread nD τ).loc main_arg12) : S12x1024.Idx → EReal)
  w2 := row3 (m ((c.tc : Thread nD τ).loc main_arg13) : S12x1024x256.Idx → EReal)
  b2 := row2 (m ((c.tc : Thread nD τ).loc main_arg14) : S12x256.Idx → EReal)
  gf q := ((m ((c.tc : Thread nD τ).loc main_arg15) : S256.Idx → EReal) (ix1 q)).toReal
  ef q := ((m ((c.tc : Thread nD τ).loc main_arg16) : S256.Idx → EReal) (ix1 q)).toReal

/-- The tokens the first argument holds. -/
def toks (b : Fin 1024) (s : Fin 20) : Fin 24 := ⟨((m ((c.tc : Thread nD τ).loc main_arg0) : S1024x20.Idx → BitVec 32) (ix2 b s)).toNat % 24, Nat.mod_lt _ (by norm_num)⟩

variable {m} [Cert.Pre_drawn.Facts]

theorem args (h : Cert.Pre_KernelIdeal_drawn m) : Cert.KernelIdeal.Val.Args (par m c) (toks m c) m c := by
  obtain ⟨h0, h1, h2, h3, h4, h5, h6, h7, h8, h9, h10, h11, h12, h13, h14, h15, h16⟩ := Cert.Pre_drawn.Read.reads (h c)
  exact {
    x := fun b s => by
      refine BitVec.eq_of_toNat_eq ?_
      have hx : ((m ((c.tc : Thread nD τ).loc main_arg0) : S1024x20.Idx → BitVec 32) (ix2 b s)).toNat < 24 := h0 (ix2 b s)
      rw [BitVec.toNat_ofNat, Nat.mod_eq_of_lt (lt_trans (toks m c b s).isLt (by norm_num))]
      exact (Nat.mod_eq_of_lt hx).symm
    emb := fun k q => h1 _
    pos := fun k q => h2 _
    g1 := row2_at h3
    e1 := row2_at h4
    wq := row3_at h5
    wk := row3_at h6
    wv := row3_at h7
    wo := row3_at h8
    g2 := row2_at h9
    e2 := row2_at h10
    w1 := row3_at h11
    b1 := row2_at h12
    w2 := row3_at h13
    b2 := row2_at h14
    gf := fun q => h15 _
    ef := fun q => h16 _ }
end

theorem kernelIdeal_pre [Cert.Pre_drawn.Facts] : Cert.quiescent_KernelIdeal_pre_drawn := fun m g _ => Frames.kernelIdeal m g trivial

theorem referenceIdeal_pre [Cert.Pre_drawn.Facts] : Cert.quiescent_ReferenceIdeal_pre_drawn := fun m g _ => Frames.referenceIdeal m g trivial

/-- From equal arguments the two programs end with the same results. -/
theorem algebraic [Cert.Pre_drawn.Facts] : Cert.algebraic_KernelIdeal_ReferenceIdeal_pre_drawn := by
  intro m g m' g' hpre hm
  have A := fun c => args c hpre
  refine ⟨fun c => Cert.KernelIdeal.Val.res (par m) (toks m) c, ?_, ?_⟩
  · exact (θ_run Cert.KernelIdeal.defs _ _).mono (fun _ h c => ⟨Cert.KernelIdeal.Val.res_of h.1 c, Cert.KernelIdeal.Run.args_of h.1 c⟩)
      (Cert.KernelIdeal.Val.run_val A g)
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7, e8, e9, e10, e11, e12, e13, e14, e15, e16⟩ := hm c
    have B : Cert.ReferenceIdeal.Val.Args (par m c) (toks m c) m' c := {
      x := fun b s => (congrFun e0 _).trans ((A c).x b s)
      emb := fun k q => (congrFun e1 _).trans ((A c).emb k q)
      pos := fun k q => (congrFun e2 _).trans ((A c).pos k q)
      g1 := fun k q => (congrFun e3 _).trans ((A c).g1 k q)
      e1 := fun k q => (congrFun e4 _).trans ((A c).e1 k q)
      wq := fun k a q => (congrFun e5 _).trans ((A c).wq k a q)
      wk := fun k a q => (congrFun e6 _).trans ((A c).wk k a q)
      wv := fun k a q => (congrFun e7 _).trans ((A c).wv k a q)
      wo := fun k a q => (congrFun e8 _).trans ((A c).wo k a q)
      g2 := fun k q => (congrFun e9 _).trans ((A c).g2 k q)
      e2 := fun k q => (congrFun e10 _).trans ((A c).e2 k q)
      w1 := fun k a q => (congrFun e11 _).trans ((A c).w1 k a q)
      b1 := fun k q => (congrFun e12 _).trans ((A c).b1 k q)
      w2 := fun k a q => (congrFun e13 _).trans ((A c).w2 k a q)
      b2 := fun k q => (congrFun e14 _).trans ((A c).b2 k q)
      gf := fun q => (congrFun e15 _).trans ((A c).gf q)
      ef := fun q => (congrFun e16 _).trans ((A c).ef q) }
    funext i
    obtain ⟨b, q, rfl⟩ : ∃ (b : Fin 1024) (q : Fin 256), i = ix2 b q := ⟨i 0, i 1, eq_ix2 i⟩
    exact Cert.ReferenceIdeal.Val.out_val (Cert.ReferenceIdeal.Val.At.iter (Cert.ReferenceIdeal.Val.entry_at B) 12 le_rfl)
      (fun q => (congrFun (Cert.ReferenceIdeal.Value.iter_main_arg15 m' c 12) _).trans (B.gf q))
      (fun q => (congrFun (Cert.ReferenceIdeal.Value.iter_main_arg16 m' c 12) _).trans (B.ef q)) b q

end Cert.Algebraic

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.PreVal
public import proofs.«01_k».proof.Proof.Algebraic

@[expose] public section

noncomputable section

namespace Cert.Proof

/-- Everything the certificate claims. -/
theorem claim : Cert.Claim :=
  have hPre : Cert.Pre_drawn.Facts := Cert.Pre_drawn.Read.facts
  ⟨Cert.Kernel.Gen.facts, Cert.KernelIdeal.Gen.facts, Cert.ReferenceIdeal.Gen.facts, hPre,
    Frames.kernel, Frames.kernelIdeal, Algebraic.kernelIdeal_pre, Frames.referenceIdeal, Algebraic.referenceIdeal_pre, Frames.preserves, Algebraic.algebraic⟩

end Cert.Proof

end
